-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_norms_KernelIdeal [hPre_bounded_norms_KernelIdeal : Cert.Pre_bounded_norms_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_norms_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_norms_ReferenceIdeal [hPre_bounded_norms_ReferenceIdeal : Cert.Pre_bounded_norms_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_norms_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_norms_KernelIdeal [hKernelIdeal : Cert.KernelIdeal.Facts] [hPre_bounded_norms_KernelIdeal : Cert.Pre_bounded_norms_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_norms_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_norms_ReferenceIdeal [hReferenceIdeal : Cert.ReferenceIdeal.Facts] [hPre_bounded_norms_ReferenceIdeal : Cert.Pre_bounded_norms_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_norms_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v7) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_pre_bounded_norms_KernelIdeal [hKernelIdeal : Cert.KernelIdeal.Facts] [hReferenceIdeal : Cert.ReferenceIdeal.Facts] [hPre_bounded_norms_KernelIdeal : Cert.Pre_bounded_norms_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_norms_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_bounded_norms_KernelIdeal : Cert.Pre_bounded_norms_KernelIdeal.Facts) (hPre_bounded_norms_ReferenceIdeal : Cert.Pre_bounded_norms_ReferenceIdeal.Facts),
    quiescent_Kernel (hKernel := hKernel)
    ∧ quiescent_KernelIdeal (hKernelIdeal := hKernelIdeal)
    ∧ quiescent_KernelIdeal_pre_bounded_norms_KernelIdeal (hKernelIdeal := hKernelIdeal) (hPre_bounded_norms_KernelIdeal := hPre_bounded_norms_KernelIdeal)
    ∧ quiescent_ReferenceIdeal (hReferenceIdeal := hReferenceIdeal)
    ∧ quiescent_ReferenceIdeal_pre_bounded_norms_ReferenceIdeal (hReferenceIdeal := hReferenceIdeal) (hPre_bounded_norms_ReferenceIdeal := hPre_bounded_norms_ReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_pre_bounded_norms_KernelIdeal (hKernelIdeal := hKernelIdeal) (hReferenceIdeal := hReferenceIdeal) (hPre_bounded_norms_KernelIdeal := hPre_bounded_norms_KernelIdeal)
-- ==== Pre_bounded_norms_KernelIdeal.lean ====
abbrev S256x2048 : Shape := ⟨2, ![256, 2048]⟩
abbrev S2048x256 : Shape := ⟨2, ![2048, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩

class Facts : Prop where
  bitsLt_bf16_f32 : FTy.bits .bf16 < FTy.bits .f32
  reducesTo_S256x2048_S256_d1 : S256x2048.ReducesTo [1] S256
  h_S_ : 0 < S_.numel
  bcast_S_S256 : S_.BroadcastsInDim S256 (![] : Fin 0 → Fin S256.rank)
  reducesTo_S2048x256_S256_d0 : S2048x256.ReducesTo [0] S256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)

variable [Facts]

def fn {F : FTy → Type} [FloatOps F] (main_arg0 : FVec F S256x2048 .bf16) (main_arg1 : FVec F S2048x256 .bf16) : IVec S256x256 1 :=
  let main_v0 : FVec F S256x2048 .f32 := (extf .f32 · bitsLt_bf16_f32) main_arg0
  let main_v1 : FVec F S2048x256 .f32 := (extf .f32 · bitsLt_bf16_f32) main_arg1
  let main_v2 : FVec F S256x2048 .f32 := mulf main_v0 main_v0
  let main_cst : FVec F S_ .f32 := constant S_ .f32 0x00000000#32
  let main_v3 : FVec F S256 .f32 := (fun x v => Host.reduceAdd x v reducesTo_S256x2048_S256_d1 h_S_) main_v2 main_cst
  let main_cst_0 : FVec F S_ .f32 := constant S_ .f32 0x45300000#32
  let main_v4 : FVec F S256 .f32 := broadcastInDim S256 ![] bcast_S_S256 main_cst_0
  let main_v5 : IVec S256 1 := cmpf .ole main_v3 main_v4
  let main_v6 : FVec F S2048x256 .f32 := mulf main_v1 main_v1
  let main_cst_1 : FVec F S_ .f32 := constant S_ .f32 0x00000000#32
  let main_v7 : FVec F S256 .f32 := (fun x v => Host.reduceAdd x v reducesTo_S2048x256_S256_d0 h_S_) main_v6 main_cst_1
  let main_cst_2 : FVec F S_ .f32 := constant S_ .f32 0x3FA00000#32
  let main_v8 : FVec F S256 .f32 := broadcastInDim S256 ![] bcast_S_S256 main_cst_2
  let main_v9 : IVec S256 1 := cmpf .ole main_v7 main_v8
  let main_v10 : IVec S256x1 1 := broadcastInDim S256x1 ![0] bcast_S256_S256x1_0 main_v5
  let main_v11 : IVec S1x256 1 := broadcastInDim S1x256 ![1] bcast_S256_S1x256_1 main_v9
  let main_v12 : IVec S256x256 1 := broadcastInDim S256x256 ![0, 1] bcast_S256x1_S256x256_0_1 main_v10
  let main_v13 : IVec S256x256 1 := broadcastInDim S256x256 ![0, 1] bcast_S1x256_S256x256_0_1 main_v11
  let main_v14 : IVec S256x256 1 := andi main_v12 main_v13
  main_v14
-- ==== Pre_bounded_norms_ReferenceIdeal.lean ====
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩

class Facts : Prop where
  bitsLt_bf16_f32 : FTy.bits .bf16 < FTy.bits .f32
  reducesTo_S2048x2048_S2048_d1 : S2048x2048.ReducesTo [1] S2048
  h_S_ : 0 < S_.numel
  bcast_S_S2048 : S_.BroadcastsInDim S2048 (![] : Fin 0 → Fin S2048.rank)
  reducesTo_S2048x2048_S2048_d0 : S2048x2048.ReducesTo [0] S2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)

variable [Facts]

def fn {F : FTy → Type} [FloatOps F] (main_arg0 : FVec F S2048x2048 .bf16) (main_arg1 : FVec F S2048x2048 .bf16) : IVec S2048x2048 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := mulf main_v0 main_v0
  let main_cst : FVec F S_ .f32 := constant S_ .f32 0x00000000#32
  let main_v3 : FVec F S2048 .f32 := (fun x v => Host.reduceAdd x v reducesTo_S2048x2048_S2048_d1 h_S_) main_v2 main_cst
  let main_cst_0 : FVec F S_ .f32 := constant S_ .f32 0x45300000#32
  let main_v4 : FVec F S2048 .f32 := broadcastInDim S2048 ![] bcast_S_S2048 main_cst_0
  let main_v5 : IVec S2048 1 := cmpf .ole main_v3 main_v4
  let main_v6 : FVec F S2048x2048 .f32 := mulf main_v1 main_v1
  let main_cst_1 : FVec F S_ .f32 := constant S_ .f32 0x00000000#32
  let main_v7 : FVec F S2048 .f32 := (fun x v => Host.reduceAdd x v reducesTo_S2048x2048_S2048_d0 h_S_) main_v6 main_cst_1
  let main_cst_2 : FVec F S_ .f32 := constant S_ .f32 0x3FA00000#32
  let main_v8 : FVec F S2048 .f32 := broadcastInDim S2048 ![] bcast_S_S2048 main_cst_2
  let main_v9 : IVec S2048 1 := cmpf .ole main_v7 main_v8
  let main_v10 : IVec S2048x1 1 := broadcastInDim S2048x1 ![0] bcast_S2048_S2048x1_0 main_v5
  let main_v11 : IVec S1x2048 1 := broadcastInDim S1x2048 ![1] bcast_S2048_S1x2048_1 main_v9
  let main_v12 : IVec S2048x2048 1 := broadcastInDim S2048x2048 ![0, 1] bcast_S2048x1_S2048x2048_0_1 main_v10
  let main_v13 : IVec S2048x2048 1 := broadcastInDim S2048x2048 ![0, 1] bcast_S1x2048_S2048x2048_0_1 main_v11
  let main_v14 : IVec S2048x2048 1 := andi main_v12 main_v13
  main_v14
-- ==== Kernel.lean ====
abbrev S256x2048 : Shape := ⟨2, ![256, 2048]⟩
abbrev S2048x256 : Shape := ⟨2, ![2048, 256]⟩
abbrev S8x96x2048 : Shape := ⟨3, ![8, 96, 2048]⟩
abbrev S8x80x2048 : Shape := ⟨3, ![8, 80, 2048]⟩
abbrev S3x6 : Shape := ⟨2, ![3, 6]⟩
abbrev S_ : Shape := ⟨0, ![]⟩
abbrev S96x2048 : Shape := ⟨2, ![96, 2048]⟩
abbrev S1x96x2048 : Shape := ⟨3, ![1, 96, 2048]⟩
abbrev S80x2048 : Shape := ⟨2, ![80, 2048]⟩
abbrev S1x80x2048 : Shape := ⟨3, ![1, 80, 2048]⟩
abbrev S1x1 : Shape := ⟨2, ![1, 1]⟩
abbrev S2x96x2048 : Shape := ⟨3, ![2, 96, 2048]⟩
abbrev S2x80x2048 : Shape := ⟨3, ![2, 80, 2048]⟩
abbrev S96x256 : Shape := ⟨2, ![96, 256]⟩
abbrev S80x256 : Shape := ⟨2, ![80, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x256, .bf16⟩
  | .hbm, ⟨2, _⟩ => ⟨S2048x256, .f32⟩
  | .local _ .vmem, ⟨0, _⟩ => ⟨S256x2048, .bf16⟩
  | .local _ .vmem, ⟨1, _⟩ => ⟨S2048x256, .bf16⟩
  | .local _ .vmem, ⟨2, _⟩ => ⟨S2048x256, .f32⟩
  | .local _ .vmem, ⟨3, _⟩ => ⟨S8x96x2048, .bf16⟩
  | .local _ .vmem, ⟨4, _⟩ => ⟨S8x80x2048, .bf16⟩
  | .local _ .vmem, ⟨5, _⟩ => ⟨S8x80x2048, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 2 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v22 : BitVec 32 := Scalar.xori v2 c1_i32_9
  let c1_i32_11 : BitVec 32 := 1#32
  let v23 : BitVec 32 := Scalar.muli v22 c1_i32_11
  let v24 : BitVec 32 := Scalar.addi c0_i32 v23
  v24.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v25 : BitVec 32 := Scalar.xori v2 c3_i32
  let c1_i32_13 : BitVec 32 := 1#32
  let v26 : BitVec 32 := Scalar.muli v25 c1_i32_13
  let v27 : BitVec 32 := Scalar.addi c0_i32_14 v26
  v27.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v28 : BitVec 32 := Scalar.xori v2 c4_i32_15
  let c1_i32_17 : BitVec 32 := 1#32
  let v29 : BitVec 32 := Scalar.muli v28 c1_i32_17
  let v30 : BitVec 32 := Scalar.addi c0_i32_18 v29
  v30.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let v34 : Index := Scalar.indexCast v12
  let c0_21 : Index := 0#32
  let c0_22 : Index := 0#32
  ![v34.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let v39 : Index := Scalar.indexCast v16
  let c0_23 : Index := 0#32
  let c0_24 : Index := 0#32
  ![v39.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let v44 : Index := Scalar.indexCast v20
  let c0_25 : Index := 0#32
  let c0_26 : Index := 0#32
  ![v44.toNat, 0, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c0_i32_34 : BitVec 32 := 0#32
  let c0_i32_35 : BitVec 32 := 0#32
  ![v12.toNat, 0, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_27 : BitVec 32 := 4#32
  let v48 : BitVec 32 := Scalar.xori v2 c4_i32_27
  let c1_i32_32 : BitVec 32 := 1#32
  let v49 : BitVec 32 := Scalar.muli v48 c1_i32_32
  let v50 : BitVec 32 := Scalar.addi c0_i32_33 v49
  v50.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_38 : BitVec 32 := 3#32
  let v57 : BitVec 32 := Scalar.xori v2 c3_i32_38
  let c1_i32_43 : BitVec 32 := 1#32
  let v58 : BitVec 32 := Scalar.muli v57 c1_i32_43
  let v59 : BitVec 32 := Scalar.addi c0_i32_44 v58
  v59.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v66 : BitVec 32 := Scalar.xori v2 c1_i32_49
  let c1_i32_54 : BitVec 32 := 1#32
  let v67 : BitVec 32 := Scalar.muli v66 c1_i32_54
  let v68 : BitVec 32 := Scalar.addi c0_i32_55 v67
  v68.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let c0_i32_67 : BitVec 32 := 0#32
  let c0_i32_68 : BitVec 32 := 0#32
  ![v16.toNat, 0, 0]
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v75 : BitVec 32 := Scalar.xori v2 c3_i32_60
  let c1_i32_65 : BitVec 32 := 1#32
  let v76 : BitVec 32 := Scalar.muli v75 c1_i32_65
  let v77 : BitVec 32 := Scalar.addi c0_i32_66 v76
  v77.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v84 : BitVec 32 := Scalar.xori v2 c1_i32_71
  let c1_i32_76 : BitVec 32 := 1#32
  let v85 : BitVec 32 := Scalar.muli v84 c1_i32_76
  let v86 : BitVec 32 := Scalar.addi c0_i32_77 v85
  v86.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v93 : BitVec 32 := Scalar.xori v2 c4_i32_82
  let c1_i32_87 : BitVec 32 := 1#32
  let v94 : BitVec 32 := Scalar.muli v93 c1_i32_87
  let v95 : BitVec 32 := Scalar.addi c0_i32_88 v94
  v95.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let c0_i32_100 : BitVec 32 := 0#32
  let c0_i32_101 : BitVec 32 := 0#32
  ![v20.toNat, 0, 0]
def k0_dev10 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v102 : BitVec 32 := Scalar.xori v2 c1_i32_93
  let c1_i32_98 : BitVec 32 := 1#32
  let v103 : BitVec 32 := Scalar.muli v102 c1_i32_98
  let v104 : BitVec 32 := Scalar.addi c0_i32_99 v103
  v104.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_104 : BitVec 32 := 4#32
  let v111 : BitVec 32 := Scalar.xori v2 c4_i32_104
  let c1_i32_109 : BitVec 32 := 1#32
  let v112 : BitVec 32 := Scalar.muli v111 c1_i32_109
  let v113 : BitVec 32 := Scalar.addi c0_i32_110 v112
  v113.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v120 : BitVec 32 := Scalar.xori v2 c3_i32_115
  let c1_i32_120 : BitVec 32 := 1#32
  let v121 : BitVec 32 := Scalar.muli v120 c1_i32_120
  let v122 : BitVec 32 := Scalar.addi c0_i32_121 v121
  v122.toNat
def k0_off7 (d0 : Dev nD) (c1_i32_126 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let v129 : BitVec 32 := Scalar.xori v12 c1_i32_126
  let c0_i32_133 : BitVec 32 := 0#32
  let c0_i32_134 : BitVec 32 := 0#32
  ![v129.toNat, 0, 0]
def k0_dev13 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_138 : BitVec 32 := 3#32
  let v137 : BitVec 32 := Scalar.xori v2 c3_i32_138
  let c1_i32_143 : BitVec 32 := 1#32
  let v138 : BitVec 32 := Scalar.muli v137 c1_i32_143
  let v139 : BitVec 32 := Scalar.addi c0_i32_144 v138
  v139.toNat
def k0_dev14 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_150 : BitVec 32 := 1#32
  let v147 : BitVec 32 := Scalar.xori v2 c1_i32_150
  let c1_i32_155 : BitVec 32 := 1#32
  let v148 : BitVec 32 := Scalar.muli v147 c1_i32_155
  let v149 : BitVec 32 := Scalar.addi c0_i32_156 v148
  v149.toNat
def k0_off8 (d0 : Dev nD) (c1_i32_161 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let v156 : BitVec 32 := Scalar.xori v16 c1_i32_161
  let c0_i32_168 : BitVec 32 := 0#32
  let c0_i32_169 : BitVec 32 := 0#32
  ![v156.toNat, 0, 0]
def k0_dev15 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_173 : BitVec 32 := 1#32
  let v164 : BitVec 32 := Scalar.xori v2 c1_i32_173
  let c1_i32_178 : BitVec 32 := 1#32
  let v165 : BitVec 32 := Scalar.muli v164 c1_i32_178
  let v166 : BitVec 32 := Scalar.addi c0_i32_179 v165
  v166.toNat
def k0_dev16 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_185 : BitVec 32 := 4#32
  let v174 : BitVec 32 := Scalar.xori v2 c4_i32_185
  let c1_i32_190 : BitVec 32 := 1#32
  let v175 : BitVec 32 := Scalar.muli v174 c1_i32_190
  let v176 : BitVec 32 := Scalar.addi c0_i32_191 v175
  v176.toNat
def k0_off9 (d0 : Dev nD) (c1_i32_196 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let v183 : BitVec 32 := Scalar.xori v20 c1_i32_196
  let c0_i32_203 : BitVec 32 := 0#32
  let c0_i32_204 : BitVec 32 := 0#32
  ![v183.toNat, 0, 0]
def k0_dev17 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v191 : BitVec 32 := Scalar.xori v2 c4_i32_208
  let c1_i32_213 : BitVec 32 := 1#32
  let v192 : BitVec 32 := Scalar.muli v191 c1_i32_213
  let v193 : BitVec 32 := Scalar.addi c0_i32_214 v192
  v193.toNat
def k0_dev18 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_220 : BitVec 32 := 3#32
  let v201 : BitVec 32 := Scalar.xori v2 c3_i32_220
  let c1_i32_225 : BitVec 32 := 1#32
  let v202 : BitVec 32 := Scalar.muli v201 c1_i32_225
  let v203 : BitVec 32 := Scalar.addi c0_i32_226 v202
  v203.toNat
def k0_off10 (d0 : Dev nD) (c2_i32_253 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c_m2_i32 : BitVec 32 := 4294967294#32
  let v224 : BitVec 32 := Scalar.andi v12 c_m2_i32
  let v225 : BitVec 32 := Scalar.xori v224 c2_i32_253
  let c0_i32_260 : BitVec 32 := 0#32
  let c0_i32_261 : BitVec 32 := 0#32
  ![v225.toNat, 0, 0]
def k0_dev19 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_254 : BitVec 32 := 1#32
  let v226 : BitVec 32 := Scalar.xori v2 c1_i32_254
  let c1_i32_258 : BitVec 32 := 1#32
  let v227 : BitVec 32 := Scalar.muli v226 c1_i32_258
  let v228 : BitVec 32 := Scalar.addi c0_i32_259 v227
  v228.toNat
def k0_off11 (d0 : Dev nD) (c2_i32_287 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let c_m2_i32_286 : BitVec 32 := 4294967294#32
  let v249 : BitVec 32 := Scalar.andi v16 c_m2_i32_286
  let v250 : BitVec 32 := Scalar.xori v249 c2_i32_287
  let c0_i32_295 : BitVec 32 := 0#32
  let c0_i32_296 : BitVec 32 := 0#32
  ![v250.toNat, 0, 0]
def k0_dev20 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_288 : BitVec 32 := 4#32
  let v251 : BitVec 32 := Scalar.xori v2 c4_i32_288
  let c1_i32_293 : BitVec 32 := 1#32
  let v252 : BitVec 32 := Scalar.muli v251 c1_i32_293
  let v253 : BitVec 32 := Scalar.addi c0_i32_294 v252
  v253.toNat
def k0_off12 (d0 : Dev nD) (c2_i32_322 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let c_m2_i32_321 : BitVec 32 := 4294967294#32
  let v274 : BitVec 32 := Scalar.andi v20 c_m2_i32_321
  let v275 : BitVec 32 := Scalar.xori v274 c2_i32_322
  let c0_i32_330 : BitVec 32 := 0#32
  let c0_i32_331 : BitVec 32 := 0#32
  ![v275.toNat, 0, 0]
def k0_dev21 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_323 : BitVec 32 := 3#32
  let v276 : BitVec 32 := Scalar.xori v2 c3_i32_323
  let c1_i32_328 : BitVec 32 := 1#32
  let v277 : BitVec 32 := Scalar.muli v276 c1_i32_328
  let v278 : BitVec 32 := Scalar.addi c0_i32_329 v277
  v278.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c2_i32_342 : BitVec 32 := 2#32
  let v293 : BitVec 32 := Scalar.shrsi v12 c2_i32_342
  let c1_i32_343 : BitVec 32 := 1#32
  let v294 : BitVec 32 := Scalar.andi v293 c1_i32_343
  let c1_i32_340 : BitVec 32 := 1#32
  let v291 : BitVec 32 := Scalar.shrsi v12 c1_i32_340
  let c1_i32_341 : BitVec 32 := 1#32
  let v292 : BitVec 32 := Scalar.andi v291 c1_i32_341
  let v295 : BitVec 32 := Scalar.xori v294 v292
  let c2_i32_344 : BitVec 32 := 2#32
  let v296 : BitVec 32 := Scalar.muli c2_i32_344 v292
  let v297 : BitVec 32 := Scalar.addi v295 v296
  let c4_i32_345 : BitVec 32 := 4#32
  let c1_i32_339 : BitVec 32 := 1#32
  let v290 : BitVec 32 := Scalar.andi v12 c1_i32_339
  let v298 : BitVec 32 := Scalar.muli c4_i32_345 v290
  let v299 : BitVec 32 := Scalar.addi v297 v298
  let c256_i32 : BitVec 32 := 256#32
  let v300 : BitVec 32 := Scalar.muli v299 c256_i32
  let c0_i32_346 : BitVec 32 := 0#32
  let v301 : BitVec 32 := Scalar.addi v300 c0_i32_346
  let v308 : Index := Scalar.indexCast v301
  let c0_349 : Index := 0#32
  ![v308.toNat, 0]
def k0_off14 (d0 : Dev nD) (c1_i32_336 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let v287 : BitVec 32 := Scalar.xori v12 c1_i32_336
  let v322 : Index := Scalar.indexCast v287
  let c0_359 : Index := 0#32
  let c0_360 : Index := 0#32
  ![v322.toNat, 0, 0]
def k0_off15 (d0 : Dev nD) (c1_i32_336 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let v287 : BitVec 32 := Scalar.xori v12 c1_i32_336
  let c2_i32_353 : BitVec 32 := 2#32
  let v313 : BitVec 32 := Scalar.shrsi v287 c2_i32_353
  let c1_i32_354 : BitVec 32 := 1#32
  let v314 : BitVec 32 := Scalar.andi v313 c1_i32_354
  let c1_i32_351 : BitVec 32 := 1#32
  let v311 : BitVec 32 := Scalar.shrsi v287 c1_i32_351
  let c1_i32_352 : BitVec 32 := 1#32
  let v312 : BitVec 32 := Scalar.andi v311 c1_i32_352
  let v315 : BitVec 32 := Scalar.xori v314 v312
  let c2_i32_355 : BitVec 32 := 2#32
  let v316 : BitVec 32 := Scalar.muli c2_i32_355 v312
  let v317 : BitVec 32 := Scalar.addi v315 v316
  let c4_i32_356 : BitVec 32 := 4#32
  let c1_i32_350 : BitVec 32 := 1#32
  let v310 : BitVec 32 := Scalar.andi v287 c1_i32_350
  let v318 : BitVec 32 := Scalar.muli c4_i32_356 v310
  let v319 : BitVec 32 := Scalar.addi v317 v318
  let c256_i32_357 : BitVec 32 := 256#32
  let v320 : BitVec 32 := Scalar.muli v319 c256_i32_357
  let c0_i32_358 : BitVec 32 := 0#32
  let v321 : BitVec 32 := Scalar.addi v320 c0_i32_358
  let v328 : Index := Scalar.indexCast v321
  let c0_362 : Index := 0#32
  ![v328.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let c1_i32_393 : BitVec 32 := 1#32
  let v374 : BitVec 32 := Scalar.shrsi v16 c1_i32_393
  let c1_i32_394 : BitVec 32 := 1#32
  let v375 : BitVec 32 := Scalar.andi v374 c1_i32_394
  let c1_i32_392 : BitVec 32 := 1#32
  let v373 : BitVec 32 := Scalar.andi v16 c1_i32_392
  let v378 : BitVec 32 := Scalar.xori v375 v373
  let c2_i32_397 : BitVec 32 := 2#32
  let v379 : BitVec 32 := Scalar.muli c2_i32_397 v373
  let v380 : BitVec 32 := Scalar.addi v378 v379
  let c4_i32_398 : BitVec 32 := 4#32
  let c2_i32_395 : BitVec 32 := 2#32
  let v376 : BitVec 32 := Scalar.shrsi v16 c2_i32_395
  let c1_i32_396 : BitVec 32 := 1#32
  let v377 : BitVec 32 := Scalar.andi v376 c1_i32_396
  let v381 : BitVec 32 := Scalar.muli c4_i32_398 v377
  let v382 : BitVec 32 := Scalar.addi v380 v381
  let c256_i32_399 : BitVec 32 := 256#32
  let v383 : BitVec 32 := Scalar.muli v382 c256_i32_399
  let c96_i32 : BitVec 32 := 96#32
  let v384 : BitVec 32 := Scalar.addi v383 c96_i32
  let v391 : Index := Scalar.indexCast v384
  let c0_403 : Index := 0#32
  ![v391.toNat, 0]
def k0_off17 (d0 : Dev nD) (c1_i32_389 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let v370 : BitVec 32 := Scalar.xori v16 c1_i32_389
  let v405 : Index := Scalar.indexCast v370
  let c0_413 : Index := 0#32
  let c0_414 : Index := 0#32
  ![v405.toNat, 0, 0]
def k0_off18 (d0 : Dev nD) (c1_i32_389 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let v370 : BitVec 32 := Scalar.xori v16 c1_i32_389
  let c1_i32_405 : BitVec 32 := 1#32
  let v394 : BitVec 32 := Scalar.shrsi v370 c1_i32_405
  let c1_i32_406 : BitVec 32 := 1#32
  let v395 : BitVec 32 := Scalar.andi v394 c1_i32_406
  let c1_i32_404 : BitVec 32 := 1#32
  let v393 : BitVec 32 := Scalar.andi v370 c1_i32_404
  let v398 : BitVec 32 := Scalar.xori v395 v393
  let c2_i32_409 : BitVec 32 := 2#32
  let v399 : BitVec 32 := Scalar.muli c2_i32_409 v393
  let v400 : BitVec 32 := Scalar.addi v398 v399
  let c4_i32_410 : BitVec 32 := 4#32
  let c2_i32_407 : BitVec 32 := 2#32
  let v396 : BitVec 32 := Scalar.shrsi v370 c2_i32_407
  let c1_i32_408 : BitVec 32 := 1#32
  let v397 : BitVec 32 := Scalar.andi v396 c1_i32_408
  let v401 : BitVec 32 := Scalar.muli c4_i32_410 v397
  let v402 : BitVec 32 := Scalar.addi v400 v401
  let c256_i32_411 : BitVec 32 := 256#32
  let v403 : BitVec 32 := Scalar.muli v402 c256_i32_411
  let c96_i32_412 : BitVec 32 := 96#32
  let v404 : BitVec 32 := Scalar.addi v403 c96_i32_412
  let v411 : Index := Scalar.indexCast v404
  let c0_416 : Index := 0#32
  ![v411.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let c1_i32_446 : BitVec 32 := 1#32
  let v456 : BitVec 32 := Scalar.andi v20 c1_i32_446
  let c2_i32_449 : BitVec 32 := 2#32
  let v459 : BitVec 32 := Scalar.shrsi v20 c2_i32_449
  let c1_i32_450 : BitVec 32 := 1#32
  let v460 : BitVec 32 := Scalar.andi v459 c1_i32_450
  let v461 : BitVec 32 := Scalar.xori v456 v460
  let c2_i32_451 : BitVec 32 := 2#32
  let v462 : BitVec 32 := Scalar.muli c2_i32_451 v460
  let v463 : BitVec 32 := Scalar.addi v461 v462
  let c4_i32_452 : BitVec 32 := 4#32
  let c1_i32_447 : BitVec 32 := 1#32
  let v457 : BitVec 32 := Scalar.shrsi v20 c1_i32_447
  let c1_i32_448 : BitVec 32 := 1#32
  let v458 : BitVec 32 := Scalar.andi v457 c1_i32_448
  let v464 : BitVec 32 := Scalar.muli c4_i32_452 v458
  let v465 : BitVec 32 := Scalar.addi v463 v464
  let c256_i32_453 : BitVec 32 := 256#32
  let v466 : BitVec 32 := Scalar.muli v465 c256_i32_453
  let c176_i32 : BitVec 32 := 176#32
  let v467 : BitVec 32 := Scalar.addi v466 c176_i32
  let v474 : Index := Scalar.indexCast v467
  let c0_457 : Index := 0#32
  ![v474.toNat, 0]
def k0_off20 (d0 : Dev nD) (c1_i32_443 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let v453 : BitVec 32 := Scalar.xori v20 c1_i32_443
  let v488 : Index := Scalar.indexCast v453
  let c0_467 : Index := 0#32
  let c0_468 : Index := 0#32
  ![v488.toNat, 0, 0]
def k0_off21 (d0 : Dev nD) (c1_i32_443 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let v453 : BitVec 32 := Scalar.xori v20 c1_i32_443
  let c1_i32_458 : BitVec 32 := 1#32
  let v476 : BitVec 32 := Scalar.andi v453 c1_i32_458
  let c2_i32_461 : BitVec 32 := 2#32
  let v479 : BitVec 32 := Scalar.shrsi v453 c2_i32_461
  let c1_i32_462 : BitVec 32 := 1#32
  let v480 : BitVec 32 := Scalar.andi v479 c1_i32_462
  let v481 : BitVec 32 := Scalar.xori v476 v480
  let c2_i32_463 : BitVec 32 := 2#32
  let v482 : BitVec 32 := Scalar.muli c2_i32_463 v480
  let v483 : BitVec 32 := Scalar.addi v481 v482
  let c4_i32_464 : BitVec 32 := 4#32
  let c1_i32_459 : BitVec 32 := 1#32
  let v477 : BitVec 32 := Scalar.shrsi v453 c1_i32_459
  let c1_i32_460 : BitVec 32 := 1#32
  let v478 : BitVec 32 := Scalar.andi v477 c1_i32_460
  let v484 : BitVec 32 := Scalar.muli c4_i32_464 v478
  let v485 : BitVec 32 := Scalar.addi v483 v484
  let c256_i32_465 : BitVec 32 := 256#32
  let v486 : BitVec 32 := Scalar.muli v485 c256_i32_465
  let c176_i32_466 : BitVec 32 := 176#32
  let v487 : BitVec 32 := Scalar.addi v486 c176_i32_466
  let v494 : Index := Scalar.indexCast v487
  let c0_470 : Index := 0#32
  ![v494.toNat, 0]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c_m2_i32_547 : BitVec 32 := 4294967294#32
  let v592 : BitVec 32 := Scalar.andi v12 c_m2_i32_547
  let c6_i32 : BitVec 32 := 6#32
  let v593 : BitVec 32 := Scalar.xori v592 c6_i32
  let v612 : Index := Scalar.indexCast v593
  let c0_567 : Index := 0#32
  let c0_568 : Index := 0#32
  ![v612.toNat, 0, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c_m2_i32_547 : BitVec 32 := 4294967294#32
  let v592 : BitVec 32 := Scalar.andi v12 c_m2_i32_547
  let c6_i32 : BitVec 32 := 6#32
  let v593 : BitVec 32 := Scalar.xori v592 c6_i32
  let c2_i32_561 : BitVec 32 := 2#32
  let v603 : BitVec 32 := Scalar.shrsi v593 c2_i32_561
  let c1_i32_562 : BitVec 32 := 1#32
  let v604 : BitVec 32 := Scalar.andi v603 c1_i32_562
  let c1_i32_559 : BitVec 32 := 1#32
  let v601 : BitVec 32 := Scalar.shrsi v593 c1_i32_559
  let c1_i32_560 : BitVec 32 := 1#32
  let v602 : BitVec 32 := Scalar.andi v601 c1_i32_560
  let v605 : BitVec 32 := Scalar.xori v604 v602
  let c2_i32_563 : BitVec 32 := 2#32
  let v606 : BitVec 32 := Scalar.muli c2_i32_563 v602
  let v607 : BitVec 32 := Scalar.addi v605 v606
  let c4_i32_564 : BitVec 32 := 4#32
  let c1_i32_558 : BitVec 32 := 1#32
  let v600 : BitVec 32 := Scalar.andi v593 c1_i32_558
  let v608 : BitVec 32 := Scalar.muli c4_i32_564 v600
  let v609 : BitVec 32 := Scalar.addi v607 v608
  let c256_i32_565 : BitVec 32 := 256#32
  let v610 : BitVec 32 := Scalar.muli v609 c256_i32_565
  let c0_i32_566 : BitVec 32 := 0#32
  let v611 : BitVec 32 := Scalar.addi v610 c0_i32_566
  let v618 : Index := Scalar.indexCast v611
  let c0_570 : Index := 0#32
  ![v618.toNat, 0]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c_m2_i32_547 : BitVec 32 := 4294967294#32
  let v592 : BitVec 32 := Scalar.andi v12 c_m2_i32_547
  let c6_i32 : BitVec 32 := 6#32
  let v593 : BitVec 32 := Scalar.xori v592 c6_i32
  let c1_i32_571 : BitVec 32 := 1#32
  let v620 : BitVec 32 := Scalar.xori v593 c1_i32_571
  let v633 : Index := Scalar.indexCast v620
  let c0_581 : Index := 0#32
  let c0_582 : Index := 0#32
  ![v633.toNat, 0, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v7 v9
  let c4_i32 : BitVec 32 := 4#32
  let c1_i32_0 : BitVec 32 := 1#32
  let v3 : BitVec 32 := Scalar.andi v2 c1_i32_0
  let v8 : BitVec 32 := Scalar.xori v3 v5
  let v11 : BitVec 32 := Scalar.muli c4_i32 v8
  let v12 : BitVec 32 := Scalar.addi v10 v11
  let c_m2_i32_547 : BitVec 32 := 4294967294#32
  let v592 : BitVec 32 := Scalar.andi v12 c_m2_i32_547
  let c6_i32 : BitVec 32 := 6#32
  let v593 : BitVec 32 := Scalar.xori v592 c6_i32
  let c1_i32_571 : BitVec 32 := 1#32
  let v620 : BitVec 32 := Scalar.xori v593 c1_i32_571
  let c2_i32_575 : BitVec 32 := 2#32
  let v624 : BitVec 32 := Scalar.shrsi v620 c2_i32_575
  let c1_i32_576 : BitVec 32 := 1#32
  let v625 : BitVec 32 := Scalar.andi v624 c1_i32_576
  let c1_i32_573 : BitVec 32 := 1#32
  let v622 : BitVec 32 := Scalar.shrsi v620 c1_i32_573
  let c1_i32_574 : BitVec 32 := 1#32
  let v623 : BitVec 32 := Scalar.andi v622 c1_i32_574
  let v626 : BitVec 32 := Scalar.xori v625 v623
  let c2_i32_577 : BitVec 32 := 2#32
  let v627 : BitVec 32 := Scalar.muli c2_i32_577 v623
  let v628 : BitVec 32 := Scalar.addi v626 v627
  let c4_i32_578 : BitVec 32 := 4#32
  let c1_i32_572 : BitVec 32 := 1#32
  let v621 : BitVec 32 := Scalar.andi v620 c1_i32_572
  let v629 : BitVec 32 := Scalar.muli c4_i32_578 v621
  let v630 : BitVec 32 := Scalar.addi v628 v629
  let c256_i32_579 : BitVec 32 := 256#32
  let v631 : BitVec 32 := Scalar.muli v630 c256_i32_579
  let c0_i32_580 : BitVec 32 := 0#32
  let v632 : BitVec 32 := Scalar.addi v631 c0_i32_580
  let v639 : Index := Scalar.indexCast v632
  let c0_584 : Index := 0#32
  ![v639.toNat, 0]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let c_m2_i32_635 : BitVec 32 := 4294967294#32
  let v697 : BitVec 32 := Scalar.andi v16 c_m2_i32_635
  let c6_i32_636 : BitVec 32 := 6#32
  let v698 : BitVec 32 := Scalar.xori v697 c6_i32_636
  let v717 : Index := Scalar.indexCast v698
  let c0_656 : Index := 0#32
  let c0_657 : Index := 0#32
  ![v717.toNat, 0, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let c_m2_i32_635 : BitVec 32 := 4294967294#32
  let v697 : BitVec 32 := Scalar.andi v16 c_m2_i32_635
  let c6_i32_636 : BitVec 32 := 6#32
  let v698 : BitVec 32 := Scalar.xori v697 c6_i32_636
  let c1_i32_648 : BitVec 32 := 1#32
  let v706 : BitVec 32 := Scalar.shrsi v698 c1_i32_648
  let c1_i32_649 : BitVec 32 := 1#32
  let v707 : BitVec 32 := Scalar.andi v706 c1_i32_649
  let c1_i32_647 : BitVec 32 := 1#32
  let v705 : BitVec 32 := Scalar.andi v698 c1_i32_647
  let v710 : BitVec 32 := Scalar.xori v707 v705
  let c2_i32_652 : BitVec 32 := 2#32
  let v711 : BitVec 32 := Scalar.muli c2_i32_652 v705
  let v712 : BitVec 32 := Scalar.addi v710 v711
  let c4_i32_653 : BitVec 32 := 4#32
  let c2_i32_650 : BitVec 32 := 2#32
  let v708 : BitVec 32 := Scalar.shrsi v698 c2_i32_650
  let c1_i32_651 : BitVec 32 := 1#32
  let v709 : BitVec 32 := Scalar.andi v708 c1_i32_651
  let v713 : BitVec 32 := Scalar.muli c4_i32_653 v709
  let v714 : BitVec 32 := Scalar.addi v712 v713
  let c256_i32_654 : BitVec 32 := 256#32
  let v715 : BitVec 32 := Scalar.muli v714 c256_i32_654
  let c96_i32_655 : BitVec 32 := 96#32
  let v716 : BitVec 32 := Scalar.addi v715 c96_i32_655
  let v723 : Index := Scalar.indexCast v716
  let c0_659 : Index := 0#32
  ![v723.toNat, 0]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let c_m2_i32_635 : BitVec 32 := 4294967294#32
  let v697 : BitVec 32 := Scalar.andi v16 c_m2_i32_635
  let c6_i32_636 : BitVec 32 := 6#32
  let v698 : BitVec 32 := Scalar.xori v697 c6_i32_636
  let c1_i32_660 : BitVec 32 := 1#32
  let v725 : BitVec 32 := Scalar.xori v698 c1_i32_660
  let v738 : Index := Scalar.indexCast v725
  let c0_670 : Index := 0#32
  let c0_671 : Index := 0#32
  ![v738.toNat, 0, 0]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c2_i32_5 : BitVec 32 := 2#32
  let c1_i32_0 : BitVec 32 := 1#32
  let v3 : BitVec 32 := Scalar.andi v2 c1_i32_0
  let v8 : BitVec 32 := Scalar.xori v3 v5
  let v13 : BitVec 32 := Scalar.muli c2_i32_5 v8
  let v14 : BitVec 32 := Scalar.addi v5 v13
  let c4_i32_6 : BitVec 32 := 4#32
  let c2_i32 : BitVec 32 := 2#32
  let v6 : BitVec 32 := Scalar.shrsi v2 c2_i32
  let c1_i32_3 : BitVec 32 := 1#32
  let v7 : BitVec 32 := Scalar.andi v6 c1_i32_3
  let v15 : BitVec 32 := Scalar.muli c4_i32_6 v7
  let v16 : BitVec 32 := Scalar.addi v14 v15
  let c_m2_i32_635 : BitVec 32 := 4294967294#32
  let v697 : BitVec 32 := Scalar.andi v16 c_m2_i32_635
  let c6_i32_636 : BitVec 32 := 6#32
  let v698 : BitVec 32 := Scalar.xori v697 c6_i32_636
  let c1_i32_660 : BitVec 32 := 1#32
  let v725 : BitVec 32 := Scalar.xori v698 c1_i32_660
  let c1_i32_662 : BitVec 32 := 1#32
  let v727 : BitVec 32 := Scalar.shrsi v725 c1_i32_662
  let c1_i32_663 : BitVec 32 := 1#32
  let v728 : BitVec 32 := Scalar.andi v727 c1_i32_663
  let c1_i32_661 : BitVec 32 := 1#32
  let v726 : BitVec 32 := Scalar.andi v725 c1_i32_661
  let v731 : BitVec 32 := Scalar.xori v728 v726
  let c2_i32_666 : BitVec 32 := 2#32
  let v732 : BitVec 32 := Scalar.muli c2_i32_666 v726
  let v733 : BitVec 32 := Scalar.addi v731 v732
  let c4_i32_667 : BitVec 32 := 4#32
  let c2_i32_664 : BitVec 32 := 2#32
  let v729 : BitVec 32 := Scalar.shrsi v725 c2_i32_664
  let c1_i32_665 : BitVec 32 := 1#32
  let v730 : BitVec 32 := Scalar.andi v729 c1_i32_665
  let v734 : BitVec 32 := Scalar.muli c4_i32_667 v730
  let v735 : BitVec 32 := Scalar.addi v733 v734
  let c256_i32_668 : BitVec 32 := 256#32
  let v736 : BitVec 32 := Scalar.muli v735 c256_i32_668
  let c96_i32_669 : BitVec 32 := 96#32
  let v737 : BitVec 32 := Scalar.addi v736 c96_i32_669
  let v744 : Index := Scalar.indexCast v737
  let c0_673 : Index := 0#32
  ![v744.toNat, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let c_m2_i32_724 : BitVec 32 := 4294967294#32
  let v802 : BitVec 32 := Scalar.andi v20 c_m2_i32_724
  let c6_i32_725 : BitVec 32 := 6#32
  let v803 : BitVec 32 := Scalar.xori v802 c6_i32_725
  let v822 : Index := Scalar.indexCast v803
  let c0_745 : Index := 0#32
  let c0_746 : Index := 0#32
  ![v822.toNat, 0, 0]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let c_m2_i32_724 : BitVec 32 := 4294967294#32
  let v802 : BitVec 32 := Scalar.andi v20 c_m2_i32_724
  let c6_i32_725 : BitVec 32 := 6#32
  let v803 : BitVec 32 := Scalar.xori v802 c6_i32_725
  let c1_i32_736 : BitVec 32 := 1#32
  let v810 : BitVec 32 := Scalar.andi v803 c1_i32_736
  let c2_i32_739 : BitVec 32 := 2#32
  let v813 : BitVec 32 := Scalar.shrsi v803 c2_i32_739
  let c1_i32_740 : BitVec 32 := 1#32
  let v814 : BitVec 32 := Scalar.andi v813 c1_i32_740
  let v815 : BitVec 32 := Scalar.xori v810 v814
  let c2_i32_741 : BitVec 32 := 2#32
  let v816 : BitVec 32 := Scalar.muli c2_i32_741 v814
  let v817 : BitVec 32 := Scalar.addi v815 v816
  let c4_i32_742 : BitVec 32 := 4#32
  let c1_i32_737 : BitVec 32 := 1#32
  let v811 : BitVec 32 := Scalar.shrsi v803 c1_i32_737
  let c1_i32_738 : BitVec 32 := 1#32
  let v812 : BitVec 32 := Scalar.andi v811 c1_i32_738
  let v818 : BitVec 32 := Scalar.muli c4_i32_742 v812
  let v819 : BitVec 32 := Scalar.addi v817 v818
  let c256_i32_743 : BitVec 32 := 256#32
  let v820 : BitVec 32 := Scalar.muli v819 c256_i32_743
  let c176_i32_744 : BitVec 32 := 176#32
  let v821 : BitVec 32 := Scalar.addi v820 c176_i32_744
  let v828 : Index := Scalar.indexCast v821
  let c0_748 : Index := 0#32
  ![v828.toNat, 0]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let c_m2_i32_724 : BitVec 32 := 4294967294#32
  let v802 : BitVec 32 := Scalar.andi v20 c_m2_i32_724
  let c6_i32_725 : BitVec 32 := 6#32
  let v803 : BitVec 32 := Scalar.xori v802 c6_i32_725
  let c1_i32_749 : BitVec 32 := 1#32
  let v830 : BitVec 32 := Scalar.xori v803 c1_i32_749
  let v843 : Index := Scalar.indexCast v830
  let c0_759 : Index := 0#32
  let c0_760 : Index := 0#32
  ![v843.toNat, 0, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c2_i32_7 : BitVec 32 := 2#32
  let c2_i32 : BitVec 32 := 2#32
  let v6 : BitVec 32 := Scalar.shrsi v2 c2_i32
  let c1_i32_3 : BitVec 32 := 1#32
  let v7 : BitVec 32 := Scalar.andi v6 c1_i32_3
  let v17 : BitVec 32 := Scalar.muli c2_i32_7 v7
  let v18 : BitVec 32 := Scalar.addi v8 v17
  let c4_i32_8 : BitVec 32 := 4#32
  let v19 : BitVec 32 := Scalar.muli c4_i32_8 v5
  let v20 : BitVec 32 := Scalar.addi v18 v19
  let c_m2_i32_724 : BitVec 32 := 4294967294#32
  let v802 : BitVec 32 := Scalar.andi v20 c_m2_i32_724
  let c6_i32_725 : BitVec 32 := 6#32
  let v803 : BitVec 32 := Scalar.xori v802 c6_i32_725
  let c1_i32_749 : BitVec 32 := 1#32
  let v830 : BitVec 32 := Scalar.xori v803 c1_i32_749
  let c1_i32_750 : BitVec 32 := 1#32
  let v831 : BitVec 32 := Scalar.andi v830 c1_i32_750
  let c2_i32_753 : BitVec 32 := 2#32
  let v834 : BitVec 32 := Scalar.shrsi v830 c2_i32_753
  let c1_i32_754 : BitVec 32 := 1#32
  let v835 : BitVec 32 := Scalar.andi v834 c1_i32_754
  let v836 : BitVec 32 := Scalar.xori v831 v835
  let c2_i32_755 : BitVec 32 := 2#32
  let v837 : BitVec 32 := Scalar.muli c2_i32_755 v835
  let v838 : BitVec 32 := Scalar.addi v836 v837
  let c4_i32_756 : BitVec 32 := 4#32
  let c1_i32_751 : BitVec 32 := 1#32
  let v832 : BitVec 32 := Scalar.shrsi v830 c1_i32_751
  let c1_i32_752 : BitVec 32 := 1#32
  let v833 : BitVec 32 := Scalar.andi v832 c1_i32_752
  let v839 : BitVec 32 := Scalar.muli c4_i32_756 v833
  let v840 : BitVec 32 := Scalar.addi v838 v839
  let c256_i32_757 : BitVec 32 := 256#32
  let v841 : BitVec 32 := Scalar.muli v840 c256_i32_757
  let c176_i32_758 : BitVec 32 := 176#32
  let v842 : BitVec 32 := Scalar.addi v841 c176_i32_758
  let v849 : Index := Scalar.indexCast v842
  let c0_762 : Index := 0#32
  ![v849.toNat, 0]
def k0_dev22 (d0 : Dev nD) : Nat :=
  let c0_i32_928_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_925_r0 : BitVec 32 := 1#32
  let v924_r0 : BitVec 32 := Scalar.xori v2 c1_i32_925_r0
  let c1_i32_927_r0 : BitVec 32 := 1#32
  let v925_r0 : BitVec 32 := Scalar.muli v924_r0 c1_i32_927_r0
  let v926_r0 : BitVec 32 := Scalar.addi c0_i32_928_r0 v925_r0
  v926_r0.toNat
def k0_dev23 (d0 : Dev nD) : Nat :=
  let c0_i32_932_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_929_r0 : BitVec 32 := 3#32
  let v927_r0 : BitVec 32 := Scalar.xori v2 c3_i32_929_r0
  let c1_i32_931_r0 : BitVec 32 := 1#32
  let v928_r0 : BitVec 32 := Scalar.muli v927_r0 c1_i32_931_r0
  let v929_r0 : BitVec 32 := Scalar.addi c0_i32_932_r0 v928_r0
  v929_r0.toNat
def k0_dev24 (d0 : Dev nD) : Nat :=
  let c0_i32_936_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_933_r0 : BitVec 32 := 4#32
  let v930_r0 : BitVec 32 := Scalar.xori v2 c4_i32_933_r0
  let c1_i32_935_r0 : BitVec 32 := 1#32
  let v931_r0 : BitVec 32 := Scalar.muli v930_r0 c1_i32_935_r0
  let v932_r0 : BitVec 32 := Scalar.addi c0_i32_936_r0 v931_r0
  v932_r0.toNat
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Topo.lean ====
/-
# The hypercube and its three pipes

The eight devices form a cube. Each of the kernel's three pipes `P` gathers one band of every device's rows
into eight slots, and numbers the devices along its own order of the cube's axes: `tt P c` is the slot of
device `c`'s own band, `inv P v` the device whose band slot `v` holds. Transfer `i` of pipe `P` goes to the device across
the axis `ax P i`; it carries the slots `sl P i c`, into the same slots of that device.
-/
module

public import proofs.«01_k».proof.Proof.Gen.KernelIdeal
public import proofs.«01_k».proof.Proof.Gen.KernelIdeal.Skeleton

@[expose] public section

noncomputable section

namespace Cert.Cube

open Idealize.ShloMosaic Cert.KernelIdeal Cert.KernelIdeal.Gen

/-- A number's bit `k`, as 0 or 1. -/
@[reducible] def bit (k n : ℕ) : ℕ := (n / 2 ^ k) % 2

/-- The slot of device `c`'s own band in pipe `P`: the device's cube coordinates, the axes in the pipe's order. -/
def tt (P : Fin 3) (c : Dev nD) : Fin 8 :=
  let b0 := bit 0 c.val; let b1 := bit 1 c.val; let b2 := bit 2 c.val
  let b01 := (b0 + b1) % 2
  match P with
  | 0 => Fin.ofNat 8 (b2 + 2 * b1 + 4 * b01)
  | 1 => Fin.ofNat 8 (b1 + 2 * b01 + 4 * b2)
  | 2 => Fin.ofNat 8 (b01 + 2 * b2 + 4 * b1)

/-- The device whose band slot `v` of pipe `P` holds. -/
def inv (P : Fin 3) (v : Fin 8) : Dev nD :=
  let t0 := bit 0 v.val; let t1 := bit 1 v.val; let t2 := bit 2 v.val
  match P with
  | 0 => Fin.ofNat 8 ((t2 + t1) % 2 + 2 * t1 + 4 * t0)
  | 1 => Fin.ofNat 8 ((t1 + t0) % 2 + 2 * t0 + 4 * t2)
  | 2 => Fin.ofNat 8 ((t0 + t2) % 2 + 2 * t2 + 4 * t1)

theorem inv_tt (P : Fin 3) (c : Dev nD) : inv P (tt P c) = c := by revert P c; decide
theorem tt_inv (P : Fin 3) (v : Fin 8) : tt P (inv P v) = v := by revert P v; decide

/-- The device across axis `d`: the axes change bit 0, bits 0 and 1, bit 2. -/
def across (d : Fin 3) (c : Dev nD) : Dev nD :=
  match d with
  | 0 => Fin.ofNat 8 (c.val ^^^ 1)
  | 1 => Fin.ofNat 8 (c.val ^^^ 3)
  | 2 => Fin.ofNat 8 (c.val ^^^ 4)

theorem across_across (d : Fin 3) (c : Dev nD) : across d (across d c) = c := by revert d c; decide
theorem across_injective_axis (c : Dev nD) {d d' : Fin 3} (h : across d c = across d' c) : d = d' := by
  revert c d d'; decide

/-- The axis transfer `i` of pipe `P` crosses. -/
def ax (P : Fin 3) (i : Fin 6) : Fin 3 :=
  match P, i with
  | 0, 0 => 2 | 0, 1 => 1 | 0, 2 => 1 | 0, _ => 0
  | 1, 0 => 1 | 1, 1 => 0 | 1, 2 => 0 | 1, _ => 2
  | 2, 0 => 0 | 2, 1 => 2 | 2, 2 => 2 | 2, _ => 1

/-- The device transfer `i` of pipe `P` goes to, from device `c` (and comes from, at device `c`). -/
def pr (P : Fin 3) (i : Fin 6) (c : Dev nD) : Dev nD := across (ax P i) c

theorem pr_pr (P : Fin 3) (i : Fin 6) (c : Dev nD) : pr P i (pr P i c) = c := across_across _ c

/-- Slot `w` away from device `c`'s own: the slot numbers' bits differ in `w`'s. -/
def away (P : Fin 3) (c : Dev nD) (w : ℕ) : Fin 8 := Fin.ofNat 8 ((tt P c).val ^^^ w)

/-- The first of the two slots that differ from `s`'s pair by `w`. -/
def pair (P : Fin 3) (c : Dev nD) (w : ℕ) : Fin 8 := Fin.ofNat 8 (((tt P c).val / 2 * 2) ^^^ w)
/-- The second. -/
def pair' (P : Fin 3) (c : Dev nD) (w : ℕ) : Fin 8 := Fin.ofNat 8 (((tt P c).val / 2 * 2) ^^^ w ^^^ 1)

/-- The slots transfer `i` of pipe `P` carries from device `c`. -/
def sl (P : Fin 3) (i : Fin 6) (c : Dev nD) : Finset (Fin 8) :=
  match i with
  | 0 => {tt P c} | 1 => {tt P c} | 3 => {tt P c}
  | 2 => {away P c 1} | 4 => {away P c 1}
  | 5 => {pair P c 2, pair' P c 2}

/-- The slots transfer `i` of pipe `P` fills at device `c`. -/
def rl (P : Fin 3) (i : Fin 6) (c : Dev nD) : Finset (Fin 8) :=
  match i with
  | 0 => {away P c 1} | 1 => {away P c 2} | 2 => {away P c 3} | 3 => {away P c 4} | 4 => {away P c 5}
  | 5 => {pair P c 6, pair' P c 6}

set_option maxRecDepth 4000 in
theorem sl_pr (P : Fin 3) (i : Fin 6) (c : Dev nD) : sl P i (pr P i c) = rl P i c := by revert P i c; decide +kernel
set_option maxRecDepth 4000 in
theorem rl_pr (P : Fin 3) (i : Fin 6) (c : Dev nD) : rl P i (pr P i c) = sl P i c := by rw [← sl_pr, pr_pr]

/-- A device's eight slots: its own and the ones each transfer fills. -/
theorem slots_cover (P : Fin 3) (c : Dev nD) :
    ({tt P c} ∪ (rl P 0 c ∪ (rl P 1 c ∪ (rl P 2 c ∪ (rl P 3 c ∪ (rl P 4 c ∪ rl P 5 c)))))) = Finset.univ := by
  revert P c; decide +kernel
theorem disj_own (P : Fin 3) (c : Dev nD) :
    Disjoint {tt P c} (rl P 0 c ∪ (rl P 1 c ∪ (rl P 2 c ∪ (rl P 3 c ∪ (rl P 4 c ∪ rl P 5 c))))) := by
  revert P c; decide +kernel
theorem disj_0 (P : Fin 3) (c : Dev nD) :
    Disjoint (rl P 0 c) (rl P 1 c ∪ (rl P 2 c ∪ (rl P 3 c ∪ (rl P 4 c ∪ rl P 5 c)))) := by
  revert P c; decide +kernel
theorem disj_1 (P : Fin 3) (c : Dev nD) : Disjoint (rl P 1 c) (rl P 2 c ∪ (rl P 3 c ∪ (rl P 4 c ∪ rl P 5 c))) := by
  revert P c; decide +kernel
theorem disj_2 (P : Fin 3) (c : Dev nD) : Disjoint (rl P 2 c) (rl P 3 c ∪ (rl P 4 c ∪ rl P 5 c)) := by
  revert P c; decide +kernel
theorem disj_3 (P : Fin 3) (c : Dev nD) : Disjoint (rl P 3 c) (rl P 4 c ∪ rl P 5 c) := by revert P c; decide +kernel
theorem disj_4 (P : Fin 3) (c : Dev nD) : Disjoint (rl P 4 c) (rl P 5 c) := by revert P c; decide +kernel
theorem disj_pair (P : Fin 3) (c : Dev nD) : Disjoint {pair P c 6} ({pair' P c 6} : Finset (Fin 8)) := by
  revert P c; decide +kernel
theorem disj_src5 (P : Fin 3) (c : Dev nD) : Disjoint {away P c 2} ({away P c 3} : Finset (Fin 8)) := by
  revert P c; decide +kernel
theorem src5 (P : Fin 3) (c : Dev nD) : sl P 5 c = {away P c 2} ∪ ({away P c 3} : Finset (Fin 8)) := by
  revert P c; decide +kernel

/-! ## The kernel's own address arithmetic -/

theorem dev1_eq (c : Dev nD) : (⟨k0_dev1 c, k0_dev1_lt c⟩ : Dev nD) = across 0 c := by revert c; decide +kernel
theorem dev2_eq (c : Dev nD) : (⟨k0_dev2 c, k0_dev2_lt c⟩ : Dev nD) = across 1 c := by revert c; decide +kernel
theorem dev3_eq (c : Dev nD) : (⟨k0_dev3 c, k0_dev3_lt c⟩ : Dev nD) = across 2 c := by revert c; decide +kernel
theorem dev22_eq (c : Dev nD) : (⟨k0_dev22 c, k0_dev22_lt c⟩ : Dev nD) = across 0 c := by revert c; decide +kernel
theorem dev23_eq (c : Dev nD) : (⟨k0_dev23 c, k0_dev23_lt c⟩ : Dev nD) = across 1 c := by revert c; decide +kernel
theorem dev24_eq (c : Dev nD) : (⟨k0_dev24 c, k0_dev24_lt c⟩ : Dev nD) = across 2 c := by revert c; decide +kernel
theorem dev4_eq (c : Dev nD) : (⟨k0_dev4 c, k0_dev4_lt c⟩ : Dev nD) = pr 0 0 c := by revert c; decide +kernel
theorem dev5_eq (c : Dev nD) : (⟨k0_dev5 c, k0_dev5_lt c⟩ : Dev nD) = pr 0 1 c := by revert c; decide +kernel
theorem dev6_eq (c : Dev nD) : (⟨k0_dev6 c, k0_dev6_lt c⟩ : Dev nD) = pr 0 3 c := by revert c; decide +kernel
theorem dev7_eq (c : Dev nD) : (⟨k0_dev7 c, k0_dev7_lt c⟩ : Dev nD) = pr 1 0 c := by revert c; decide +kernel
theorem dev8_eq (c : Dev nD) : (⟨k0_dev8 c, k0_dev8_lt c⟩ : Dev nD) = pr 1 1 c := by revert c; decide +kernel
theorem dev9_eq (c : Dev nD) : (⟨k0_dev9 c, k0_dev9_lt c⟩ : Dev nD) = pr 1 3 c := by revert c; decide +kernel
theorem dev10_eq (c : Dev nD) : (⟨k0_dev10 c, k0_dev10_lt c⟩ : Dev nD) = pr 2 0 c := by revert c; decide +kernel
theorem dev11_eq (c : Dev nD) : (⟨k0_dev11 c, k0_dev11_lt c⟩ : Dev nD) = pr 2 1 c := by revert c; decide +kernel
theorem dev12_eq (c : Dev nD) : (⟨k0_dev12 c, k0_dev12_lt c⟩ : Dev nD) = pr 2 3 c := by revert c; decide +kernel
theorem dev13_eq (c : Dev nD) : (⟨k0_dev13 c, k0_dev13_lt c⟩ : Dev nD) = pr 0 2 c := by revert c; decide +kernel
theorem dev14_eq (c : Dev nD) : (⟨k0_dev14 c, k0_dev14_lt c⟩ : Dev nD) = pr 0 4 c := by revert c; decide +kernel
theorem dev15_eq (c : Dev nD) : (⟨k0_dev15 c, k0_dev15_lt c⟩ : Dev nD) = pr 1 2 c := by revert c; decide +kernel
theorem dev16_eq (c : Dev nD) : (⟨k0_dev16 c, k0_dev16_lt c⟩ : Dev nD) = pr 1 4 c := by revert c; decide +kernel
theorem dev17_eq (c : Dev nD) : (⟨k0_dev17 c, k0_dev17_lt c⟩ : Dev nD) = pr 2 2 c := by revert c; decide +kernel
theorem dev18_eq (c : Dev nD) : (⟨k0_dev18 c, k0_dev18_lt c⟩ : Dev nD) = pr 2 4 c := by revert c; decide +kernel
theorem dev19_eq (c : Dev nD) : (⟨k0_dev19 c, k0_dev19_lt c⟩ : Dev nD) = pr 0 5 c := by revert c; decide +kernel
theorem dev20_eq (c : Dev nD) : (⟨k0_dev20 c, k0_dev20_lt c⟩ : Dev nD) = pr 1 5 c := by revert c; decide +kernel
theorem dev21_eq (c : Dev nD) : (⟨k0_dev21 c, k0_dev21_lt c⟩ : Dev nD) = pr 2 5 c := by revert c; decide +kernel

/-! The scratch slots it addresses. -/

theorem off1_eq (c : Dev nD) : k0_off1 c = ![(tt 0 c).val, 0, 0] := by revert c; decide +kernel
theorem off2_eq (c : Dev nD) : k0_off2 c = ![(tt 1 c).val, 0, 0] := by revert c; decide +kernel
theorem off3_eq (c : Dev nD) : k0_off3 c = ![(tt 2 c).val, 0, 0] := by revert c; decide +kernel
theorem off4_eq (c : Dev nD) : k0_off4 c = ![(tt 0 c).val, 0, 0] := by revert c; decide +kernel
theorem off5_eq (c : Dev nD) : k0_off5 c = ![(tt 1 c).val, 0, 0] := by revert c; decide +kernel
theorem off6_eq (c : Dev nD) : k0_off6 c = ![(tt 2 c).val, 0, 0] := by revert c; decide +kernel
theorem off7_1_eq (c : Dev nD) : k0_off7 c 1#32 = ![(away 0 c 1).val, 0, 0] := by revert c; decide +kernel
theorem off7_2_eq (c : Dev nD) : k0_off7 c 2#32 = ![(away 0 c 2).val, 0, 0] := by revert c; decide +kernel
theorem off7_3_eq (c : Dev nD) : k0_off7 c 3#32 = ![(away 0 c 3).val, 0, 0] := by revert c; decide +kernel
theorem off7_4_eq (c : Dev nD) : k0_off7 c 4#32 = ![(away 0 c 4).val, 0, 0] := by revert c; decide +kernel
theorem off7_5_eq (c : Dev nD) : k0_off7 c 5#32 = ![(away 0 c 5).val, 0, 0] := by revert c; decide +kernel
theorem off8_1_eq (c : Dev nD) : k0_off8 c 1#32 = ![(away 1 c 1).val, 0, 0] := by revert c; decide +kernel
theorem off8_2_eq (c : Dev nD) : k0_off8 c 2#32 = ![(away 1 c 2).val, 0, 0] := by revert c; decide +kernel
theorem off8_3_eq (c : Dev nD) : k0_off8 c 3#32 = ![(away 1 c 3).val, 0, 0] := by revert c; decide +kernel
theorem off8_4_eq (c : Dev nD) : k0_off8 c 4#32 = ![(away 1 c 4).val, 0, 0] := by revert c; decide +kernel
theorem off8_5_eq (c : Dev nD) : k0_off8 c 5#32 = ![(away 1 c 5).val, 0, 0] := by revert c; decide +kernel
theorem off9_1_eq (c : Dev nD) : k0_off9 c 1#32 = ![(away 2 c 1).val, 0, 0] := by revert c; decide +kernel
theorem off9_2_eq (c : Dev nD) : k0_off9 c 2#32 = ![(away 2 c 2).val, 0, 0] := by revert c; decide +kernel
theorem off9_3_eq (c : Dev nD) : k0_off9 c 3#32 = ![(away 2 c 3).val, 0, 0] := by revert c; decide +kernel
theorem off9_4_eq (c : Dev nD) : k0_off9 c 4#32 = ![(away 2 c 4).val, 0, 0] := by revert c; decide +kernel
theorem off9_5_eq (c : Dev nD) : k0_off9 c 5#32 = ![(away 2 c 5).val, 0, 0] := by revert c; decide +kernel
theorem off10_2_eq (c : Dev nD) : k0_off10 c 2#32 = ![(pair 0 c 2).val, 0, 0] := by revert c; decide +kernel
theorem off10_6_eq (c : Dev nD) : k0_off10 c 6#32 = ![(pair 0 c 6).val, 0, 0] := by revert c; decide +kernel
theorem off11_2_eq (c : Dev nD) : k0_off11 c 2#32 = ![(pair 1 c 2).val, 0, 0] := by revert c; decide +kernel
theorem off11_6_eq (c : Dev nD) : k0_off11 c 6#32 = ![(pair 1 c 6).val, 0, 0] := by revert c; decide +kernel
theorem off12_2_eq (c : Dev nD) : k0_off12 c 2#32 = ![(pair 2 c 2).val, 0, 0] := by revert c; decide +kernel
theorem off12_6_eq (c : Dev nD) : k0_off12 c 6#32 = ![(pair 2 c 6).val, 0, 0] := by revert c; decide +kernel
theorem off14_1_eq (c : Dev nD) : k0_off14 c 1#32 = ![(away 0 c 1).val, 0, 0] := by revert c; decide +kernel
theorem off14_2_eq (c : Dev nD) : k0_off14 c 2#32 = ![(away 0 c 2).val, 0, 0] := by revert c; decide +kernel
theorem off14_3_eq (c : Dev nD) : k0_off14 c 3#32 = ![(away 0 c 3).val, 0, 0] := by revert c; decide +kernel
theorem off14_4_eq (c : Dev nD) : k0_off14 c 4#32 = ![(away 0 c 4).val, 0, 0] := by revert c; decide +kernel
theorem off14_5_eq (c : Dev nD) : k0_off14 c 5#32 = ![(away 0 c 5).val, 0, 0] := by revert c; decide +kernel
theorem off17_1_eq (c : Dev nD) : k0_off17 c 1#32 = ![(away 1 c 1).val, 0, 0] := by revert c; decide +kernel
theorem off17_2_eq (c : Dev nD) : k0_off17 c 2#32 = ![(away 1 c 2).val, 0, 0] := by revert c; decide +kernel
theorem off17_3_eq (c : Dev nD) : k0_off17 c 3#32 = ![(away 1 c 3).val, 0, 0] := by revert c; decide +kernel
theorem off17_4_eq (c : Dev nD) : k0_off17 c 4#32 = ![(away 1 c 4).val, 0, 0] := by revert c; decide +kernel
theorem off17_5_eq (c : Dev nD) : k0_off17 c 5#32 = ![(away 1 c 5).val, 0, 0] := by revert c; decide +kernel
theorem off20_1_eq (c : Dev nD) : k0_off20 c 1#32 = ![(away 2 c 1).val, 0, 0] := by revert c; decide +kernel
theorem off20_2_eq (c : Dev nD) : k0_off20 c 2#32 = ![(away 2 c 2).val, 0, 0] := by revert c; decide +kernel
theorem off20_3_eq (c : Dev nD) : k0_off20 c 3#32 = ![(away 2 c 3).val, 0, 0] := by revert c; decide +kernel
theorem off20_4_eq (c : Dev nD) : k0_off20 c 4#32 = ![(away 2 c 4).val, 0, 0] := by revert c; decide +kernel
theorem off20_5_eq (c : Dev nD) : k0_off20 c 5#32 = ![(away 2 c 5).val, 0, 0] := by revert c; decide +kernel
theorem off22_eq (c : Dev nD) : k0_off22 c = ![(pair 0 c 6).val, 0, 0] := by revert c; decide +kernel
theorem off24_eq (c : Dev nD) : k0_off24 c = ![(pair' 0 c 6).val, 0, 0] := by revert c; decide +kernel
theorem off26_eq (c : Dev nD) : k0_off26 c = ![(pair 1 c 6).val, 0, 0] := by revert c; decide +kernel
theorem off28_eq (c : Dev nD) : k0_off28 c = ![(pair' 1 c 6).val, 0, 0] := by revert c; decide +kernel
theorem off30_eq (c : Dev nD) : k0_off30 c = ![(pair 2 c 6).val, 0, 0] := by revert c; decide +kernel
theorem off32_eq (c : Dev nD) : k0_off32 c = ![(pair' 2 c 6).val, 0, 0] := by revert c; decide +kernel

/-! The result rows it addresses: the band of the device the slot holds. -/

theorem off13_eq (c : Dev nD) : k0_off13 c = ![256 * (inv 0 (tt 0 c)).val + 0, 0] := by revert c; decide +kernel
theorem off16_eq (c : Dev nD) : k0_off16 c = ![256 * (inv 1 (tt 1 c)).val + 96, 0] := by revert c; decide +kernel
theorem off19_eq (c : Dev nD) : k0_off19 c = ![256 * (inv 2 (tt 2 c)).val + 176, 0] := by revert c; decide +kernel
theorem off15_1_eq (c : Dev nD) : k0_off15 c 1#32 = ![256 * (inv 0 (away 0 c 1)).val + 0, 0] := by revert c; decide +kernel
theorem off15_2_eq (c : Dev nD) : k0_off15 c 2#32 = ![256 * (inv 0 (away 0 c 2)).val + 0, 0] := by revert c; decide +kernel
theorem off15_3_eq (c : Dev nD) : k0_off15 c 3#32 = ![256 * (inv 0 (away 0 c 3)).val + 0, 0] := by revert c; decide +kernel
theorem off15_4_eq (c : Dev nD) : k0_off15 c 4#32 = ![256 * (inv 0 (away 0 c 4)).val + 0, 0] := by revert c; decide +kernel
theorem off15_5_eq (c : Dev nD) : k0_off15 c 5#32 = ![256 * (inv 0 (away 0 c 5)).val + 0, 0] := by revert c; decide +kernel
theorem off18_1_eq (c : Dev nD) : k0_off18 c 1#32 = ![256 * (inv 1 (away 1 c 1)).val + 96, 0] := by revert c; decide +kernel
theorem off18_2_eq (c : Dev nD) : k0_off18 c 2#32 = ![256 * (inv 1 (away 1 c 2)).val + 96, 0] := by revert c; decide +kernel
theorem off18_3_eq (c : Dev nD) : k0_off18 c 3#32 = ![256 * (inv 1 (away 1 c 3)).val + 96, 0] := by revert c; decide +kernel
theorem off18_4_eq (c : Dev nD) : k0_off18 c 4#32 = ![256 * (inv 1 (away 1 c 4)).val + 96, 0] := by revert c; decide +kernel
theorem off18_5_eq (c : Dev nD) : k0_off18 c 5#32 = ![256 * (inv 1 (away 1 c 5)).val + 96, 0] := by revert c; decide +kernel
theorem off21_1_eq (c : Dev nD) : k0_off21 c 1#32 = ![256 * (inv 2 (away 2 c 1)).val + 176, 0] := by revert c; decide +kernel
theorem off21_2_eq (c : Dev nD) : k0_off21 c 2#32 = ![256 * (inv 2 (away 2 c 2)).val + 176, 0] := by revert c; decide +kernel
theorem off21_3_eq (c : Dev nD) : k0_off21 c 3#32 = ![256 * (inv 2 (away 2 c 3)).val + 176, 0] := by revert c; decide +kernel
theorem off21_4_eq (c : Dev nD) : k0_off21 c 4#32 = ![256 * (inv 2 (away 2 c 4)).val + 176, 0] := by revert c; decide +kernel
theorem off21_5_eq (c : Dev nD) : k0_off21 c 5#32 = ![256 * (inv 2 (away 2 c 5)).val + 176, 0] := by revert c; decide +kernel
theorem off23_eq (c : Dev nD) : k0_off23 c = ![256 * (inv 0 (pair 0 c 6)).val + 0, 0] := by revert c; decide +kernel
theorem off25_eq (c : Dev nD) : k0_off25 c = ![256 * (inv 0 (pair' 0 c 6)).val + 0, 0] := by revert c; decide +kernel
theorem off27_eq (c : Dev nD) : k0_off27 c = ![256 * (inv 1 (pair 1 c 6)).val + 96, 0] := by revert c; decide +kernel
theorem off29_eq (c : Dev nD) : k0_off29 c = ![256 * (inv 1 (pair' 1 c 6)).val + 96, 0] := by revert c; decide +kernel
theorem off31_eq (c : Dev nD) : k0_off31 c = ![256 * (inv 2 (pair 2 c 6)).val + 176, 0] := by revert c; decide +kernel
theorem off33_eq (c : Dev nD) : k0_off33 c = ![256 * (inv 2 (pair' 2 c 6)).val + 176, 0] := by revert c; decide +kernel

end Cert.Cube

end
-- ==== Proof.Proto.lean ====
/-
# The protocol

Every semaphore of the kernel, as one cell of a one-round schedule. A device's barrier cell is paid by its three
neighbours, each handing over the slots of its own scratch that the device's transfers will fill there; a receive cell
by the transfer that fills its slots, which hands over those slots holding the gathered rows; a send cell
by the same transfer, which hands the source's share back; the closing cell by the three neighbours again, with nothing.
`X` is what each device's block of `x` holds; `gath` what a scratch holds once its pipe is done, the same on
every device.
-/
module

public import proofs.«01_k».proof.Proof.Topo
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-- The resource algebra: the pipeline library's copy of the rounds and the protocol's, whose duties are named by axis. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

/-- What a semaphore is for. -/
inductive Use : Type where
  | bar | fin | snd (P : Fin 3) (i : Fin 6) | rcv (P : Fin 3) (i : Fin 6) | other
deriving DecidableEq

/-- The use of each semaphore of the signature. -/
def useOf : SemLoc sig → Use
  | .reg s => if s.val = 0 then .bar else .fin
  | .dma s => if s.val < 3 then .other
      else if s.val < 21 then .snd (Fin.ofNat 3 ((s.val - 3) / 6)) (Fin.ofNat 6 ((s.val - 3) % 6))
      else .rcv (Fin.ofNat 3 ((s.val - 21) / 6)) (Fin.ofNat 6 ((s.val - 21) % 6))

/-- The protocol's cells of one device: the barrier and the closing cell, then per pipe and transfer the send cell and the
    receive cell. -/
abbrev CK : Type := Bool ⊕ (Bool × Fin 3 × Fin 6)

abbrev barS : Sem sig := (SemArray.scalar (sig.barrier 0 rfl) : Sems sig S_).sem
abbrev finS : Sem sig := (1 : Fin 2)
abbrev sndS (P : Fin 3) (i : Fin 6) : DmaSem sig := (⟨3 + 6 * P.val + i.val, by omega⟩ : Fin 39)
abbrev rcvS (P : Fin 3) (i : Fin 6) : DmaSem sig := (⟨21 + 6 * P.val + i.val, by omega⟩ : Fin 39)

def csem : CK → SemLoc sig
  | .inl false => .reg barS
  | .inl true => .reg finS
  | .inr (false, P, i) => .dma (sndS P i)
  | .inr (true, P, i) => .dma (rcvS P i)

def useCK : CK → Use
  | .inl false => .bar
  | .inl true => .fin
  | .inr (false, P, i) => .snd P i
  | .inr (true, P, i) => .rcv P i

theorem useOf_csem (k : CK) : useOf (csem k) = useCK k := by revert k; decide +kernel
theorem csem_injective : Function.Injective csem := by
  have h : ∀ k k', useCK k = useCK k' → k = k' := by decide +kernel
  exact fun k k' e => h k k' (by rw [← useOf_csem, ← useOf_csem, e])

abbrev kcell (c : Dev nD) (k : CK) : GSem nD τ sig := ((c : Thread nD τ), csem k)
abbrev barC (c : Dev nD) : GSem nD τ sig := kcell c (.inl false)
abbrev finC (c : Dev nD) : GSem nD τ sig := kcell c (.inl true)
abbrev sndC (P : Fin 3) (i : Fin 6) (c : Dev nD) : GSem nD τ sig := kcell c (.inr (false, P, i))
abbrev rcvC (P : Fin 3) (i : Fin 6) (c : Dev nD) : GSem nD τ sig := kcell c (.inr (true, P, i))

/-! ## Slots of a scratch -/

/-- The elements of a scratch in the slots `A`. -/
def slotIdx (n : ℕ) (A : Finset (Fin 8)) : Finset (⟨3, ![8, n, 2048]⟩ : Shape).Idx :=
  Finset.univ.filter fun i => (show Fin 8 from i 0) ∈ A

theorem mem_slotIdx {n : ℕ} {A : Finset (Fin 8)} {i : (⟨3, ![8, n, 2048]⟩ : Shape).Idx} :
    i ∈ slotIdx n A ↔ (show Fin 8 from i 0) ∈ A := by unfold slotIdx; rw [Finset.mem_filter]; exact and_iff_right (Finset.mem_univ _)
theorem slotIdx_union (n : ℕ) (A B : Finset (Fin 8)) : slotIdx n (A ∪ B) = slotIdx n A ∪ slotIdx n B := by
  ext i; rw [Finset.mem_union, mem_slotIdx, mem_slotIdx, mem_slotIdx, Finset.mem_union]
theorem slotIdx_disjoint {n : ℕ} {A B : Finset (Fin 8)} (h : Disjoint A B) : Disjoint (slotIdx n A) (slotIdx n B) :=
  Finset.disjoint_left.mpr fun i hi hj => Finset.disjoint_left.mp h (mem_slotIdx.mp hi) (mem_slotIdx.mp hj)
theorem slotIdx_univ (n : ℕ) : slotIdx n Finset.univ = Finset.univ := by
  ext i; rw [mem_slotIdx]; exact ⟨fun _ => Finset.mem_univ _, fun _ => Finset.mem_univ _⟩

section Slots
variable {n : ℕ} (M : Memref sig .tc .vmem ⟨3, ![8, n, 2048]⟩ .bf16)

/-- The slots `A` of the scratch `M`, held on device `c` at share `q` and contents `f`. -/
def PTn (c : Dev nD) (A : Finset (Fin 8)) (q : PosShare TreeShare) (f : Buf (Elt F) (M.view.loc (c : Thread nD τ))) : sProp 𝕄 :=
  M.view.loc (c : Thread nD τ) ↦[M.view.setOn (slotIdx n A)]{q} f

instance PTn_storable (c : Dev nD) (A) (q) (f) : BI.Storable (upEmb : UEmb _ 𝕄) (PTn (F := F) M c A q f) := by unfold PTn; infer_instance

omit [FloatOps F] in
theorem PTn_union (c : Dev nD) {A B : Finset (Fin 8)} (h : Disjoint A B) (q) (f) :
    (PTn (F := F) M c (A ∪ B) q f : sProp 𝕄) ⊣⊢ iprop(PTn M c A q f ∗ PTn M c B q f) := by
  unfold PTn
  rw [slotIdx_union, View.setOn, Finset.map_union]
  exact pointsTo_union ((Finset.disjoint_map _).mpr (slotIdx_disjoint h))

omit [FloatOps F] in
theorem PTn_share (c : Dev nD) (A : Finset (Fin 8)) (q) (f) :
    (PTn (F := F) M c A q f : sProp 𝕄) ⊣⊢ iprop(PTn M c A q.left f ∗ PTn M c A q.right f) :=
  pointsTo_share (PosShare.mem_left_op_right q)

omit [FloatOps F] in
theorem PTn_join (c : Dev nD) {A B : Finset (Fin 8)} (h : Disjoint A B) (q) (f g) :
    iprop(PTn (F := F) M c A q f ∗ PTn M c B q g) ⊢ (iprop(∃ f, PTn M c (A ∪ B) q f) : sProp 𝕄) := by
  unfold PTn
  rw [slotIdx_union, show M.view.setOn (slotIdx n A ∪ slotIdx n B) = M.view.setOn (slotIdx n A) ∪ M.view.setOn (slotIdx n B) from Finset.map_union _ _]
  iintro ⟨HA, HB⟩
  iexists (M.view.setOn (slotIdx n B)).piecewise g f
  iapply (pointsTo_join ((Finset.disjoint_map M.view.emb).mpr (slotIdx_disjoint h)))
  isplitl [HA] <;> iassumption

/-- The elements a slice of whole slots names. -/
theorem slice_set {k : ℕ} {off : Fin 3 → ℕ} (inb : ∀ a, off a + (⟨3, ![k, n, 2048]⟩ : Shape).size a ≤ (⟨3, ![8, n, 2048]⟩ : Shape).size a)
    {A : Finset (Fin 8)} (hA : ∀ v : Fin 8, v ∈ A ↔ off 0 ≤ v.val ∧ v.val < off 0 + k) (h1 : off 1 = 0) (h2 : off 2 = 0) :
    (M.view.slice (Rect.unit (s := ⟨3, ![8, n, 2048]⟩) off (⟨3, ![k, n, 2048]⟩ : Shape).size inb)).set = M.view.setOn (slotIdx n A) := by
  rw [View.set_slice, View.setOn]
  congr 1
  ext i
  rw [Rect.mem_set_unit, mem_slotIdx, hA]
  constructor
  · intro h; exact h 0
  · intro h a
    have e1 : (i 1).val < n := (i 1).isLt
    have e2 : (i 2).val < 2048 := (i 2).isLt
    fin_cases a
    · exact h
    · show off 1 ≤ (i 1).val ∧ (i 1).val < off 1 + n; omega
    · show off 2 ≤ (i 2).val ∧ (i 2).val < off 2 + 2048; omega

end Slots

/-! ## The three scratches and what they gather -/

abbrev sM0 : Memref sig .tc .vmem S8x96x2048 .bf16 := Memref.whole cc0_scratch0
abbrev sM1 : Memref sig .tc .vmem S8x80x2048 .bf16 := Memref.whole cc0_scratch1
abbrev sM2 : Memref sig .tc .vmem S8x80x2048 .bf16 := Memref.whole cc0_scratch2

variable (X : Dev nD → Vec F S256x2048 .bf16)

/-- What pipe `P` gathers, bands of `n` rows from row `r0`: slot `v` holds the band of the device `inv P v`. -/
def gath (n r0 : ℕ) (h : r0 + n ≤ 256) (P : Fin 3) : (⟨3, ![8, n, 2048]⟩ : Shape).Idx → Elt F .bf16 :=
  fun i => X (inv P (show Fin 8 from i 0)) (ix2 (n0 := 256) (n1 := 2048) ⟨r0 + (show Fin n from i 1).val, by have := (show Fin n from i 1).isLt; omega⟩ (show Fin 2048 from i 2))

def PT (P : Fin 3) (c : Dev nD) (A : Finset (Fin 8)) (q : PosShare TreeShare) : sProp 𝕄 :=
  match P with
  | 0 => PTn sM0 c A q (gath X 96 0 (by omega) 0)
  | 1 => PTn sM1 c A q (gath X 80 96 (by omega) 1)
  | 2 => PTn sM2 c A q (gath X 80 176 (by omega) 2)

/-- Slots of a scratch at any contents. -/
def Any (P : Fin 3) (c : Dev nD) (A : Finset (Fin 8)) : sProp 𝕄 :=
  match P with
  | 0 => iprop(∃ f, PTn sM0 c A fullShare f)
  | 1 => iprop(∃ f, PTn sM1 c A fullShare f)
  | 2 => iprop(∃ f, PTn sM2 c A fullShare f)

instance PT_storable (P c A q) : BI.Storable (upEmb : UEmb _ 𝕄) (PT (F := F) X P c A q) := by
  unfold PT; split <;> infer_instance
omit [FloatOps F] in
instance Any_storable (P c A) : BI.Storable (upEmb : UEmb _ 𝕄) (Any (F := F) P c A) := by
  unfold Any; split <;> infer_instance

omit [FloatOps F] in
theorem PT_any (P c A) : PT (F := F) X P c A fullShare ⊢ Any P c A := by
  unfold PT Any; split <;> (iintro H; iexists _; iexact H)
omit [FloatOps F] in
theorem PT_union (P c) {A B : Finset (Fin 8)} (h : Disjoint A B) (q) :
    PT (F := F) X P c (A ∪ B) q ⊣⊢ iprop(PT X P c A q ∗ PT X P c B q) := by
  unfold PT; split <;> exact PTn_union _ _ h _ _
omit [FloatOps F] in
theorem PT_share (P c A q) : PT (F := F) X P c A q ⊣⊢ iprop(PT X P c A q.left ∗ PT X P c A q.right) := by
  unfold PT; split <;> exact PTn_share _ _ _ _ _
omit [FloatOps F] in
theorem Any_union (P c) {A B : Finset (Fin 8)} (h : Disjoint A B) :
    Any (F := F) P c (A ∪ B) ⊣⊢ iprop(Any P c A ∗ Any P c B) := by
  constructor
  · unfold Any
    split <;>
    · iintro ⟨%f, H⟩
      ihave H' := (PTn_union _ _ h _ _).1 $$ H
      icases H' with ⟨HA, HB⟩
      isplitl [HA]
      · iexists f; iexact HA
      · iexists f; iexact HB
  · unfold Any
    split <;>
    · iintro ⟨⟨%f, HA⟩, ⟨%g, HB⟩⟩
      iapply (PTn_join _ _ h _ f g)
      isplitl [HA] <;> iassumption

/-! ## The schedule -/

/-- What a transfer of the shape `s` credits. -/
def crd (s : Shape) : ℕ := sig.dmaCredit .tc (Kind.table .tc .vmem) cc0_scratch0.idx s .bf16
theorem crd_pos (s : Shape) (h : 0 < s.numel) : 0 < crd s := sig.dmaCredit_pos _ _ _ s _ h

/-- The credit of transfer `i` of pipe `P`. -/
def amt : Fin 3 → Fin 6 → ℕ
  | 0, 5 => crd S2x96x2048
  | 0, _ => crd S1x96x2048
  | _, 5 => crd S2x80x2048
  | _, _ => crd S1x80x2048
theorem amt_pos (P : Fin 3) (i : Fin 6) : 0 < amt P i := by
  unfold amt; split <;> exact crd_pos _ (by decide)

/-- The landing place, on the device it goes to, of transfer `x` of device `c`. -/
def LandAt (c : Dev nD) (x : Fin 3 × Fin 6) : sProp 𝕄 := Any (F := F) x.1 (pr x.1 x.2 c) (sl x.1 x.2 c)

/-- The share of its source a transfer takes: transfers of one slot take different ones. -/
def qs (i : Fin 6) : PosShare TreeShare :=
  match i with
  | 0 => fullShare.left.left | 1 => fullShare.left.right | 3 => fullShare.right.left
  | 2 => fullShare.left.left | 4 => fullShare.left.right | 5 => fullShare.left

def dutiesU : Use → Finset (Fin 3)
  | .bar => Finset.univ | .fin => Finset.univ | .snd _ _ => {0} | .rcv _ _ => {0} | .other => ∅
def amountU : Use → ℕ
  | .bar => 1 | .fin => 1 | .snd P i => amt P i | .rcv P i => amt P i | .other => 1
def payU (c : Dev nD) (d : Fin 3) : Use → sProp 𝕄
  | .bar => bigSep (Finset.univ.filter fun x : Fin 3 × Fin 6 => ax x.1 x.2 = d) (LandAt (F := F) c)
  | .fin => iprop(emp)
  | .snd P i => PT X P c (sl P i c) (qs i)
  | .rcv P i => PT X P c (rl P i c) fullShare
  | .other => iprop(emp)

/-- The schedule: one round. -/
def Rd : Rounds.Schedule (GSem nD τ sig) (Fin 3) 𝕄 where
  duties g r := if r = 0 ∧ g.1.2 = .tc then dutiesU (useOf g.2) else ∅
  unitless _ := False
  amount g _ _ := amountU (useOf g.2)
  payload g _ d := payU X g.1.1 d (useOf g.2)
  amount_pos g _ _ _ := by
    unfold amountU; split <;> first | exact Nat.one_pos | exact amt_pos _ _

instance LandAt_storable (c : Dev nD) (x) : BI.Storable (upEmb : UEmb _ 𝕄) (LandAt (F := F) c x) := by unfold LandAt; infer_instance
instance payU_storable (c : Dev nD) (d : Fin 3) (u : Use) : BI.Storable (upEmb : UEmb _ 𝕄) (payU (F := F) X c d u) := by
  unfold payU; split <;> infer_instance
instance Rd_payload_storable (g : GSem nD τ sig) (r : ℕ) (d : Fin 3) :
    BI.Storable (upEmb : UEmb _ 𝕄) ((Rd (F := F) X).payload g r d) := payU_storable X _ _ _

omit [FloatOps F] in
theorem duties_eq (c : Dev nD) (k : CK) : (Rd (F := F) X).duties (kcell c k) 0 = dutiesU (useCK k) := by
  have h : (Rd (F := F) X).duties (kcell c k) 0 = dutiesU (useOf (csem k)) := by
    show (if (0 : ℕ) = 0 ∧ (kcell c k).1.2 = .tc then dutiesU (useOf (csem k)) else ∅) = _
    exact if_pos (And.intro rfl rfl)
  rw [h, useOf_csem]
omit [FloatOps F] in
theorem duties_later (g : GSem nD τ sig) : ∀ r, 1 ≤ r → (Rd (F := F) X).duties g r = ∅ :=
  fun r hr => if_neg fun h => by omega
omit [FloatOps F] in
theorem amount_eq (c : Dev nD) (k : CK) (r : ℕ) (d : Fin 3) : (Rd (F := F) X).amount (kcell c k) r d = amountU (useCK k) := by
  show amountU (useOf (csem k)) = _; rw [useOf_csem]
omit [FloatOps F] in
theorem payload_eq (c : Dev nD) (k : CK) (r : ℕ) (d : Fin 3) : (Rd (F := F) X).payload (kcell c k) r d = payU X c d (useCK k) := by
  show payU X c d (useOf (csem k)) = _; rw [useOf_csem]
omit [FloatOps F] in
theorem expect_eq (c : Dev nD) (k : CK) : (Rd (F := F) X).expect (kcell c k) 0 = (dutiesU (useCK k)).card * amountU (useCK k) := by
  unfold Schedule.expect Schedule.amountOf
  rw [duties_eq, Finset.sum_congr rfl fun d _ => amount_eq X c k 0 d, Finset.sum_const, smul_eq_mul]

/-! ## What is owed, and the levels -/

/-- A unit of work another device waits for: a barrier signal across an axis, a transfer, a closing signal. -/
inductive Ob : Type where
  | bar (d : Fin 3) | tr (P : Fin 3) (i : Fin 6) | fin (d : Fin 3)

/-- Them all, in the kernel's order. -/
def obls : List Ob :=
  [.bar 0, .bar 1, .bar 2,
   .tr 0 0, .tr 0 1, .tr 0 3, .tr 1 0, .tr 1 1, .tr 1 3, .tr 2 0, .tr 2 1, .tr 2 3,
   .tr 0 2, .tr 0 4, .tr 1 2, .tr 1 4, .tr 2 2, .tr 2 4, .tr 0 5, .tr 1 5, .tr 2 5,
   .fin 0, .fin 1, .fin 2]

/-- The cell, on whichever device, that a unit of work pays. -/
def obCK : Ob → CK
  | .bar _ => .inl false | .fin _ => .inl true | .tr P i => .inr (true, P, i)
def obDev (c : Dev nD) : Ob → Dev nD
  | .bar d => across d c | .fin d => across d c | .tr P i => pr P i c
def obAmt : Ob → ℕ
  | .bar _ => 1 | .fin _ => 1 | .tr P i => amt P i
def obCell (c : Dev nD) (o : Ob) : GSem nD τ sig := kcell (obDev c o) (obCK o)

def oweSum (c : Dev nD) : List Ob → CellTallies nD τ sig Unit
  | [] => 0
  | o :: l => oweSum c l + tallyAt (obCell c o) () (obAmt o)

theorem oweSum_pos (c : Dev nD) (l : List Ob) {g : GSem nD τ sig} {u : Unit} (h : 0 < oweSum c l g u) : ∃ o ∈ l, g = obCell c o := by
  induction l with
  | nil => exact absurd h (Nat.lt_irrefl 0)
  | cons o l ih =>
    unfold oweSum at h
    rw [Pi.add_apply, Finsupp.add_apply, tallyAt_apply] at h
    by_cases ho : g = obCell c o ∧ u = ()
    · exact ⟨o, List.mem_cons_self, ho.1⟩
    · rw [if_neg ho, Nat.add_zero] at h
      obtain ⟨o', h1, h2⟩ := ih h
      exact ⟨o', List.mem_cons_of_mem _ h1, h2⟩

def lvU : Use → ℕ
  | .bar => 1 | .fin => 5 | .snd _ _ => 0 | .rcv _ 0 => 2 | .rcv _ 5 => 4 | .rcv _ _ => 3 | .other => 0

def L (g : GSem nD τ sig) : Finset Unit := if g.1.2 = .tc then {()} else ∅
def lv (g : GSem nD τ sig) (_ : Unit) : ℕ := lvU (useOf g.2)

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a cell below everything it still owes. -/
theorem mayWait (c : Dev nD) (sm : SemLoc sig) (l : List Ob) (h : ∀ o ∈ l, lvU (useOf sm) < lvU (useCK (obCK o))) :
    (levAts L lv : sProp 𝕄) ⊢ MayWait (c : Thread nD τ) sm () (oweSum c l) :=
  MayOwe.of_cut (L := L) (lev := lv) (lvU (useOf sm))
    (fun p hp => by rw [Finset.mem_singleton.mp hp, L_tc]; exact Finset.mem_singleton_self _)
    (fun g u hg => by
      obtain ⟨o, _, rfl⟩ := oweSum_pos c l hg
      exact (L_tc _ _).symm ▸ Finset.mem_singleton_self _)
    (fun p hp => by rw [Finset.mem_singleton.mp hp]; exact le_rfl)
    (fun g u hg => by
      obtain ⟨o, ho, rfl⟩ := oweSum_pos c l hg
      show _ < lvU (useOf (csem (obCK o)))
      rw [useOf_csem]; exact h o ho)

/-- What device `c` still owes after the first `n` units of its work. -/
def Owe (c : Dev nD) (n : ℕ) : sProp 𝕄 := iprop(∃ W, owes (c : Thread nD τ) (oweSum c (obls.drop n)) W)

/-! ## What every step may use -/

/-- Every cell's invariant, that every cell has reached its round, and the levels. -/
def Recs (K : Dev nD × CK → ℕ) : sProp 𝕄 :=
  iprop((bigSep Finset.univ fun ck : Dev nD × CK => cellInv ER (Rd X) (K ck) (kcell ck.1 ck.2))
    ∗ (bigSep Finset.univ fun ck : Dev nD × CK => reached ER (kcell ck.1 ck.2) 0) ∗ levAts L lv)

instance Recs_persistent (K : Dev nD × CK → ℕ) : BI.Persistent (Recs (F := F) X K) := by unfold Recs; infer_instance

omit [FloatOps F] in
theorem Recs_inv (K : Dev nD × CK → ℕ) (c : Dev nD) (k : CK) : Recs (F := F) X K ⊢ cellInv ER (Rd X) (K (c, k)) (kcell c k) := by
  unfold Recs; iintro ⟨H, -, -⟩
  iapply (show (bigSep Finset.univ fun ck : Dev nD × CK => (cellInv ER (Rd X) (K ck) (kcell ck.1 ck.2) : sProp 𝕄)) ⊢ cellInv ER (Rd X) (K (c, k)) (kcell c k)
    from bigSep_elim (Finset.mem_univ (c, k)))
  iexact H
omit [FloatOps F] in
theorem Recs_reached (K : Dev nD × CK → ℕ) (c : Dev nD) (k : CK) : Recs (F := F) X K ⊢ reached ER (kcell c k) 0 := by
  unfold Recs
  iintro ⟨-, H, -⟩
  iapply (show (bigSep Finset.univ fun ck : Dev nD × CK => (reached ER (kcell ck.1 ck.2) 0 : sProp 𝕄)) ⊢ reached ER (kcell c k) 0
    from bigSep_elim (Finset.mem_univ (c, k)))
  iexact H
omit [FloatOps F] in
theorem Recs_lev (K : Dev nD × CK → ℕ) : Recs (F := F) X K ⊢ levAts L lv := by
  unfold Recs; iintro ⟨-, -, H⟩; iexact H

end Cert.Cube

end
-- ==== Proof.Steps.lean ====
/-
# One step of the protocol

The barrier's signal and wait, a transfer, the wait for what a transfer brings, the wait for a transfer of one's own to
have read its source, and the closing signal and wait: each as one rule that takes what the device holds for it and hands on what the
device holds afterwards.
-/
module

public import proofs.«01_k».proof.Proof.Proto

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-- The run of a program on device `c`. -/
abbrev wpT (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What a device holds for each step -/

/-- That a wait's round is still to come, and that it is over. -/
abbrev At0 (c : Dev nD) (k : CK) : sProp 𝕄 := atPos ER (kcell c k) 0 ∅ 0
abbrev At1 (c : Dev nD) (k : CK) : sProp 𝕄 := atPos ER (kcell c k) 1 ∅ 0

/-- The slots device `c` lends the transfer `x` that will arrive on it. -/
def Lend (c : Dev nD) (x : Fin 3 × Fin 6) : sProp 𝕄 := Any (F := F) x.1 c (rl x.1 x.2 c)
/-- A barrier signal across axis `d`, to be given. -/
def SigTok (c : Dev nD) (d : Fin 3) : sProp 𝕄 := dutyTok ER (barC (across d c)) 0 d
/-- A closing signal across axis `d`, to be given. -/
def FinTok (c : Dev nD) (d : Fin 3) : sProp 𝕄 := dutyTok ER (finC (across d c)) 0 d
/-- The tokens of a transfer, before the barrier. -/
def Tok (c : Dev nD) (x : Fin 3 × Fin 6) : sProp 𝕄 :=
  iprop(dutyTok ER (sndC x.1 x.2 c) 0 0 ∗ dutyTok ER (rcvC x.1 x.2 (pr x.1 x.2 c)) 0 0 ∗ At0 (F := F) c (.inr (false, x.1, x.2)))
/-- A transfer ready to go: its landing place, and its tokens. -/
def Rdy (c : Dev nD) (P : Fin 3) (i : Fin 6) : sProp 𝕄 := iprop(LandAt (F := F) c (P, i) ∗ Tok c (P, i))
/-- The source of a transfer. -/
def Src (X : Dev nD → Vec F S256x2048 .bf16) (c : Dev nD) (P : Fin 3) (i : Fin 6) : sProp 𝕄 := PT X P c (sl P i c) (qs i)
/-- A transfer under way. -/
def Sent (c : Dev nD) (P : Fin 3) (i : Fin 6) : sProp 𝕄 :=
  iprop(cred (tallyAt (sndC P i c) () (amt P i)) ∗ At0 (F := F) c (.inr (false, P, i)))
/-- An arrival to wait for. -/
def Rcv (c : Dev nD) (P : Fin 3) (i : Fin 6) : sProp 𝕄 :=
  iprop(cred (tallyAt (rcvC P i c) () (amt P i)) ∗ At0 (F := F) c (.inr (true, P, i)))
/-- The barrier and the closing wait to come. -/
def BarW (c : Dev nD) : sProp 𝕄 := iprop(cred (tallyAt (barC c) () 3) ∗ At0 (F := F) c (.inl false))
def FinW (c : Dev nD) : sProp 𝕄 := iprop(cred (tallyAt (finC c) () 3) ∗ At0 (F := F) c (.inl true))

variable (X : Dev nD → Vec F S256x2048 .bf16) (K : Dev nD × CK → ℕ)

/-! ## The schedule at each cell -/

omit [FloatOps F] in
theorem mem_bar (c : Dev nD) (d : Fin 3) : d ∈ (Rd (F := F) X).duties ((c : Thread nD τ), .reg barS) 0 := by
  have h : (Rd (F := F) X).duties ((c : Thread nD τ), .reg barS) 0 = dutiesU .bar := duties_eq X c (.inl false)
  rw [h]; exact Finset.mem_univ _
omit [FloatOps F] in
theorem mem_fin (c : Dev nD) (d : Fin 3) : d ∈ (Rd (F := F) X).duties ((c : Thread nD τ), .reg finS) 0 := by
  have h : (Rd (F := F) X).duties ((c : Thread nD τ), .reg finS) 0 = dutiesU .fin := duties_eq X c (.inl true)
  rw [h]; exact Finset.mem_univ _
omit [FloatOps F] in
theorem mem_snd (c : Dev nD) (P : Fin 3) (i : Fin 6) : 0 ∈ (Rd (F := F) X).duties ((c : Thread nD τ), .dma (sndS P i)) 0 := by
  have h : (Rd (F := F) X).duties ((c : Thread nD τ), .dma (sndS P i)) 0 = dutiesU (.snd P i) := duties_eq X c (.inr (false, P, i))
  rw [h]; exact Finset.mem_singleton_self _
omit [FloatOps F] in
theorem mem_rcv (c : Dev nD) (P : Fin 3) (i : Fin 6) : 0 ∈ (Rd (F := F) X).duties ((c : Thread nD τ), .dma (rcvS P i)) 0 := by
  have h : (Rd (F := F) X).duties ((c : Thread nD τ), .dma (rcvS P i)) 0 = dutiesU (.rcv P i) := duties_eq X c (.inr (true, P, i))
  rw [h]; exact Finset.mem_singleton_self _
omit [FloatOps F] in
theorem pay_bar (c : Dev nD) (d : Fin 3) : (Rd (F := F) X).payload ((c : Thread nD τ), .reg barS) 0 d
    = bigSep (Finset.univ.filter fun x : Fin 3 × Fin 6 => ax x.1 x.2 = d) (LandAt (F := F) c) := payload_eq X c (.inl false) 0 d
omit [FloatOps F] in
theorem pay_fin (c : Dev nD) (d : Fin 3) : (Rd (F := F) X).payload ((c : Thread nD τ), .reg finS) 0 d = iprop(emp) :=
  payload_eq X c (.inl true) 0 d
omit [FloatOps F] in
theorem pay_snd (c : Dev nD) (P : Fin 3) (i : Fin 6) (d : Fin 3) : (Rd (F := F) X).payload ((c : Thread nD τ), .dma (sndS P i)) 0 d
    = PT X P c (sl P i c) (qs i) := payload_eq X c (.inr (false, P, i)) 0 d
omit [FloatOps F] in
theorem pay_rcv (c : Dev nD) (P : Fin 3) (i : Fin 6) (d : Fin 3) : (Rd (F := F) X).payload ((c : Thread nD τ), .dma (rcvS P i)) 0 d
    = PT X P c (rl P i c) fullShare := payload_eq X c (.inr (true, P, i)) 0 d
omit [FloatOps F] in
theorem expect_three (c : Dev nD) (b : Bool) : 0 + 3 = (Rd (F := F) X).expect ((c : Thread nD τ), csem (.inl b)) 0 := by
  have h := expect_eq (F := F) X c (.inl b)
  rw [h]; cases b <;> decide
omit [FloatOps F] in
theorem expect_dma (c : Dev nD) (b : Bool) (P : Fin 3) (i : Fin 6) :
    0 + amt P i = (Rd (F := F) X).expect ((c : Thread nD τ), csem (.inr (b, P, i))) 0 := by
  have h := expect_eq (F := F) X c (.inr (b, P, i))
  rw [h, Nat.zero_add]; cases b <;> exact (Nat.one_mul _).symm

/-! ## Signals -/

omit [FloatOps F] in
/-- The slots lent across axis `d` are the landing places of the neighbour's transfers across it. -/
theorem lend_land (c : Dev nD) (d : Fin 3) :
    bigSep (Finset.univ.filter fun x : Fin 3 × Fin 6 => ax x.1 x.2 = d) (Lend (F := F) c)
      ⊢ bigSep (Finset.univ.filter fun x : Fin 3 × Fin 6 => ax x.1 x.2 = d) (LandAt (F := F) (across d c)) := by
  refine bigSep_mono fun x hx => ?_
  rw [← (Finset.mem_filter.mp hx).2]
  unfold Lend LandAt
  rw [show across (ax x.1 x.2) c = pr x.1 x.2 c from rfl, pr_pr, sl_pr]
  exact Entails.refl _

theorem step_sig (c : Dev nD) (d : Fin 3) (n : ℕ) (dst : Dev nD) (hdst : dst = across d c)
    (s : Sem sig) (hs : s = barS) (a : ℕ) (ha : a = 1) (hn : obls.drop n = Ob.bar d :: obls.drop (n + 1)) {α : Type}
    {k : PUnit → Prog (TpuEff nD τ sig (Elt F) Λ₀ .tc) α} {Q : α → sProp 𝕄} :
    Recs X K ⊢ iprop(SigTok c d -∗ (bigSep (Finset.univ.filter fun x : Fin 3 × Fin 6 => ax x.1 x.2 = d) (Lend (F := F) c)) -∗ Owe c n
      -∗ (Owe c (n + 1) -∗ wpT c (k ⟨⟩) Q) -∗ wpT c (.op (.semSignal (dst, .tc) s a) k) Q) := by
  subst hdst hs ha
  unfold SigTok Owe
  iintro #HR Htok Hl ⟨%W, HO⟩ Hk
  iapply (Rounds.wp_signal 𝒱₀ ER (Rd X) (c : Thread nD τ) none (dst := (across d c : Thread nD τ)) (κ := K (across d c, .inl false))
      (r := 0) (d := d) (mem_bar X _ d) (amount_eq X (across d c) (.inl false) 0 d) ()
      (O₀ := oweSum c (obls.drop n)) (oweSum c (obls.drop (n + 1))) (by rw [hn]; rfl) (W := W)) $$ [Htok Hl HO]
  · isplitr; · iapply (Recs_inv X K (across d c) (.inl false)); iexact HR
    isplitl [HO]; · iexact HO
    isplitl [Htok]; · iexact Htok
    isplitl [Hl]
    · rw [pay_bar]
      iapply (lend_land c d); iexact Hl
    · iapply (Recs_reached X K (across d c) (.inl false)); iexact HR
  iintro HO
  iapply Hk
  iexists W; iexact HO

theorem step_fin (c : Dev nD) (d : Fin 3) (n : ℕ) (dst : Dev nD) (hdst : dst = across d c)
    (s : Sem sig) (hs : s = finS) (a : ℕ) (ha : a = 1) (hn : obls.drop n = Ob.fin d :: obls.drop (n + 1)) {α : Type}
    {k : PUnit → Prog (TpuEff nD τ sig (Elt F) Λ₀ .tc) α} {Q : α → sProp 𝕄} :
    Recs X K ⊢ iprop(FinTok c d -∗ Owe c n
      -∗ (Owe c (n + 1) -∗ wpT c (k ⟨⟩) Q) -∗ wpT c (.op (.semSignal (dst, .tc) s a) k) Q) := by
  subst hdst hs ha
  unfold FinTok Owe
  iintro #HR Htok ⟨%W, HO⟩ Hk
  iapply (Rounds.wp_signal 𝒱₀ ER (Rd X) (c : Thread nD τ) none (dst := (across d c : Thread nD τ)) (κ := K (across d c, .inl true))
      (r := 0) (d := d) (mem_fin X _ d) (amount_eq X (across d c) (.inl true) 0 d) ()
      (O₀ := oweSum c (obls.drop n)) (oweSum c (obls.drop (n + 1))) (by rw [hn]; rfl) (W := W)) $$ [Htok HO]
  · isplitr; · iapply (Recs_inv X K (across d c) (.inl true)); iexact HR
    isplitl [HO]; · iexact HO
    isplitl [Htok]; · iexact Htok
    isplitr
    · rw [pay_fin]; iempintro
    · iapply (Recs_reached X K (across d c) (.inl true)); iexact HR
  iintro HO
  iapply Hk
  iexists W; iexact HO

/-! ## Waits -/

omit [FloatOps F] in
/-- A wait may be made at its place in the program. -/
theorem may (c : Dev nD) (k : CK) (n : ℕ) (h : ∀ o ∈ obls.drop n, lvU (useCK k) < lvU (useCK (obCK o))) :
    Recs X K ⊢ MayWait (c : Thread nD τ) (csem k) () (oweSum c (obls.drop n)) :=
  (Recs_lev X K).trans (mayWait c (csem k) _ (by rw [useOf_csem]; exact h))

omit [FloatOps F] in
/-- The barrier's round hands over every landing place. -/
theorem land_all (c : Dev nD) :
    bigSep ((Rd (F := F) X).duties ((c : Thread nD τ), .reg barS) 0 \ ∅) (fun d => (Rd (F := F) X).payload ((c : Thread nD τ), .reg barS) 0 d)
      ⊢ bigSep Finset.univ (LandAt (F := F) c) := by
  have h : (Rd (F := F) X).duties ((c : Thread nD τ), .reg barS) 0 = Finset.univ := duties_eq X c (.inl false)
  rw [Finset.sdiff_empty, h]
  refine (Entails.of_eq (bigSep_congr fun d _ => pay_bar X c d)).trans ?_
  have hu : (Finset.univ.biUnion fun d : Fin 3 => Finset.univ.filter fun x : Fin 3 × Fin 6 => ax x.1 x.2 = d) = Finset.univ := by decide +kernel
  have hb := bigSep_biUnion Finset.univ (fun d : Fin 3 => Finset.univ.filter fun x : Fin 3 × Fin 6 => ax x.1 x.2 = d) (Φ := LandAt (F := F) c)
  rw [hu] at hb
  exact hb

theorem step_barwait (c : Dev nD) (n : ℕ) (s : Sem sig) (hs : s = barS) (a : ℕ) (ha : a = 3)
    (hn : ∀ o ∈ obls.drop n, lvU .bar < lvU (useCK (obCK o))) {α : Type}
    {k : PUnit → Prog (TpuEff nD τ sig (Elt F) Λ₀ .tc) α} {Q : α → sProp 𝕄} :
    Recs X K ⊢ iprop(BarW c -∗ Owe c n
      -∗ ((bigSep Finset.univ (LandAt (F := F) c)) -∗ At1 c (.inl false) -∗ Owe c n -∗ wpT c (k ⟨⟩) Q)
      -∗ wpT c (.op (.semWait s a) k) Q) := by
  subst hs ha
  unfold BarW Owe
  iintro #HR ⟨Hc, Hat⟩ ⟨%W, HO⟩ Hk
  iapply (Rounds.wp_wait_rest_token 𝒱₀ ER (Rd X) (c : Thread nD τ) none (κ := K (c, .inl false))
      (wpE_semWait_eq 𝒱₀ (c : Thread nD τ) none Set.univ) (Set.mem_univ _) () (O := oweSum c (obls.drop n)) (W := W) (R := 0) (m := 0) (T := ∅)
      (expect_three X c false)) $$ [Hc HO Hat]
  · isplitr; · iapply (Recs_inv X K c (.inl false)); iexact HR
    isplitl [Hc]; · iexact Hc
    isplitl [HO]; · iexact HO
    isplitr; · iapply (may X K c (.inl false) n hn); iexact HR
    iexact Hat
  iintro ⟨HO, Hat, -, Hpay⟩
  iapply Hk $$ [Hpay] [Hat] [HO]
  · iapply (land_all X c); iexact Hpay
  · iexact Hat
  · iexists _; iexact HO

theorem step_finwait (c : Dev nD) (n : ℕ) (s : Sem sig) (hs : s = finS) (a : ℕ) (ha : a = 3)
    (hn : ∀ o ∈ obls.drop n, lvU .fin < lvU (useCK (obCK o))) {α : Type}
    {k : PUnit → Prog (TpuEff nD τ sig (Elt F) Λ₀ .tc) α} {Q : α → sProp 𝕄} :
    Recs X K ⊢ iprop(FinW c -∗ Owe c n
      -∗ (At1 c (.inl true) -∗ Owe c n -∗ wpT c (k ⟨⟩) Q)
      -∗ wpT c (.op (.semWait s a) k) Q) := by
  subst hs ha
  unfold FinW Owe
  iintro #HR ⟨Hc, Hat⟩ ⟨%W, HO⟩ Hk
  iapply (Rounds.wp_wait_rest_token 𝒱₀ ER (Rd X) (c : Thread nD τ) none (κ := K (c, .inl true))
      (wpE_semWait_eq 𝒱₀ (c : Thread nD τ) none Set.univ) (Set.mem_univ _) () (O := oweSum c (obls.drop n)) (W := W) (R := 0) (m := 0) (T := ∅)
      (expect_three X c true)) $$ [Hc HO Hat]
  · isplitr; · iapply (Recs_inv X K c (.inl true)); iexact HR
    isplitl [Hc]; · iexact Hc
    isplitl [HO]; · iexact HO
    isplitr; · iapply (may X K c (.inl true) n hn); iexact HR
    iexact Hat
  iintro ⟨HO, Hat, -, -⟩
  iapply Hk $$ [Hat] [HO]
  · iexact Hat
  · iexists _; iexact HO

omit [FloatOps F] in
theorem rest_snd (c : Dev nD) (P : Fin 3) (i : Fin 6) :
    bigSep ((Rd (F := F) X).duties ((c : Thread nD τ), .dma (sndS P i)) 0 \ ∅) (fun d => (Rd (F := F) X).payload ((c : Thread nD τ), .dma (sndS P i)) 0 d)
      ⊢ Src X c P i := by
  have h : (Rd (F := F) X).duties ((c : Thread nD τ), .dma (sndS P i)) 0 = {0} := duties_eq X c (.inr (false, P, i))
  rw [Finset.sdiff_empty, h, bigSep_singleton, pay_snd]; rfl
omit [FloatOps F] in
theorem rest_rcv (c : Dev nD) (P : Fin 3) (i : Fin 6) :
    bigSep ((Rd (F := F) X).duties ((c : Thread nD τ), .dma (rcvS P i)) 0 \ ∅) (fun d => (Rd (F := F) X).payload ((c : Thread nD τ), .dma (rcvS P i)) 0 d)
      ⊢ PT X P c (rl P i c) fullShare := by
  have h : (Rd (F := F) X).duties ((c : Thread nD τ), .dma (rcvS P i)) 0 = {0} := duties_eq X c (.inr (true, P, i))
  rw [Finset.sdiff_empty, h, bigSep_singleton, pay_rcv]

/-- The wait for a transfer to arrive. -/
theorem step_recv (c : Dev nD) (P : Fin 3) (i : Fin 6) (n : ℕ) {sp sp' : Space} {s s' : Shape} {e e' : EltTy} {κ' : Kind}
    (sem : DmaSem sig) (hs : sem = rcvS P i) {src : Memref sig .tc sp' s' e'} {dst : Memref sig κ' sp s e}
    {hsrc : src.view.WordExact} {hdst : dst.view.WordExact} (ha : dst.view.dmaCredit = amt P i)
    (hn : ∀ o ∈ obls.drop n, lvU (.rcv P i) < lvU (useCK (obCK o))) {α : Type}
    {k : PUnit → Prog (TpuEff nD τ sig (Elt F) Λ₀ .tc) α} {Q : α → sProp 𝕄} :
    Recs X K ⊢ iprop(Rcv c P i -∗ Owe c n
      -∗ (PT X P c (rl P i c) fullShare -∗ At1 c (.inr (true, P, i)) -∗ Owe c n -∗ wpT c (k ⟨⟩) Q)
      -∗ wpT c (.op (.waitDma2 sem src dst hsrc hdst) k) Q) := by
  subst hs
  unfold Rcv Owe
  rw [← ha]
  iintro #HR ⟨Hc, Hat⟩ ⟨%W, HO⟩ Hk
  iapply (Rounds.wp_wait_rest_token 𝒱₀ ER (Rd X) (c : Thread nD τ) none (κ := K (c, .inr (true, P, i)))
      (wpE_waitDma2_eq 𝒱₀ (c : Thread nD τ) none Set.univ) (Set.mem_univ _) () (O := oweSum c (obls.drop n)) (W := W) (R := 0) (m := 0) (T := ∅)
      (ha ▸ expect_dma X c true P i)) $$ [Hc HO Hat]
  · isplitr; · iapply (Recs_inv X K c (.inr (true, P, i))); iexact HR
    isplitl [Hc]; · iexact Hc
    isplitl [HO]; · iexact HO
    isplitr; · iapply (may X K c (.inr (true, P, i)) n hn); iexact HR
    iexact Hat
  iintro ⟨HO, Hat, -, Hpay⟩
  iapply Hk $$ [Hpay] [Hat] [HO]
  · iapply (rest_rcv X c P i); iexact Hpay
  · iexact Hat
  · iexists _; iexact HO

/-- The wait for a transfer of one's own to have read its source. -/
theorem step_swait (c : Dev nD) (P : Fin 3) (i : Fin 6) (n : ℕ) {sp sp' : Space} {s s' : Shape} {e e' : EltTy} {κ' : Kind}
    (sem : DmaSem sig) (hs : sem = sndS P i) {src : Memref sig .tc sp' s' e'} {dst : Memref sig κ' sp s e}
    {hsrc : src.view.WordExact} {hdst : dst.view.WordExact} (ha : dst.view.dmaCredit = amt P i)
    (hn : ∀ o ∈ obls.drop n, lvU (.snd P i) < lvU (useCK (obCK o))) {α : Type}
    {k : PUnit → Prog (TpuEff nD τ sig (Elt F) Λ₀ .tc) α} {Q : α → sProp 𝕄} :
    Recs X K ⊢ iprop(Sent c P i -∗ Owe c n
      -∗ (Src X c P i -∗ At1 c (.inr (false, P, i)) -∗ Owe c n -∗ wpT c (k ⟨⟩) Q)
      -∗ wpT c (.op (.waitDma2 sem src dst hsrc hdst) k) Q) := by
  subst hs
  unfold Sent Owe
  rw [← ha]
  iintro #HR ⟨Hc, Hat⟩ ⟨%W, HO⟩ Hk
  iapply (Rounds.wp_wait_rest_token 𝒱₀ ER (Rd X) (c : Thread nD τ) none (κ := K (c, .inr (false, P, i)))
      (wpE_waitDma2_eq 𝒱₀ (c : Thread nD τ) none Set.univ) (Set.mem_univ _) () (O := oweSum c (obls.drop n)) (W := W) (R := 0) (m := 0) (T := ∅)
      (ha ▸ expect_dma X c false P i)) $$ [Hc HO Hat]
  · isplitr; · iapply (Recs_inv X K c (.inr (false, P, i))); iexact HR
    isplitl [Hc]; · iexact Hc
    isplitl [HO]; · iexact HO
    isplitr; · iapply (may X K c (.inr (false, P, i)) n hn); iexact HR
    iexact Hat
  iintro ⟨HO, Hat, -, Hpay⟩
  iapply Hk $$ [Hpay] [Hat] [HO]
  · iapply (rest_snd X c P i); iexact Hpay
  · iexact Hat
  · iexists _; iexact HO

/-! ## A transfer -/

theorem step_send_gen (c : Dev nD) (P : Fin 3) (i : Fin 6) (m : ℕ) {s : Shape} (V : Memref sig .tc .vmem s .bf16)
    (g : Buf (Elt F) (V.view.loc (c : Thread nD τ)))
    (hsrc : Src X c P i ⊢ (V.view.loc (c : Thread nD τ) ↦[V.view.set]{qs i} g))
    (hback : (V.view.loc (c : Thread nD τ) ↦[V.view.set]{qs i} g) ⊢ PT X P c (sl P i c) (qs i))
    (hland : LandAt c (P, i) ⊢ (iprop(∃ f, V.view.loc (pr P i c : Thread nD τ) ↦[V.view.set]{fullShare} f) : sProp 𝕄))
    (hput : ∀ fd : Buf (Elt F) (V.view.loc (pr P i c : Thread nD τ)),
      (V.view.loc (pr P i c : Thread nD τ) ↦[V.view.set]{fullShare} (V.view.write (Elt F) fd (V.view.read (Elt F) g) Finset.univ))
        ⊢ PT X P (pr P i c) (sl P i c) fullShare)
    (dst : Dev nD) (hdst : dst = pr P i c) (sS sR : DmaSem sig) (hS : sS = sndS P i) (hR : sR = rcvS P i)
    (ha : V.view.dmaCredit = amt P i)
    {hsc : (V : Memref sig (Dev.tc dst : Thread nD τ).2.kind .vmem s .bf16).view.ref.isScScratch = false}
    {hwS hwD : V.view.WordExact}
    {hsem : DmaTarget.Typed .vmem (.dma sR) (.remote (Dev.tc dst : Thread nD τ) (V : Memref sig (Dev.tc dst : Thread nD τ).2.kind .vmem s .bf16) (.dma sS) hsc)}
    (hn : obls.drop m = Ob.tr P i :: obls.drop (m + 1)) {α : Type}
    {kk : PUnit → Prog (TpuEff nD τ sig (Elt F) Λ₀ .tc) α} {Q : α → sProp 𝕄} :
    Recs X K ⊢ iprop(Rdy c P i -∗ Src X c P i -∗ Owe c m
      -∗ (Sent c P i -∗ Owe c (m + 1) -∗ wpT c (kk ⟨⟩) Q)
      -∗ wpT c (.op (.enqueueDma V (.remote (Dev.tc dst : Thread nD τ) V (.dma sS) hsc) (.dma sR) hwS hwD hsem) kk) Q) := by
  subst hdst hS hR
  unfold Rdy Tok Owe Sent
  iintro #HR ⟨Hd, HtS, HtR, Hat⟩ Hs ⟨%W, HO⟩ Hk
  ihave Hd := hland $$ Hd
  icases Hd with ⟨%fd, Hd⟩
  ihave Hs := hsrc $$ Hs
  iapply (Rounds.wp_send_pointsTo 𝒱₀ ER (Rd X) (c : Thread nD τ) none (κ₁ := K (c, .inr (false, P, i))) (κ₂ := K (pr P i c, .inr (true, P, i)))
      (r₁ := 0) (r₂ := 0) (d₁ := 0) (d₂ := 0) (q := qs i) (fs := g) (fd := fd)
      (mem_snd X c P i) (mem_rcv X (pr P i c) P i)
      () () (amt P i) (by exact ha) (amount_eq X c (.inr (false, P, i)) 0 0) (amount_eq X (pr P i c) (.inr (true, P, i)) 0 0)
      (O₀ := oweSum c (obls.drop m)) (oweSum c (obls.drop (m + 1))) (by rw [hn]; rfl) (W := W)
      (by rw [pay_snd]; exact hback)
      (by rw [pay_rcv, rl_pr]; exact hput fd)) $$ [Hd Hs HO HtS HtR]
  · isplitr; · iapply (Recs_inv X K c (.inr (false, P, i))); iexact HR
    isplitr; · iapply (Recs_inv X K (pr P i c) (.inr (true, P, i))); iexact HR
    isplitl [Hs]; · iexact Hs
    isplitl [Hd]; · iexact Hd
    isplitl [HO]; · iexact HO
    isplitl [HtS]; · iexact HtS
    isplitr; · iapply (Recs_reached X K c (.inr (false, P, i))); iexact HR
    isplitl [HtR]; · iexact HtR
    iapply (Recs_reached X K (pr P i c) (.inr (true, P, i))); iexact HR
  iintro ⟨Hc, HO⟩
  iapply Hk $$ [Hc Hat] [HO]
  · isplitl [Hc]
    · iexact Hc
    · iexact Hat
  · iexists W; iexact HO

end Cert.Cube

end
-- ==== Proof.Moves.lean ====
/-
# Moving rows

The transfers, loads and stores of the kernel against the slots of a scratch: a transfer of slots that hold the gathered rows
lands as slots that hold the gathered rows; a load of a slot reads the rows of the device the slot belongs to; the store of a device's own rows makes its own slot hold what
is gathered there; and the store of a band of the result leaves the other bands alone.
-/
module

public import proofs.«01_k».proof.Proof.Steps
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (X : Dev nD → Vec F S256x2048 .bf16) (K : Dev nD × CK → ℕ)

/-! ## One scratch, whatever its band -/

section Gen
variable {n : ℕ} (M : Memref sig .tc .vmem ⟨3, ![8, n, 2048]⟩ .bf16) (P : Fin 3) (g : M.view.ty.Contents (Elt F))

/-- `M` is the scratch of pipe `P`, and `g` what it gathers. -/
structure IsPipe : Prop where
  pt : ∀ c A q, PT X P c A q = PTn M c A q g
  any : ∀ c A, Any (F := F) P c A = iprop(∃ f, PTn M c A fullShare f)

variable {X M P g} (H : IsPipe X M P g)
include H

theorem move {k : ℕ} (c : Dev nD) (i : Fin 6) (m : ℕ) {off : Fin 3 → ℕ}
    (inb : ∀ a, off a + (⟨3, ![k, n, 2048]⟩ : Shape).size a ≤ (⟨3, ![8, n, 2048]⟩ : Shape).size a)
    {b : ℕ} (hoff : off = ![b, 0, 0]) (hA : ∀ v : Fin 8, v ∈ sl P i c ↔ b ≤ v.val ∧ v.val < b + k) {hsl}
    (dst : Dev nD) (hdst : dst = pr P i c) (sS sR : DmaSem sig) (hS : sS = sndS P i) (hR : sR = rcvS P i)
    (ha : (M.slice (Rect.unit off (⟨3, ![k, n, 2048]⟩ : Shape).size inb) hsl).view.dmaCredit = amt P i)
    {hsc hwS hwD hsem}
    (hn : obls.drop m = Ob.tr P i :: obls.drop (m + 1)) {α : Type}
    {kk : PUnit → Prog (TpuEff nD τ sig (Elt F) Λ₀ .tc) α} {Q : α → sProp 𝕄} :
    Recs X K ⊢ iprop(Rdy c P i -∗ Src X c P i -∗ Owe c m
      -∗ (Sent c P i -∗ Owe c (m + 1) -∗ wpT c (kk ⟨⟩) Q)
      -∗ wpT c (.op (.enqueueDma (M.slice (Rect.unit off (⟨3, ![k, n, 2048]⟩ : Shape).size inb) hsl)
          (.remote (Dev.tc dst : Thread nD τ) (M.slice (Rect.unit off (⟨3, ![k, n, 2048]⟩ : Shape).size inb) hsl) (.dma sS) hsc) (.dma sR) hwS hwD hsem) kk) Q) := by
  have hset : (M.slice (Rect.unit off (⟨3, ![k, n, 2048]⟩ : Shape).size inb) hsl).view.set = M.view.setOn (slotIdx n (sl P i c)) :=
    slice_set M inb (A := sl P i c) (by subst hoff; exact hA) (by subst hoff; rfl) (by subst hoff; rfl)
  refine step_send_gen X K c P i m (M.slice (Rect.unit off (⟨3, ![k, n, 2048]⟩ : Shape).size inb) hsl) g ?_ ?_ ?_ ?_ dst hdst sS sR hS hR ha hn
  · unfold Src; rw [H.pt, hset]; exact Entails.refl _
  · rw [H.pt, hset]; exact Entails.refl _
  · unfold LandAt; rw [H.any, hset]; exact Entails.refl _
  · intro fd
    rw [H.pt]; unfold PTn
    rw [← hset]
    refine Entails.of_eq (pointsTo_congr fun x hx => ?_)
    rw [View.write_read_eq_piecewise, View.setOn_univ]
    unfold Finset.piecewise
    split
    · rfl
    · rename_i hx'; exact absurd hx hx'

/-- A slot's element, in the scratch. -/
theorem slot_emb {off : Fin 3 → ℕ} (inb : ∀ a, off a + (⟨3, ![1, n, 2048]⟩ : Shape).size a ≤ (⟨3, ![8, n, 2048]⟩ : Shape).size a)
    {s : Fin 8} (hoff : off = ![s.val, 0, 0]) (x : (⟨3, ![1, n, 2048]⟩ : Shape).Idx) :
    (Rect.unit (s := ⟨3, ![8, n, 2048]⟩) off (⟨3, ![1, n, 2048]⟩ : Shape).size inb).emb x = ix3 s (x 1) (x 2) := by
  subst hoff
  funext a
  apply Fin.ext
  have h0 : (x 0).val < 1 := (x 0).isLt
  fin_cases a
  · show s.val + 1 * (x 0).val = s.val; omega
  · show 0 + 1 * (x 1).val = (x 1).val; omega
  · show 0 + 1 * (x 2).val = (x 2).val; omega

omit H in
theorem one_slot {s v : Fin 8} : v ∈ ({s} : Finset (Fin 8)) ↔ s.val ≤ v.val ∧ v.val < s.val + 1 := by
  rw [Finset.mem_singleton, Fin.ext_iff]; omega

theorem take (c : Dev nD) (A : Finset (Fin 8)) (q : PosShare TreeShare) {off : Fin 3 → ℕ}
    (inb : ∀ a, off a + (⟨3, ![1, n, 2048]⟩ : Shape).size a ≤ (⟨3, ![8, n, 2048]⟩ : Shape).size a)
    {s : Fin 8} (hoff : off = ![s.val, 0, 0]) (hs : s ∈ A) {hl} {α : Type}
    {kk : ((⟨3, ![1, n, 2048]⟩ : Shape).Idx → Elt F .bf16) → Prog (TpuEff nD τ sig (Elt F) Λ₀ .tc) α} {Q : α → sProp 𝕄} :
    PT X P c A q ⊢ iprop((PT X P c A q -∗ wpT c (kk fun x => M.view.read (Elt F) g (ix3 s (x 1) (x 2))) Q)
      -∗ wpT c (.op (.load M (Rect.unit (s := ⟨3, ![8, n, 2048]⟩) off (⟨3, ![1, n, 2048]⟩ : Shape).size inb).toLoadRect hl) kk) Q) := by
  have hset : (M.view.slice (Rect.unit off (⟨3, ![1, n, 2048]⟩ : Shape).size inb)).set = M.view.setOn (slotIdx n {s}) :=
    slice_set M inb (A := {s}) (by subst hoff; exact fun v => one_slot) (by subst hoff; rfl) (by subst hoff; rfl)
  have hsub : (M.access (Rect.unit (s := ⟨3, ![8, n, 2048]⟩) off (⟨3, ![1, n, 2048]⟩ : Shape).size inb)).set ⊆ M.view.setOn (slotIdx n A) := by
    refine hset.subset.trans (Finset.map_subset_map.mpr fun i hi => ?_)
    rw [mem_slotIdx] at hi ⊢
    rw [Finset.mem_singleton.mp hi]; exact hs
  have hval : (M.access (Rect.unit (s := ⟨3, ![8, n, 2048]⟩) off (⟨3, ![1, n, 2048]⟩ : Shape).size inb)).read (Elt F) g
      = fun x => M.view.read (Elt F) g (ix3 s (x 1) (x 2)) := by
    funext x
    exact congrArg (M.view.read (Elt F) g) (slot_emb H inb hoff x)
  rw [H.pt]; unfold PTn
  iintro HP Hk
  iapply (wp_load_rect 𝒱₀ (c : Thread nD τ) none Set.univ (m := M)
    (r := Rect.unit (s := ⟨3, ![8, n, 2048]⟩) off (⟨3, ![1, n, 2048]⟩ : Shape).size inb) hsub (q := q) (f := g)) $$ [HP]
  · iexact HP
  iintro HP
  rw [hval]
  iapply Hk
  iexact HP

/-- The load and the store of a device's own slot: whatever the slot held, it holds its rows. -/
theorem put_own (c : Dev nD) {off : Fin 3 → ℕ}
    (inb : ∀ a, off a + (⟨3, ![1, n, 2048]⟩ : Shape).size a ≤ (⟨3, ![8, n, 2048]⟩ : Shape).size a)
    {s : Fin 8} (hoff : off = ![s.val, 0, 0]) (w : (⟨3, ![1, n, 2048]⟩ : Shape).Idx → Elt F .bf16)
    (hw : ∀ x, w x = M.view.read (Elt F) g (ix3 s (x 1) (x 2))) {hl hx hm} {α : Type}
    {kk : PUnit → Prog (TpuEff nD τ sig (Elt F) Λ₀ .tc) α} {Q : α → sProp 𝕄} :
    Any P c {s} ⊢ iprop((PT X P c {s} fullShare -∗ wpT c (kk ⟨⟩) Q)
      -∗ wpT c (.op (.load M (Rect.unit (s := ⟨3, ![8, n, 2048]⟩) off (⟨3, ![1, n, 2048]⟩ : Shape).size inb).toLoadRect hl) fun _ =>
        .op (.store M (Rect.unit (s := ⟨3, ![8, n, 2048]⟩) off (⟨3, ![1, n, 2048]⟩ : Shape).size inb) w Finset.univ hx hm) kk) Q) := by
  have hset : (M.access (Rect.unit (s := ⟨3, ![8, n, 2048]⟩) off (⟨3, ![1, n, 2048]⟩ : Shape).size inb)).set = M.view.setOn (slotIdx n {s}) :=
    slice_set M inb (A := {s}) (by subst hoff; exact fun v => one_slot) (by subst hoff; rfl) (by subst hoff; rfl)
  have hlast : ∀ f : M.view.ty.Contents (Elt F), (M.view.loc (c : Thread nD τ) ↦[M.view.setOn (slotIdx n {s})]{fullShare}
      ((M.access (Rect.unit (s := ⟨3, ![8, n, 2048]⟩) off (⟨3, ![1, n, 2048]⟩ : Shape).size inb)).write (Elt F) f w Finset.univ) : sProp 𝕄)
      = (M.view.loc (c : Thread nD τ) ↦[M.view.setOn (slotIdx n {s})]{fullShare} g) := by
    intro f
    refine pointsTo_congr fun i hi => ?_
    rw [← hset] at hi
    obtain ⟨x, _, rfl⟩ := Finset.mem_map.mp hi
    have e : w x = M.view.read (Elt F) g ((Rect.unit (s := ⟨3, ![8, n, 2048]⟩) off (⟨3, ![1, n, 2048]⟩ : Shape).size inb).emb x) :=
      (hw x).trans (congrArg (M.view.read (Elt F) g) (slot_emb H inb hoff x).symm)
    rw [View.write_emb_of_mem _ _ (Finset.mem_univ x), e, View.read_apply, cast_cast, cast_eq]
    rfl
  rw [H.pt, H.any]; unfold PTn
  iintro ⟨%f, HP⟩ Hk
  iapply (wp_load_rect 𝒱₀ (c : Thread nD τ) none Set.univ (m := M)
    (r := Rect.unit (s := ⟨3, ![8, n, 2048]⟩) off (⟨3, ![1, n, 2048]⟩ : Shape).size inb) hset.subset (q := fullShare) (f := f)) $$ [HP]
  · iexact HP
  iintro HP
  iapply (wp_store 𝒱₀ (c : Thread nD τ) none Set.univ (m := M)
    (r := Rect.unit (s := ⟨3, ![8, n, 2048]⟩) off (⟨3, ![1, n, 2048]⟩ : Shape).size inb) (Mk := Finset.univ) hset.subset (f := f)) $$ [HP]
  · iexact HP
  iintro HP
  iapply Hk
  ihave HP := (Entails.of_eq (hlast f)) $$ HP
  iexact HP

end Gen

theorem isPipe0 : IsPipe X sM0 0 (gath X 96 0 (by omega) 0) := ⟨fun _ _ _ => rfl, fun _ _ => rfl⟩
theorem isPipe1 : IsPipe X sM1 1 (gath X 80 96 (by omega) 1) := ⟨fun _ _ _ => rfl, fun _ _ => rfl⟩
theorem isPipe2 : IsPipe X sM2 2 (gath X 80 176 (by omega) 2) := ⟨fun _ _ _ => rfl, fun _ _ => rfl⟩

/-- The band of rows pipe `P` takes of the device that slot `s` belongs to. -/
def slotVec (n r0 : ℕ) (h : r0 + n ≤ 256) (P : Fin 3) (s : Fin 8) : (⟨3, ![1, n, 2048]⟩ : Shape).Idx → Elt F .bf16 :=
  fun x => gath X n r0 h P (ix3 s (show Fin n from x 1) (show Fin 2048 from x 2))

theorem take0 (c : Dev nD) (A : Finset (Fin 8)) (q : PosShare TreeShare) {off : Fin 3 → ℕ} (inb : ∀ a, off a + S1x96x2048.size a ≤ S8x96x2048.size a)
    {s : Fin 8} (hoff : off = ![s.val, 0, 0]) (hs : s ∈ A) {hl} {α : Type}
    {kk : Vec F S1x96x2048 .bf16 → Prog (TpuEff nD τ sig (Elt F) Λ₀ .tc) α} {Q : α → sProp 𝕄} :
    PT X 0 c A q ⊢ iprop((PT X 0 c A q -∗ wpT c (kk (slotVec X 96 0 (by omega) 0 s)) Q)
      -∗ wpT c (.op (.load sM0 (Rect.unit (s := S8x96x2048) off S1x96x2048.size inb).toLoadRect hl) kk) Q) :=
  take (isPipe0 X) c A q inb hoff hs
theorem take1 (c : Dev nD) (A : Finset (Fin 8)) (q : PosShare TreeShare) {off : Fin 3 → ℕ} (inb : ∀ a, off a + S1x80x2048.size a ≤ S8x80x2048.size a)
    {s : Fin 8} (hoff : off = ![s.val, 0, 0]) (hs : s ∈ A) {hl} {α : Type}
    {kk : Vec F S1x80x2048 .bf16 → Prog (TpuEff nD τ sig (Elt F) Λ₀ .tc) α} {Q : α → sProp 𝕄} :
    PT X 1 c A q ⊢ iprop((PT X 1 c A q -∗ wpT c (kk (slotVec X 80 96 (by omega) 1 s)) Q)
      -∗ wpT c (.op (.load sM1 (Rect.unit (s := S8x80x2048) off S1x80x2048.size inb).toLoadRect hl) kk) Q) :=
  take (isPipe1 X) c A q inb hoff hs
theorem take2 (c : Dev nD) (A : Finset (Fin 8)) (q : PosShare TreeShare) {off : Fin 3 → ℕ} (inb : ∀ a, off a + S1x80x2048.size a ≤ S8x80x2048.size a)
    {s : Fin 8} (hoff : off = ![s.val, 0, 0]) (hs : s ∈ A) {hl} {α : Type}
    {kk : Vec F S1x80x2048 .bf16 → Prog (TpuEff nD τ sig (Elt F) Λ₀ .tc) α} {Q : α → sProp 𝕄} :
    PT X 2 c A q ⊢ iprop((PT X 2 c A q -∗ wpT c (kk (slotVec X 80 176 (by omega) 2 s)) Q)
      -∗ wpT c (.op (.load sM2 (Rect.unit (s := S8x80x2048) off S1x80x2048.size inb).toLoadRect hl) kk) Q) :=
  take (isPipe2 X) c A q inb hoff hs

theorem move0 {k : ℕ} (c : Dev nD) (i : Fin 6) (m : ℕ) {off : Fin 3 → ℕ}
    (inb : ∀ a, off a + (⟨3, ![k, 96, 2048]⟩ : Shape).size a ≤ S8x96x2048.size a)
    {b : ℕ} (hoff : off = ![b, 0, 0]) (hA : ∀ v : Fin 8, v ∈ sl 0 i c ↔ b ≤ v.val ∧ v.val < b + k) {hsl}
    (dst : Dev nD) (hdst : dst = pr 0 i c) (sS sR : DmaSem sig) (hS : sS = sndS 0 i) (hR : sR = rcvS 0 i)
    (ha : (sM0.slice (Rect.unit off (⟨3, ![k, 96, 2048]⟩ : Shape).size inb) hsl).view.dmaCredit = amt 0 i)
    {hsc hwS hwD hsem} (hn : obls.drop m = Ob.tr 0 i :: obls.drop (m + 1)) {α : Type}
    {kk : PUnit → Prog (TpuEff nD τ sig (Elt F) Λ₀ .tc) α} {Q : α → sProp 𝕄} :
    Recs X K ⊢ iprop(Rdy c 0 i -∗ Src X c 0 i -∗ Owe c m
      -∗ (Sent c 0 i -∗ Owe c (m + 1) -∗ wpT c (kk ⟨⟩) Q)
      -∗ wpT c (.op (.enqueueDma (sM0.slice (Rect.unit (s := S8x96x2048) off (⟨3, ![k, 96, 2048]⟩ : Shape).size inb) hsl)
          (.remote (Dev.tc dst : Thread nD τ) (sM0.slice (Rect.unit (s := S8x96x2048) off (⟨3, ![k, 96, 2048]⟩ : Shape).size inb) hsl) (.dma sS) hsc) (.dma sR) hwS hwD hsem) kk) Q) :=
  move K (isPipe0 X) c i m inb hoff hA dst hdst sS sR hS hR ha hn
theorem move1 {k : ℕ} (c : Dev nD) (i : Fin 6) (m : ℕ) {off : Fin 3 → ℕ}
    (inb : ∀ a, off a + (⟨3, ![k, 80, 2048]⟩ : Shape).size a ≤ S8x80x2048.size a)
    {b : ℕ} (hoff : off = ![b, 0, 0]) (hA : ∀ v : Fin 8, v ∈ sl 1 i c ↔ b ≤ v.val ∧ v.val < b + k) {hsl}
    (dst : Dev nD) (hdst : dst = pr 1 i c) (sS sR : DmaSem sig) (hS : sS = sndS 1 i) (hR : sR = rcvS 1 i)
    (ha : (sM1.slice (Rect.unit off (⟨3, ![k, 80, 2048]⟩ : Shape).size inb) hsl).view.dmaCredit = amt 1 i)
    {hsc hwS hwD hsem} (hn : obls.drop m = Ob.tr 1 i :: obls.drop (m + 1)) {α : Type}
    {kk : PUnit → Prog (TpuEff nD τ sig (Elt F) Λ₀ .tc) α} {Q : α → sProp 𝕄} :
    Recs X K ⊢ iprop(Rdy c 1 i -∗ Src X c 1 i -∗ Owe c m
      -∗ (Sent c 1 i -∗ Owe c (m + 1) -∗ wpT c (kk ⟨⟩) Q)
      -∗ wpT c (.op (.enqueueDma (sM1.slice (Rect.unit (s := S8x80x2048) off (⟨3, ![k, 80, 2048]⟩ : Shape).size inb) hsl)
          (.remote (Dev.tc dst : Thread nD τ) (sM1.slice (Rect.unit (s := S8x80x2048) off (⟨3, ![k, 80, 2048]⟩ : Shape).size inb) hsl) (.dma sS) hsc) (.dma sR) hwS hwD hsem) kk) Q) :=
  move K (isPipe1 X) c i m inb hoff hA dst hdst sS sR hS hR ha hn
theorem move2 {k : ℕ} (c : Dev nD) (i : Fin 6) (m : ℕ) {off : Fin 3 → ℕ}
    (inb : ∀ a, off a + (⟨3, ![k, 80, 2048]⟩ : Shape).size a ≤ S8x80x2048.size a)
    {b : ℕ} (hoff : off = ![b, 0, 0]) (hA : ∀ v : Fin 8, v ∈ sl 2 i c ↔ b ≤ v.val ∧ v.val < b + k) {hsl}
    (dst : Dev nD) (hdst : dst = pr 2 i c) (sS sR : DmaSem sig) (hS : sS = sndS 2 i) (hR : sR = rcvS 2 i)
    (ha : (sM2.slice (Rect.unit off (⟨3, ![k, 80, 2048]⟩ : Shape).size inb) hsl).view.dmaCredit = amt 2 i)
    {hsc hwS hwD hsem} (hn : obls.drop m = Ob.tr 2 i :: obls.drop (m + 1)) {α : Type}
    {kk : PUnit → Prog (TpuEff nD τ sig (Elt F) Λ₀ .tc) α} {Q : α → sProp 𝕄} :
    Recs X K ⊢ iprop(Rdy c 2 i -∗ Src X c 2 i -∗ Owe c m
      -∗ (Sent c 2 i -∗ Owe c (m + 1) -∗ wpT c (kk ⟨⟩) Q)
      -∗ wpT c (.op (.enqueueDma (sM2.slice (Rect.unit (s := S8x80x2048) off (⟨3, ![k, 80, 2048]⟩ : Shape).size inb) hsl)
          (.remote (Dev.tc dst : Thread nD τ) (sM2.slice (Rect.unit (s := S8x80x2048) off (⟨3, ![k, 80, 2048]⟩ : Shape).size inb) hsl) (.dma sS) hsc) (.dma sR) hwS hwD hsem) kk) Q) :=
  move K (isPipe2 X) c i m inb hoff hA dst hdst sS sR hS hR ha hn

/-! ## A device's own rows -/

theorem pay2_rows (c : Dev nD) (x : S1x96x2048.Idx) : k0_pay2 (X c) x = slotVec X 96 0 (by omega) 0 (tt 0 c) x := by
  have h0 : (x 0).val < 1 := (x 0).isLt
  have h1 : (x 1).val < 96 := (x 1).isLt
  unfold k0_pay2 k0_pay1 slotVec gath
  refine (shapeCast_apply _ _ x (ix2 (n0 := 96) (n1 := 2048) (x 1) (x 2)) ?_).trans ?_
  · rw [Shape.rowMajor_val_two, Shape.rowMajor_val_three]
    show (x 1).val * 2048 + (x 2).val = ((x 0).val * 96 + (x 1).val) * 2048 + (x 2).val
    omega
  refine (extractStridedSlice_apply _ _ _ _ (ix2 (n0 := 256) (n1 := 2048) ⟨0 + (x 1).val, by omega⟩ (x 2)) ?_).trans ?_
  · intro a; fin_cases a
    · rfl
    · exact (Nat.zero_add _).symm
  refine (shapeCast_apply _ _ _ (ix2 (n0 := 256) (n1 := 2048) ⟨0 + (x 1).val, by omega⟩ (x 2)) rfl).trans ?_
  show _ = X (inv 0 (tt 0 c)) _
  rw [inv_tt]
theorem pay3_rows (c : Dev nD) (x : S1x80x2048.Idx) : k0_pay3 (X c) x = slotVec X 80 96 (by omega) 1 (tt 1 c) x := by
  have h0 : (x 0).val < 1 := (x 0).isLt
  have h1 : (x 1).val < 80 := (x 1).isLt
  unfold k0_pay3 k0_pay1 slotVec gath
  refine (shapeCast_apply _ _ x (ix2 (n0 := 80) (n1 := 2048) (x 1) (x 2)) ?_).trans ?_
  · rw [Shape.rowMajor_val_two, Shape.rowMajor_val_three]
    show (x 1).val * 2048 + (x 2).val = ((x 0).val * 80 + (x 1).val) * 2048 + (x 2).val
    omega
  refine (extractStridedSlice_apply _ _ _ _ (ix2 (n0 := 256) (n1 := 2048) ⟨96 + (x 1).val, by omega⟩ (x 2)) ?_).trans ?_
  · intro a; fin_cases a
    · rfl
    · exact (Nat.zero_add _).symm
  refine (shapeCast_apply _ _ _ (ix2 (n0 := 256) (n1 := 2048) ⟨96 + (x 1).val, by omega⟩ (x 2)) rfl).trans ?_
  show _ = X (inv 1 (tt 1 c)) _
  rw [inv_tt]
theorem pay4_rows (c : Dev nD) (x : S1x80x2048.Idx) : k0_pay4 (X c) x = slotVec X 80 176 (by omega) 2 (tt 2 c) x := by
  have h0 : (x 0).val < 1 := (x 0).isLt
  have h1 : (x 1).val < 80 := (x 1).isLt
  unfold k0_pay4 k0_pay1 slotVec gath
  refine (shapeCast_apply _ _ x (ix2 (n0 := 80) (n1 := 2048) (x 1) (x 2)) ?_).trans ?_
  · rw [Shape.rowMajor_val_two, Shape.rowMajor_val_three]
    show (x 1).val * 2048 + (x 2).val = ((x 0).val * 80 + (x 1).val) * 2048 + (x 2).val
    omega
  refine (extractStridedSlice_apply _ _ _ _ (ix2 (n0 := 256) (n1 := 2048) ⟨176 + (x 1).val, by omega⟩ (x 2)) ?_).trans ?_
  · intro a; fin_cases a
    · rfl
    · exact (Nat.zero_add _).symm
  refine (shapeCast_apply _ _ _ (ix2 (n0 := 256) (n1 := 2048) ⟨176 + (x 1).val, by omega⟩ (x 2)) rfl).trans ?_
  show _ = X (inv 2 (tt 2 c)) _
  rw [inv_tt]

/-! ## The output -/

abbrev oM : Memref sig .tc .vmem S2048x256 .f32 := Memref.whole cc0_stg2_0
abbrev xM : Memref sig .tc .vmem S256x2048 .bf16 := Memref.whole cc0_stg0_0
abbrev wM : Memref sig .tc .vmem S2048x256 .bf16 := Memref.whole cc0_stg1_0

/-- The rows of a band, and its first row. -/
def bn : Fin 3 → ℕ | 0 => 96 | 1 => 80 | 2 => 80
def br : Fin 3 → ℕ | 0 => 0 | 1 => 96 | 2 => 176
theorem br_le (P : Fin 3) : br P + bn P ≤ 256 := by fin_cases P <;> decide

theorem band_inj : ∀ (P' P : Fin 3) (v u : ℕ), v < bn P' → u < bn P → br P' + v = br P + u → P' = P
  | 0, 0, _, _, _, _, _ => rfl
  | 1, 1, _, _, _, _, _ => rfl
  | 2, 2, _, _, _, _, _ => rfl
  | 0, 1, v, u, h, h', e => by simp only [bn, br] at h h' e; omega
  | 0, 2, v, u, h, h', e => by simp only [bn, br] at h h' e; omega
  | 1, 0, v, u, h, h', e => by simp only [bn, br] at h h' e; omega
  | 1, 2, v, u, h, h', e => by simp only [bn, br] at h h' e; omega
  | 2, 0, v, u, h, h', e => by simp only [bn, br] at h h' e; omega
  | 2, 1, v, u, h, h', e => by simp only [bn, br] at h h' e; omega

/-- What the kernel stores for the band of pipe `P` and slot `s`. -/
def sval (w : FVec F S2048x256 .bf16) (P : Fin 3) (s : Fin 8) : (⟨2, ![bn P, 256]⟩ : Shape).Idx → Elt F .f32 :=
  match P with
  | 0 => k0_pay7 w (slotVec X 96 0 (by omega) 0 s)
  | 1 => k0_pay10 w (slotVec X 80 96 (by omega) 1 s)
  | 2 => k0_pay10 w (slotVec X 80 176 (by omega) 2 s)

theorem row_lt (P : Fin 3) (s : Fin 8) (a : Fin (bn P)) : 256 * (inv P s).val + br P + a.val < 2048 := by
  have := br_le P; have := a.isLt; have := (inv P s).isLt; have : (inv P s).val < 8 := (inv P s).isLt; omega

/-- An output that holds the bands in `S`. -/
def Good (w : FVec F S2048x256 .bf16) (S : Finset (Fin 3 × Fin 8)) (f : (cc0_stg2_0 : Ref sig .tc).ty.Contents (Elt F)) : Prop :=
  ∀ P s, (P, s) ∈ S → ∀ (a : Fin (bn P)) (j : Fin 256),
    f (ix2 (n0 := 2048) (n1 := 256) ⟨256 * (inv P s).val + br P + a.val, row_lt P s a⟩ j) = sval X w P s (ix2 a j)

/-- The output on device `c`, the bands in `S` stored. -/
def OutB (w : FVec F S2048x256 .bf16) (c : Dev nD) (S : Finset (Fin 3 × Fin 8)) : sProp 𝕄 :=
  iprop(∃ f : Buf (Elt F) ((c : Thread nD τ).loc cc0_stg2_0), ⌜Good X w S f⌝ ∗ (((c : Thread nD τ).loc cc0_stg2_0) ↦{fullShare} f))

theorem good_store (w : FVec F S2048x256 .bf16) (S : Finset (Fin 3 × Fin 8)) (P : Fin 3) (s : Fin 8)
    {off : Fin 2 → ℕ} (hoff : off = ![256 * (inv P s).val + br P, 0])
    (inb : ∀ a, off a + (⟨2, ![bn P, 256]⟩ : Shape).size a ≤ S2048x256.size a)
    (f : (cc0_stg2_0 : Ref sig .tc).ty.Contents (Elt F)) (hf : Good X w S f) :
    Good X w (insert (P, s) S) ((oM.access (Rect.unit (s := S2048x256) off (⟨2, ![bn P, 256]⟩ : Shape).size inb)).write (Elt F) f (sval X w P s) Finset.univ) := by
  intro P' s' hS a j
  have hemb : ∀ (b : Fin (bn P)) (j : Fin 256), (oM.access (Rect.unit (s := S2048x256) off (⟨2, ![bn P, 256]⟩ : Shape).size inb)).emb (ix2 b j)
      = ix2 (n0 := 2048) (n1 := 256) ⟨256 * (inv P s).val + br P + b.val, row_lt P s b⟩ j := by
    intro b j
    subst hoff
    funext d
    apply Fin.ext
    fin_cases d
    · show (256 * (inv P s).val + br P) + 1 * b.val = _
      show _ = 256 * (inv P s).val + br P + b.val
      omega
    · show 0 + 1 * j.val = j.val; omega
  by_cases he : (P', s') = (P, s)
  · obtain ⟨rfl, rfl⟩ := Prod.mk.injEq _ _ _ _ ▸ he
    rw [← hemb, View.write_emb_of_mem _ _ (Finset.mem_univ _)]
    rfl
  · rw [View.write_of_not_mem]
    · exact hf P' s' (Finset.mem_of_mem_insert_of_ne hS he) a j
    · intro hm
      obtain ⟨x, _, hx⟩ := Finset.mem_map.mp hm
      obtain ⟨b, j', rfl⟩ : ∃ (b : Fin (bn P)) (j' : Fin 256), x = ix2 b j' := ⟨x 0, x 1, ValueIdx.eq_ix2 (n0 := bn P) (n1 := 256) x⟩
      have hx' := (hemb b j').symm.trans hx
      have h0 : 256 * (inv P s).val + br P + b.val = 256 * (inv P' s').val + br P' + a.val := congrArg Fin.val (congrFun hx' 0)
      have hb := b.isLt
      have ha := a.isLt
      have h1 := br_le P
      have h2 := br_le P'
      have hu : (inv P s).val = (inv P' s').val := by omega
      apply he
      have hP : P' = P := by
        exact band_inj P' P _ _ ha hb (by omega)
      subst hP
      have := congrArg (tt P') (Fin.ext hu : inv P' s = inv P' s')
      rw [tt_inv, tt_inv] at this
      rw [this]

/-- The load and the store of a band of the output. -/
theorem put_out_gen (w : FVec F S2048x256 .bf16) (c : Dev nD) (S : Finset (Fin 3 × Fin 8)) (P : Fin 3) (s : Fin 8)
    {off : Fin 2 → ℕ} (hoff : off = ![256 * (inv P s).val + br P, 0])
    (inb : ∀ a, off a + (⟨2, ![bn P, 256]⟩ : Shape).size a ≤ S2048x256.size a)
    (v : (⟨2, ![bn P, 256]⟩ : Shape).Idx → Elt F .f32) (hv : v = sval X w P s) {hl hx hm} {α : Type}
    {kk : PUnit → Prog (TpuEff nD τ sig (Elt F) Λ₀ .tc) α} {Q : α → sProp 𝕄} :
    OutB X w c S ⊢ iprop((OutB X w c (insert (P, s) S) -∗ wpT c (kk ⟨⟩) Q)
      -∗ wpT c (.op (.load oM (Rect.unit (s := S2048x256) off (⟨2, ![bn P, 256]⟩ : Shape).size inb).toLoadRect hl) fun _ =>
        .op (.store oM (Rect.unit (s := S2048x256) off (⟨2, ![bn P, 256]⟩ : Shape).size inb) v Finset.univ hx hm) kk) Q) := by
  subst hv
  unfold OutB
  iintro ⟨%f, %hf, HP⟩ Hk
  iapply (wp_load 𝒱₀ (c : Thread nD τ) none Set.univ (m := oM) (Finset.subset_univ _)) $$ HP
  iintro HP
  iapply (wp_store 𝒱₀ (c : Thread nD τ) none Set.univ (m := oM) (r := Rect.unit (s := S2048x256) off (⟨2, ![bn P, 256]⟩ : Shape).size inb) (f := f) (S := Finset.univ) (Mk := Finset.univ) (Finset.subset_univ _)) $$ HP
  iintro HP
  iapply Hk
  iexists _
  isplitr
  · ipureintro; exact good_store X w S P s hoff inb f hf
  · iexact HP

end Cert.Cube

end
-- ==== Proof.Flow.lean ====
/-
# What a device holds, split and put together

The staged blocks, a device's own slot, the bands of the output; and the shares of a pipe's slots among the transfers that read
them, from the start of the body to its end.
-/
module

public import proofs.«01_k».proof.Proof.Moves
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (X : Dev nD → Vec F S256x2048 .bf16) (W : Dev nD → Vec F S2048x256 .bf16) (K : Dev nD × CK → ℕ)

theorem wpT_ret (c : Dev nD) {α : Type} {v : α} {Q : α → sProp 𝕄} : Q v ⊢ wpT c (.ret v) Q := by
  unfold wpT
  iintro H
  rw [wp_ret]; imodintro; iexact H

/-! ## The staged blocks -/

theorem zero2 : (![0, 0] : Fin 2 → ℕ) = fun _ => 0 := by decide

/-- The staged block of `x` on device `c`, and that of the weights. -/
def XB (c : Dev nD) : sProp 𝕄 := iprop(((c : Thread nD τ).loc cc0_stg0_0) ↦{fullShare} (X c : Buf (Elt F) ((c : Thread nD τ).loc cc0_stg0_0)))
def WB (c : Dev nD) : sProp 𝕄 := iprop(((c : Thread nD τ).loc cc0_stg1_0) ↦{fullShare} (W c : Buf (Elt F) ((c : Thread nD τ).loc cc0_stg1_0)))

theorem get_x (c : Dev nD) {inb hl} {α : Type}
    {kk : Vec F S256x2048 .bf16 → Prog (TpuEff nD τ sig (Elt F) Λ₀ .tc) α} {Q : α → sProp 𝕄} :
    XB X c ⊢ iprop((XB X c -∗ wpT c (kk (X c)) Q)
      -∗ wpT c (.op (.load xM (Rect.unit (s := S256x2048) ![0, 0] S256x2048.size inb).toLoadRect hl) kk) Q) := by
  unfold XB
  have h : xM.view.readAt (Elt F) (Rect.unit (s := S256x2048) ![0, 0] S256x2048.size inb).toLoadRect (X c) = X c :=
    Memref.readAt_unit_zero (Elt F) cc0_stg0_0 zero2 _ _
  iintro HP Hk
  iapply (wp_load 𝒱₀ (c : Thread nD τ) none Set.univ (m := xM) (f := X c) (Finset.subset_univ _)) $$ HP
  iintro HP
  rw [h]
  iapply Hk $$ HP
theorem get_w (c : Dev nD) {inb hl} {α : Type}
    {kk : Vec F S2048x256 .bf16 → Prog (TpuEff nD τ sig (Elt F) Λ₀ .tc) α} {Q : α → sProp 𝕄} :
    WB W c ⊢ iprop((WB W c -∗ wpT c (kk (W c)) Q)
      -∗ wpT c (.op (.load wM (Rect.unit (s := S2048x256) ![0, 0] S2048x256.size inb).toLoadRect hl) kk) Q) := by
  unfold WB
  have h : wM.view.readAt (Elt F) (Rect.unit (s := S2048x256) ![0, 0] S2048x256.size inb).toLoadRect (W c) = W c :=
    Memref.readAt_unit_zero (Elt F) cc0_stg1_0 zero2 _ _
  iintro HP Hk
  iapply (wp_load 𝒱₀ (c : Thread nD τ) none Set.univ (m := wM) (f := W c) (Finset.subset_univ _)) $$ HP
  iintro HP
  rw [h]
  iapply Hk $$ HP

/-! ## A device's own slot -/

theorem own0 (c : Dev nD) {off : Fin 3 → ℕ} (inb : ∀ a, off a + S1x96x2048.size a ≤ S8x96x2048.size a)
    (hoff : off = ![(tt 0 c).val, 0, 0]) {hl hx hm} {α : Type}
    {kk : PUnit → Prog (TpuEff nD τ sig (Elt F) Λ₀ .tc) α} {Q : α → sProp 𝕄} :
    Any 0 c {tt 0 c} ⊢ iprop((PT X 0 c {tt 0 c} fullShare -∗ wpT c (kk ⟨⟩) Q)
      -∗ wpT c (.op (.load sM0 (Rect.unit (s := S8x96x2048) off S1x96x2048.size inb).toLoadRect hl) fun _ =>
        .op (.store sM0 (Rect.unit (s := S8x96x2048) off S1x96x2048.size inb) (k0_pay2 (X c)) Finset.univ hx hm) kk) Q) :=
  put_own (isPipe0 X) c inb hoff _ (pay2_rows X c)
theorem own1 (c : Dev nD) {off : Fin 3 → ℕ} (inb : ∀ a, off a + S1x80x2048.size a ≤ S8x80x2048.size a)
    (hoff : off = ![(tt 1 c).val, 0, 0]) {hl hx hm} {α : Type}
    {kk : PUnit → Prog (TpuEff nD τ sig (Elt F) Λ₀ .tc) α} {Q : α → sProp 𝕄} :
    Any 1 c {tt 1 c} ⊢ iprop((PT X 1 c {tt 1 c} fullShare -∗ wpT c (kk ⟨⟩) Q)
      -∗ wpT c (.op (.load sM1 (Rect.unit (s := S8x80x2048) off S1x80x2048.size inb).toLoadRect hl) fun _ =>
        .op (.store sM1 (Rect.unit (s := S8x80x2048) off S1x80x2048.size inb) (k0_pay3 (X c)) Finset.univ hx hm) kk) Q) :=
  put_own (isPipe1 X) c inb hoff _ (pay3_rows X c)
theorem own2 (c : Dev nD) {off : Fin 3 → ℕ} (inb : ∀ a, off a + S1x80x2048.size a ≤ S8x80x2048.size a)
    (hoff : off = ![(tt 2 c).val, 0, 0]) {hl hx hm} {α : Type}
    {kk : PUnit → Prog (TpuEff nD τ sig (Elt F) Λ₀ .tc) α} {Q : α → sProp 𝕄} :
    Any 2 c {tt 2 c} ⊢ iprop((PT X 2 c {tt 2 c} fullShare -∗ wpT c (kk ⟨⟩) Q)
      -∗ wpT c (.op (.load sM2 (Rect.unit (s := S8x80x2048) off S1x80x2048.size inb).toLoadRect hl) fun _ =>
        .op (.store sM2 (Rect.unit (s := S8x80x2048) off S1x80x2048.size inb) (k0_pay4 (X c)) Finset.univ hx hm) kk) Q) :=
  put_own (isPipe2 X) c inb hoff _ (pay4_rows X c)

/-! ## The bands of the output -/

theorem put0 (w : FVec F S2048x256 .bf16) (c : Dev nD) (S : Finset (Fin 3 × Fin 8)) (s : Fin 8)
    {off : Fin 2 → ℕ} (hoff : off = ![256 * (inv 0 s).val + 0, 0])
    (inb : ∀ a, off a + S96x256.size a ≤ S2048x256.size a)
    (v : FVec F S96x256 .f32) (hv : v = k0_pay7 w (slotVec X 96 0 (by omega) 0 s)) {hl hx hm} {α : Type}
    {kk : PUnit → Prog (TpuEff nD τ sig (Elt F) Λ₀ .tc) α} {Q : α → sProp 𝕄} :
    OutB X w c S ⊢ iprop((OutB X w c (insert (0, s) S) -∗ wpT c (kk ⟨⟩) Q)
      -∗ wpT c (.op (.load oM (Rect.unit (s := S2048x256) off S96x256.size inb).toLoadRect hl) fun _ =>
        .op (.store oM (Rect.unit (s := S2048x256) off S96x256.size inb) v Finset.univ hx hm) kk) Q) :=
  put_out_gen X w c S 0 s hoff inb v hv
theorem put1 (w : FVec F S2048x256 .bf16) (c : Dev nD) (S : Finset (Fin 3 × Fin 8)) (s : Fin 8)
    {off : Fin 2 → ℕ} (hoff : off = ![256 * (inv 1 s).val + 96, 0])
    (inb : ∀ a, off a + S80x256.size a ≤ S2048x256.size a)
    (v : FVec F S80x256 .f32) (hv : v = k0_pay10 w (slotVec X 80 96 (by omega) 1 s)) {hl hx hm} {α : Type}
    {kk : PUnit → Prog (TpuEff nD τ sig (Elt F) Λ₀ .tc) α} {Q : α → sProp 𝕄} :
    OutB X w c S ⊢ iprop((OutB X w c (insert (1, s) S) -∗ wpT c (kk ⟨⟩) Q)
      -∗ wpT c (.op (.load oM (Rect.unit (s := S2048x256) off S80x256.size inb).toLoadRect hl) fun _ =>
        .op (.store oM (Rect.unit (s := S2048x256) off S80x256.size inb) v Finset.univ hx hm) kk) Q) :=
  put_out_gen X w c S 1 s hoff inb v hv
theorem put2 (w : FVec F S2048x256 .bf16) (c : Dev nD) (S : Finset (Fin 3 × Fin 8)) (s : Fin 8)
    {off : Fin 2 → ℕ} (hoff : off = ![256 * (inv 2 s).val + 176, 0])
    (inb : ∀ a, off a + S80x256.size a ≤ S2048x256.size a)
    (v : FVec F S80x256 .f32) (hv : v = k0_pay10 w (slotVec X 80 176 (by omega) 2 s)) {hl hx hm} {α : Type}
    {kk : PUnit → Prog (TpuEff nD τ sig (Elt F) Λ₀ .tc) α} {Q : α → sProp 𝕄} :
    OutB X w c S ⊢ iprop((OutB X w c (insert (2, s) S) -∗ wpT c (kk ⟨⟩) Q)
      -∗ wpT c (.op (.load oM (Rect.unit (s := S2048x256) off S80x256.size inb).toLoadRect hl) fun _ =>
        .op (.store oM (Rect.unit (s := S2048x256) off S80x256.size inb) v Finset.univ hx hm) kk) Q) :=
  put_out_gen X w c S 2 s hoff inb v hv

/-! ## Splitting what a device holds among its transfers -/

omit [FloatOps F] in
theorem split_own (P : Fin 3) (c : Dev nD) : PT X P c {tt P c} fullShare
    ⊢ iprop(Src X c P 0 ∗ Src X c P 1 ∗ Src X c P 3 ∗ PT X P c {tt P c} fullShare.right.right) := by
  unfold Src
  iintro H
  ihave H := (PT_share X P c {tt P c} fullShare).1 $$ H
  icases H with ⟨HL, HR⟩
  ihave HL := (PT_share X P c {tt P c} fullShare.left).1 $$ HL
  icases HL with ⟨H0, H1⟩
  ihave HR := (PT_share X P c {tt P c} fullShare.right).1 $$ HR
  icases HR with ⟨H3, H⟩
  isplitl [H0]; · iexact H0
  isplitl [H1]; · iexact H1
  isplitl [H3]; · iexact H3
  iexact H
omit [FloatOps F] in
theorem join_own (P : Fin 3) (c : Dev nD) :
    iprop(Src X c P 0 ∗ Src X c P 1 ∗ Src X c P 3 ∗ PT X P c {tt P c} fullShare.right.right) ⊢ PT X P c {tt P c} fullShare := by
  unfold Src
  iintro ⟨H0, H1, H3, H⟩
  iapply (PT_share X P c {tt P c} fullShare).2
  isplitl [H0 H1]
  · iapply (PT_share X P c {tt P c} fullShare.left).2
    isplitl [H0]; · iexact H0
    iexact H1
  · iapply (PT_share X P c {tt P c} fullShare.right).2
    isplitl [H3]; · iexact H3
    iexact H
omit [FloatOps F] in
theorem split_fst (P : Fin 3) (c : Dev nD) : PT X P c (rl P 0 c) fullShare
    ⊢ iprop(Src X c P 2 ∗ Src X c P 4 ∗ PT X P c (rl P 0 c) fullShare.right) := by
  unfold Src
  iintro H
  ihave H := (PT_share X P c (rl P 0 c) fullShare).1 $$ H
  icases H with ⟨HL, HR⟩
  ihave HL := (PT_share X P c (rl P 0 c) fullShare.left).1 $$ HL
  icases HL with ⟨H0, H1⟩
  isplitl [H0]; · iexact H0
  isplitl [H1]; · iexact H1
  iexact HR
omit [FloatOps F] in
theorem join_fst (P : Fin 3) (c : Dev nD) :
    iprop(Src X c P 2 ∗ Src X c P 4 ∗ PT X P c (rl P 0 c) fullShare.right) ⊢ PT X P c (rl P 0 c) fullShare := by
  unfold Src
  iintro ⟨H0, H1, H⟩
  iapply (PT_share X P c (rl P 0 c) fullShare).2
  isplitl [H0 H1]
  · iapply (PT_share X P c (rl P 0 c) fullShare.left).2
    isplitl [H0]; · iexact H0
    iexact H1
  · iexact H
omit [FloatOps F] in
theorem split_snd (P : Fin 3) (c : Dev nD) : iprop(PT X P c (rl P 1 c) fullShare ∗ PT X P c (rl P 2 c) fullShare)
    ⊢ iprop(Src X c P 5 ∗ PT X P c (rl P 1 c) fullShare.right ∗ PT X P c (rl P 2 c) fullShare.right) := by
  unfold Src
  iintro ⟨H1, H2⟩
  ihave H1 := (PT_share X P c (rl P 1 c) fullShare).1 $$ H1
  icases H1 with ⟨H1L, H1R⟩
  ihave H2 := (PT_share X P c (rl P 2 c) fullShare).1 $$ H2
  icases H2 with ⟨H2L, H2R⟩
  isplitl [H1L H2L]
  · rw [src5]
    iapply (PT_union X P c (disj_src5 P c) fullShare.left).2
    isplitl [H1L]; · iexact H1L
    iexact H2L
  isplitl [H1R]; · iexact H1R
  iexact H2R
omit [FloatOps F] in
theorem join_snd (P : Fin 3) (c : Dev nD) :
    iprop(Src X c P 5 ∗ PT X P c (rl P 1 c) fullShare.right ∗ PT X P c (rl P 2 c) fullShare.right)
      ⊢ iprop(PT X P c (rl P 1 c) fullShare ∗ PT X P c (rl P 2 c) fullShare) := by
  unfold Src
  iintro ⟨H, H1R, H2R⟩
  rw [src5]
  ihave H := (show PT X P c ({away P c 2} ∪ {away P c 3}) (qs 5) ⊢ _ from (PT_union X P c (disj_src5 P c) fullShare.left).1) $$ H
  icases H with ⟨H1L, H2L⟩
  isplitl [H1L H1R]
  · iapply (PT_share X P c (rl P 1 c) fullShare).2
    isplitl [H1L]; · iexact H1L
    iexact H1R
  · iapply (PT_share X P c (rl P 2 c) fullShare).2
    isplitl [H2L]; · iexact H2L
    iexact H2R

/-- At the end, a pipe's shares put together: its whole scratch. -/
def Parts (P : Fin 3) (c : Dev nD) : sProp 𝕄 :=
  iprop((Src X c P 0 ∗ Src X c P 1 ∗ Src X c P 3 ∗ PT X P c {tt P c} fullShare.right.right)
    ∗ (Src X c P 2 ∗ Src X c P 4 ∗ PT X P c (rl P 0 c) fullShare.right)
    ∗ (Src X c P 5 ∗ PT X P c (rl P 1 c) fullShare.right ∗ PT X P c (rl P 2 c) fullShare.right)
    ∗ PT X P c (rl P 3 c) fullShare ∗ PT X P c (rl P 4 c) fullShare ∗ PT X P c (rl P 5 c) fullShare)

omit [FloatOps F] in
theorem join_parts (P : Fin 3) (c : Dev nD) : Parts X P c ⊢ Any P c Finset.univ := by
  unfold Parts
  iintro ⟨Ho, Hf, Hs, H3, H4, H5⟩
  ihave Ho := join_own X P c $$ Ho
  ihave Hf := join_fst X P c $$ Hf
  ihave Hs := join_snd X P c $$ Hs
  icases Hs with ⟨H1, H2⟩
  rw [← slots_cover P c]
  iapply (PT_any X P c _)
  iapply (PT_union X P c (disj_own P c) fullShare).2
  isplitl [Ho]; · iexact Ho
  iapply (PT_union X P c (disj_0 P c) fullShare).2
  isplitl [Hf]; · iexact Hf
  iapply (PT_union X P c (disj_1 P c) fullShare).2
  isplitl [H1]; · iexact H1
  iapply (PT_union X P c (disj_2 P c) fullShare).2
  isplitl [H2]; · iexact H2
  iapply (PT_union X P c (disj_3 P c) fullShare).2
  isplitl [H3]; · iexact H3
  iapply (PT_union X P c (disj_4 P c) fullShare).2
  isplitl [H4]; · iexact H4
  iexact H5

omit [FloatOps F] in
/-- At the start, a pipe's scratch taken apart: the device's own slot, and what it lends each arrival. -/
theorem split_any (P : Fin 3) (c : Dev nD) : Any P c Finset.univ
    ⊢ (iprop(Any P c {tt P c} ∗ Lend c (P, 0) ∗ Lend c (P, 1) ∗ Lend c (P, 2) ∗ Lend c (P, 3) ∗ Lend c (P, 4) ∗ Lend c (P, 5)) : sProp 𝕄) := by
  unfold Lend
  rw [← slots_cover P c]
  iintro H
  ihave H := (Any_union P c (disj_own P c)).1 $$ H
  icases H with ⟨Ho, H⟩
  isplitl [Ho]; · iexact Ho
  ihave H := (Any_union P c (disj_0 P c)).1 $$ H
  icases H with ⟨Ho, H⟩
  isplitl [Ho]; · iexact Ho
  ihave H := (Any_union P c (disj_1 P c)).1 $$ H
  icases H with ⟨Ho, H⟩
  isplitl [Ho]; · iexact Ho
  ihave H := (Any_union P c (disj_2 P c)).1 $$ H
  icases H with ⟨Ho, H⟩
  isplitl [Ho]; · iexact Ho
  ihave H := (Any_union P c (disj_3 P c)).1 $$ H
  icases H with ⟨Ho, H⟩
  isplitl [Ho]; · iexact Ho
  iapply (Any_union P c (disj_4 P c)).1; iexact H

/-- After the barrier every transfer has its landing place beside its tokens. -/
theorem ready (c : Dev nD) : iprop(bigSep Finset.univ (LandAt (F := F) c) ∗ bigSep Finset.univ (Tok (F := F) c))
    ⊢ (iprop(Rdy c 0 0 ∗ Rdy c 0 1 ∗ Rdy c 0 3 ∗ Rdy c 1 0 ∗ Rdy c 1 1 ∗ Rdy c 1 3 ∗ Rdy c 2 0 ∗ Rdy c 2 1 ∗ Rdy c 2 3 ∗ Rdy c 0 2 ∗ Rdy c 0 4 ∗ Rdy c 1 2 ∗ Rdy c 1 4 ∗ Rdy c 2 2 ∗ Rdy c 2 4 ∗ Rdy c 0 5 ∗ Rdy c 1 5 ∗ Rdy c 2 5) : sProp 𝕄) := by
  refine (Entails.of_eq (bigSep_sep _ _ _).symm).trans ?_
  exact Entails.of_eq (bigSep_univ_eq_bigSepL ([(0, 0), (0, 1), (0, 3), (1, 0), (1, 1), (1, 3), (2, 0), (2, 1), (2, 3), (0, 2), (0, 4), (1, 2), (1, 4), (2, 2), (2, 4), (0, 5), (1, 5), (2, 5)] : List (Fin 3 × Fin 6)) (by decide +kernel) (by decide +kernel) _)

/-- The two slots of a last transfer, in address order. -/
theorem two_slots : ∀ (P : Fin 3) (c : Dev nD) (v : Fin 8), v ∈ sl P 5 c ↔ (pair P c 2).val ≤ v.val ∧ v.val < (pair P c 2).val + 2 := by
  decide +kernel
theorem own_slot (P : Fin 3) (c : Dev nD) : ∀ v : Fin 8, v ∈ ({tt P c} : Finset (Fin 8)) ↔ (tt P c).val ≤ v.val ∧ v.val < (tt P c).val + 1 :=
  fun v => one_slot
theorem fst_slot (P : Fin 3) (c : Dev nD) : ∀ v : Fin 8, v ∈ ({away P c 1} : Finset (Fin 8)) ↔ (away P c 1).val ≤ v.val ∧ v.val < (away P c 1).val + 1 :=
  fun v => one_slot

end Cert.Cube

end
-- ==== Proof.Ghost.lean ====
/-
The resources the machine starts with, dealt to the devices: from every semaphore at zero, the invariant of every
cell; the token of each unit of work to the device that does it; to each device the credit its own waits spend.
-/
module

public import proofs.«01_k».proof.Proof.Flow
public import proofs.«01_k».proof.Proof.Gen.KernelIdeal.Launch
public import Idealize.ShloMosaic.Lib.Pipeline.Launch
public import Idealize.ShloMosaic.Lib.Pipeline.Kit

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-! ## The cells, and the tokens made for them -/

theorem kcell_injective : Function.Injective (fun x : Dev nD × CK => kcell x.1 x.2) := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨_, kcell_injective⟩

/-- The duties of one device's cells: three on each barrier cell, one on each transfer cell. -/
abbrev TI : Type := (Bool × Fin 3) ⊕ (Bool × Fin 3 × Fin 6)
/-- The cell of a duty; -/
def tk : TI → CK
  | .inl (b, _) => .inl b
  | .inr x => .inr x
/-- its name there; -/
def td : TI → Fin 3
  | .inl (_, d) => d
  | .inr _ => 0
/-- and the device whose cell it is, of which device `c` does the work. -/
def te : TI → Dev nD → Dev nD
  | .inl (_, d), c => across d c
  | .inr (false, _, _), c => c
  | .inr (true, P, i), c => pr P i c

theorem te_te (t : TI) (c : Dev nD) : te t (te t c) = c := by
  rcases t with ⟨b, d⟩ | ⟨_ | _, P, i⟩
  · exact across_across d c
  · rfl
  · exact pr_pr P i c

def tequiv (t : TI) : Dev nD ≃ Dev nD := ⟨te t, te t, te_te t, te_te t⟩

theorem tktd_inj : ∀ t t' : TI, tk t = tk t' → td t = td t' → t = t'
  | .inl (b, d), .inl (b', d'), h, h' => by
    have := Sum.inl.inj h; simp only [td] at h'; rw [this, h']
  | .inl (b, d), .inr x, h, _ => by cases h
  | .inr x, .inl (b, d), h, _ => by cases h
  | .inr x, .inr y, h, _ => by rw [show x = y from Sum.inr.inj h]

def tokOf (x : Dev nD × TI) : GSem nD τ sig × ℕ × Fin 3 := (kcell x.1 (tk x.2), 0, td x.2)
theorem tokOf_injective : Function.Injective tokOf := by
  rintro ⟨c, t⟩ ⟨c', t'⟩ h
  have h1 := kcell_injective (a₁ := (c, tk t)) (a₂ := (c', tk t')) (congrArg (fun y : GSem nD τ sig × ℕ × Fin 3 => y.1) h)
  have h2 : td t = td t' := congrArg (fun y : GSem nD τ sig × ℕ × Fin 3 => y.2.2) h
  rw [show c = c' from congrArg Prod.fst h1, tktd_inj t t' (congrArg Prod.snd h1) h2]

def toks : Finset (GSem nD τ sig × ℕ × Fin 3) := Finset.univ.map ⟨tokOf, tokOf_injective⟩

/-- The ghost state at launch: the pipeline's, and the kernel's own. -/
def u₀ : UU :=
  (initOf (Pipeline.cells cfgs cellOf_inj) (Pipeline.launchToks cfgs cellOf_inj), initOf cells toks)

/-- The semaphores of the kernel's own launch: every cell's but the barrier's. -/
abbrev OK : Type := Unit ⊕ (Bool × Fin 3 × Fin 6)
def osem : OK → SemLoc sig
  | .inl _ => csem (.inl true)
  | .inr x => csem (.inr x)

variable (X : Dev nD → Vec F S256x2048 .bf16)

/-- The tokens of the duties of device `c`'s cells. -/
def TokAt (c : Dev nD) : sProp 𝕄 := bigSep Finset.univ fun t : TI => dutyTok ER (kcell c (tk t)) 0 (td t)
/-- The tokens of the duties device `c` does. -/
def TokBy (c : Dev nD) : sProp 𝕄 := bigSep Finset.univ fun t : TI => dutyTok ER (kcell (te t c) (tk t)) 0 (td t)

/-- What each device is dealt before its cells' invariants stand. -/
def G (c : Dev nD) : sProp 𝕄 :=
  iprop((bigSep Finset.univ fun k : CK => roundState ER (Rd X) (kcell c k) 0)
    ∗ (bigSep Finset.univ fun k : CK => iprop(At0 (F := F) c k ∗ reached ER (kcell c k) 0)) ∗ TokAt c)

omit [FloatOps F] in
theorem fund_cells : BI.own (ER (initOf cells toks)) ⊢ (|==> bigSep Finset.univ (G X) : sProp 𝕄) := by
  have hX (Φ : GSem nD τ sig → sProp 𝕄) : bigSep cells Φ = bigSep Finset.univ fun c : Dev nD => bigSep Finset.univ fun k : CK => Φ (kcell c k) := by
    unfold cells; rw [bigSep_map, bigSep_univ_prod]; rfl
  have hT : bigSep toks (fun x => (dutyTok ER x.1 x.2.1 x.2.2 : sProp 𝕄)) = bigSep Finset.univ fun c : Dev nD => TokAt c := by
    unfold toks TokAt; rw [bigSep_map, bigSep_univ_prod]; rfl
  iintro H
  imod (Rounds.fund ER (Rd X) cells toks) $$ H with ⟨Hs, Hr, Ha, Ht⟩
  imodintro
  ihave Hs' := (Entails.of_eq (hX fun g => roundState ER (Rd X) g 0)) $$ Hs
  ihave Ha' := (Entails.of_eq (hX fun g => atPos ER g 0 ∅ 0)) $$ Ha
  ihave Hr' := (Entails.of_eq (hX fun g => reached ER g 0)) $$ Hr
  ihave Ht' := (Entails.of_eq hT) $$ Ht
  unfold G At0; simp only [bigSep_sep']
  isplitl [Hs']; · iexact Hs'
  isplitl [Ha' Hr']
  · isplitl [Ha'] <;> iassumption
  iexact Ht'

/-! ## The semaphores at launch -/

omit [FloatOps F] in
theorem bigSep_bool (Φ : Bool → sProp 𝕄) : bigSep Finset.univ Φ = iprop(Φ false ∗ Φ true) :=
  bigSep_univ_eq_bigSepL [false, true] (by decide) (by decide) Φ
omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- Over the cells: the barrier's, the closing one's, the transfers'. -/
theorem bigSep_CK (Φ : CK → sProp 𝕄) :
    bigSep Finset.univ Φ = iprop((Φ (.inl false) ∗ Φ (.inl true)) ∗ bigSep Finset.univ fun x => Φ (.inr x)) := by
  rw [bigSep_univ_sum, bigSep_bool]; rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (finC c) 0 ∗ bigSep Finset.univ fun x : Bool × Fin 3 × Fin 6 => semVal (kcell c (.inr x)) 0) := by
  unfold Pipeline.ownSems0
  rw [bigSep_univ_sum, show (bigSep (M := 𝕄) Finset.univ fun u : Unit => semVal ((c.tc : Thread nD τ), osem (.inl u)) 0) = semVal (finC c) 0 from
    bigSep_univ_eq_bigSepL [()] (by decide) (by decide) _]
  rfl
omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl

omit [FloatOps F] in
theorem sems_cells (c : Dev nD) :
    (iprop(Pipeline.ownSems0 (Ix := Unit) (Name := ℕ) (U := UU) (Lvl := ℕ) (Val := Elt F) (τ := τ) osem c ∗ unscopedSems0 c) : sProp 𝕄)
      ⊢ bigSep Finset.univ fun k : CK => semVal (kcell c k) 0 := by
  rw [ownSems0_eq, unscopedSems0_eq, bigSep_CK]
  iintro ⟨⟨Hf, Hx⟩, Hb⟩
  isplitl [Hb Hf]
  · isplitl [Hb] <;> iassumption
  iexact Hx
omit [FloatOps F] in
theorem cells_sems (c : Dev nD) :
    (bigSep Finset.univ fun k : CK => semVal (kcell c k) 0 : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, bigSep_CK]
  iintro ⟨⟨Hb, Hf⟩, Hx⟩
  isplitl [Hb]; · iexact Hb
  isplitl [Hf] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : CK => iprop(∃ κ : ℕ, cellInv ER (Rd X) κ (kcell c k)))
          ∗ (bigSep Finset.univ fun k : CK => iprop(At0 (F := F) c k ∗ reached ER (kcell c k) 0)) ∗ TokAt c) := by
  unfold G
  iintro ⟨Ho, Hu, Hs, Ha, Ht⟩
  ihave Hv := (sems_cells (F := F) c) $$ [Ho Hu]
  · isplitl [Ho] <;> iassumption
  imod (show iprop((bigSep Finset.univ fun k : CK => semVal (kcell c k) 0) ∗ bigSep Finset.univ fun k : CK => roundState ER (Rd X) (kcell c k) 0)
      ⊢ (|={Set.univ}=> bigSep Finset.univ fun k : CK => iprop(∃ κ : ℕ, cellInv ER (Rd X) κ (kcell c k)) : sProp 𝕄) from by
        rw [← bigSep_sep']
        exact (bigSep_mono fun k _ => (Rounds.body_intro ER (Rd X) (kcell c k)).trans inv_alloc).trans (bigSep_fupd _ _)) $$ [Hv Hs] with Hi
  · isplitl [Hv] <;> iassumption
  imodintro
  isplitl [Hi]; · iexact Hi
  isplitl [Ha]; · iexact Ha
  iexact Ht

/-! ## The tokens to the devices that do the work -/

omit [FloatOps F] in
/-- Two products may change places. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I), bigSep_univ_prod]
  rfl

omit [FloatOps F] in
theorem toks_dealt : (bigSep Finset.univ fun c : Dev nD => (TokAt c : sProp 𝕄)) ⊢ bigSep Finset.univ fun c : Dev nD => TokBy c := by
  unfold TokAt TokBy
  rw [bigSep_swap, bigSep_swap fun (c : Dev nD) (t : TI) => (dutyTok ER (kcell (te t c) (tk t)) 0 (td t) : sProp 𝕄)]
  exact bigSep_mono fun t _ => Entails.of_eq (bigSep_univ_equiv (tequiv t) fun c : Dev nD => (dutyTok ER (kcell c (tk t)) 0 (td t) : sProp 𝕄))

/-- What device `c` holds of the ghost state when its kernel starts. -/
def Own (c : Dev nD) : sProp 𝕄 := iprop((bigSep Finset.univ (At0 (F := F) c)) ∗ TokBy c)

/-- The invariants and the reached rounds, of all cells. -/
def Rec' (K : Dev nD × CK → ℕ) : sProp 𝕄 :=
  iprop((bigSep Finset.univ fun ck : Dev nD × CK => cellInv ER (Rd X) (K ck) (kcell ck.1 ck.2))
    ∗ (bigSep Finset.univ fun ck : Dev nD × CK => reached ER (kcell ck.1 ck.2) 0))
instance Rec'_persistent (K : Dev nD × CK → ℕ) : BI.Persistent (Rec' (F := F) X K) := by unfold Rec'; infer_instance

def G' (c : Dev nD) : sProp 𝕄 := iprop(∃ K, Rec' X K ∗ Own c)

omit [FloatOps F] in
theorem share_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine (sep_mono_left (BI.bigSep_of_persistent S R)).trans ?_
  rw [← bigSep_sep']
  exact bigSep_mono fun i _ => h i

omit [FloatOps F] in
theorem regroup :
    (bigSep Finset.univ fun c : Dev nD => iprop((bigSep Finset.univ fun k : CK => iprop(∃ κ : ℕ, cellInv ER (Rd X) κ (kcell c k)))
          ∗ (bigSep Finset.univ fun k : CK => iprop(At0 (F := F) c k ∗ reached ER (kcell c k) 0)) ∗ TokAt c) : sProp 𝕄)
      ⊢ bigSep Finset.univ (G' X) := by
  rw [bigSep_sep', bigSep_sep', ← bigSep_univ_prod (fun ck : Dev nD × CK => iprop(∃ κ : ℕ, cellInv ER (Rd X) κ (kcell ck.1 ck.2))),
    bigSep_congr (s := Finset.univ) (fun (c : Dev nD) _ => bigSep_sep' Finset.univ (fun k : CK => (At0 c k : sProp 𝕄)) (fun k => reached ER (kcell c k) 0)),
    bigSep_sep', ← bigSep_univ_prod (fun ck : Dev nD × CK => (reached ER (kcell ck.1 ck.2) 0 : sProp 𝕄))]
  iintro ⟨HI, ⟨Ha, #HR⟩, Ht⟩
  ihave HK := (BI.bigSep_exists_pi Finset.univ (fun (ck : Dev nD × CK) (κ : ℕ) => (cellInv ER (Rd X) κ (kcell ck.1 ck.2) : sProp 𝕄))) $$ HI
  icases HK with ⟨%K, #HI⟩
  ihave Hk := (toks_dealt (F := F)) $$ Ht
  iapply (share_all (R := Rec' X K) (Φ := Own) (Ψ := G' X) fun c => by unfold G'; iintro H; iexists K; iexact H)
  isplitr
  · unfold Rec'; isplitl; · iexact HI
    iexact HR
  · iapply (Entails.of_eq (bigSep_sep' Finset.univ (fun c : Dev nD => bigSep Finset.univ (At0 (F := F) c)) TokBy).symm)
    isplitl [Ha]; · iexact Ha
    iexact Hk

omit [FloatOps F] in
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## What one device holds, named -/

omit [FloatOps F] in
/-- A device's own tokens, sorted: the signals', the closing signals', the transfers'. -/
theorem tokBy_eq (c : Dev nD) : (TokBy (F := F) c : sProp 𝕄) =
    iprop(((SigTok c 0 ∗ SigTok c 1 ∗ SigTok c 2) ∗ (FinTok c 0 ∗ FinTok c 1 ∗ FinTok c 2))
      ∗ (bigSep Finset.univ fun x : Fin 3 × Fin 6 => dutyTok ER (sndC x.1 x.2 c) 0 0)
      ∗ (bigSep Finset.univ fun x : Fin 3 × Fin 6 => dutyTok ER (rcvC x.1 x.2 (pr x.1 x.2 c)) 0 0)) := by
  unfold TokBy
  rw [bigSep_univ_sum, bigSep_univ_prod, bigSep_bool, bigSep_three, bigSep_three, bigSep_univ_prod, bigSep_bool]
  rfl

/-- What device `c` starts with, as its kernel takes it. -/
def Dealt (c : Dev nD) : sProp 𝕄 :=
  iprop((SigTok c 0 ∗ SigTok c 1 ∗ SigTok c 2) ∗ (FinTok c 0 ∗ FinTok c 1 ∗ FinTok c 2)
    ∗ (bigSep Finset.univ (Tok (F := F) c)) ∗ At0 c (.inl false) ∗ At0 c (.inl true)
    ∗ bigSep Finset.univ fun x : Fin 3 × Fin 6 => At0 (F := F) c (.inr (true, x)))

omit [FloatOps F] in
theorem own_dealt (c : Dev nD) : (Own (F := F) c : sProp 𝕄) ⊢ Dealt c := by
  have hT : (bigSep Finset.univ (Tok (F := F) c) : sProp 𝕄) = iprop((bigSep Finset.univ fun x : Fin 3 × Fin 6 => dutyTok ER (sndC x.1 x.2 c) 0 0)
      ∗ (bigSep Finset.univ fun x : Fin 3 × Fin 6 => dutyTok ER (rcvC x.1 x.2 (pr x.1 x.2 c)) 0 0)
      ∗ (bigSep Finset.univ fun x : Fin 3 × Fin 6 => At0 (F := F) c (.inr (false, x)))) := by
    unfold Tok; rw [bigSep_sep', bigSep_sep']
  unfold Own Dealt
  rw [hT, tokBy_eq, bigSep_CK, bigSep_univ_prod (fun x : Bool × Fin 3 × Fin 6 => (At0 (F := F) c (.inr x) : sProp 𝕄)), bigSep_bool]
  iintro ⟨⟨⟨Hb, Hf⟩, Hs, Hr⟩, ⟨HS, HF⟩, Hts, Htr⟩
  isplitl [HS]; · iexact HS
  isplitl [HF]; · iexact HF
  isplitl [Hts Htr Hs]
  · isplitl [Hts]; · iexact Hts
    isplitl [Htr]; · iexact Htr
    iexact Hs
  isplitl [Hb]; · iexact Hb
  isplitl [Hf]; · iexact Hf
  iexact Hr

/-! ## The credit -/

/-- The credit device `c` gets for the units of work in `l`: as every axis joins two devices to each other, each
    device is owed what it owes. -/
def CredL (c : Dev nD) : List Ob → sProp 𝕄
  | [] => iprop(emp)
  | o :: l => iprop(CredL c l ∗ cred (tallyAt (kcell c (obCK o)) () (obAmt o)))

theorem obDev_obDev (o : Ob) (c : Dev nD) : obDev (obDev c o) o = c := by
  cases o <;> first | exact across_across _ _ | exact pr_pr _ _ _

omit [FloatOps F] in
theorem cred_list (l : List Ob) (c : Dev nD) : (Pipeline.launchCred (fun d => oweSum d l) c : sProp 𝕄) ⊢ CredL c l := by
  induction l with
  | nil =>
    unfold CredL
    exact Entails.of_eq (Pipeline.launchCred_zero c)
  | cons o l ih =>
    unfold CredL
    rw [show (fun d => oweSum d (o :: l)) = fun d => oweSum d l + tallyAt (obCell d o) () (obAmt o) from rfl, Pipeline.launchCred_add]
    iintro ⟨H1, H2⟩
    isplitl [H1]
    · iapply ih; iexact H1
    · iapply (Pipeline.launchCred_tallyAt (csem (obCK o)) (fun d => obDev d o) (fun d => obDev d o) (obDev_obDev o) (obDev_obDev o) () (obAmt o) c)
      iexact H2

omit [FloatOps F] in
theorem three_units (g : GSem nD τ sig) :
    (iprop(cred (tallyAt g () 1) ∗ cred (tallyAt g () 1) ∗ cred (tallyAt g () 1)) : sProp 𝕄) ⊢ cred (tallyAt g () 3) := by
  rw [show (tallyAt g () 3 : CellTallies nD τ sig Unit) = tallyAt g () 1 + (tallyAt g () 1 + tallyAt g () 1) by rw [tallyAt_add, tallyAt_add]]
  iintro ⟨H1, H2, H3⟩
  iapply (cred_add _ _).2
  isplitl [H1]; · iexact H1
  iapply (cred_add _ _).2
  isplitl [H2] <;> iassumption

/-- The credit of a receive cell. -/
def CredR (c : Dev nD) (x : Fin 3 × Fin 6) : sProp 𝕄 := cred (tallyAt (rcvC x.1 x.2 c) () (amt x.1 x.2))

omit [FloatOps F] in
/-- Over the transfers, one by one. -/
theorem bigSep_trs (Φ : Fin 3 × Fin 6 → sProp 𝕄) : bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5) ∗ Φ (2, 0) ∗ Φ (2, 1) ∗ Φ (2, 2) ∗ Φ (2, 3) ∗ Φ (2, 4) ∗ Φ (2, 5)) :=
  bigSep_univ_eq_bigSepL ([(0, 0), (0, 1), (0, 2), (0, 3), (0, 4), (0, 5), (1, 0), (1, 1), (1, 2), (1, 3), (1, 4), (1, 5), (2, 0), (2, 1), (2, 2), (2, 3), (2, 4), (2, 5)] : List (Fin 3 × Fin 6)) (by decide +kernel) (by decide +kernel) _

/-- The credit device `c`'s waits spend. -/
def Creds (c : Dev nD) : sProp 𝕄 :=
  iprop(cred (tallyAt (barC c) () 3) ∗ cred (tallyAt (finC c) () 3) ∗ bigSep Finset.univ (CredR (F := F) c))

omit [FloatOps F] in
theorem creds (c : Dev nD) : (Pipeline.launchCred (fun d => oweSum d obls) c : sProp 𝕄) ⊢ Creds c := by
  refine (cred_list obls c).trans ?_
  unfold Creds CredR
  rw [bigSep_trs]
  unfold obls
  simp only [CredL, obCK, obAmt]
  iintro ⟨⟨⟨⟨⟨⟨⟨⟨⟨⟨⟨⟨⟨⟨⟨⟨⟨⟨⟨⟨⟨⟨⟨⟨-, Hf2⟩, Hf1⟩, Hf0⟩, H25⟩, H15⟩, H05⟩, H24⟩, H22⟩, H14⟩, H12⟩, H04⟩, H02⟩, H23⟩, H21⟩, H20⟩, H13⟩, H11⟩, H10⟩, H03⟩, H01⟩, H00⟩, Hb2⟩, Hb1⟩, Hb0⟩
  isplitl [Hb0 Hb1 Hb2]
  · iapply (three_units (F := F) (barC c))
    isplitl [Hb0]; · iexact Hb0
    isplitl [Hb1]; · iexact Hb1
    iexact Hb2
  isplitl [Hf0 Hf1 Hf2]
  · iapply (three_units (F := F) (finC c))
    isplitl [Hf0]; · iexact Hf0
    isplitl [Hf1]; · iexact Hf1
    iexact Hf2
  isplitl [H00]; · iexact H00
  isplitl [H01]; · iexact H01
  isplitl [H02]; · iexact H02
  isplitl [H03]; · iexact H03
  isplitl [H04]; · iexact H04
  isplitl [H05]; · iexact H05
  isplitl [H10]; · iexact H10
  isplitl [H11]; · iexact H11
  isplitl [H12]; · iexact H12
  isplitl [H13]; · iexact H13
  isplitl [H14]; · iexact H14
  isplitl [H15]; · iexact H15
  isplitl [H20]; · iexact H20
  isplitl [H21]; · iexact H21
  isplitl [H22]; · iexact H22
  isplitl [H23]; · iexact H23
  isplitl [H24]; · iexact H24
  iexact H25

end Cert.Cube

end
-- ==== Proof.Names.lean ====
/-
# The names of the kernel's semaphores, and small facts of its text

Which semaphore each element of the two arrays is, what a transfer counts, which held slots hold which slot, and that
the payloads of the bands are two functions.
-/
module

public import proofs.«01_k».proof.Proof.Flow
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-! ## Semaphores -/

theorem sem_s00 : (((cc0_scratch3 : DmaSems sig S3x6).slice (Rect.unit (s := S3x6) ![0, 0] S1x1.size inb_S3x6_S1x1_0_0)).squeeze S_ squeezes_S1x1_S_).sem = sndS 0 0 := rfl
theorem sem_r00 : (((cc0_scratch4 : DmaSems sig S3x6).slice (Rect.unit (s := S3x6) ![0, 0] S1x1.size inb_S3x6_S1x1_0_0)).squeeze S_ squeezes_S1x1_S_).sem = rcvS 0 0 := rfl
theorem sem_s01 : (((cc0_scratch3 : DmaSems sig S3x6).slice (Rect.unit (s := S3x6) ![0, 1] S1x1.size inb_S3x6_S1x1_0_1)).squeeze S_ squeezes_S1x1_S_).sem = sndS 0 1 := rfl
theorem sem_r01 : (((cc0_scratch4 : DmaSems sig S3x6).slice (Rect.unit (s := S3x6) ![0, 1] S1x1.size inb_S3x6_S1x1_0_1)).squeeze S_ squeezes_S1x1_S_).sem = rcvS 0 1 := rfl
theorem sem_s02 : (((cc0_scratch3 : DmaSems sig S3x6).slice (Rect.unit (s := S3x6) ![0, 2] S1x1.size inb_S3x6_S1x1_0_2)).squeeze S_ squeezes_S1x1_S_).sem = sndS 0 2 := rfl
theorem sem_r02 : (((cc0_scratch4 : DmaSems sig S3x6).slice (Rect.unit (s := S3x6) ![0, 2] S1x1.size inb_S3x6_S1x1_0_2)).squeeze S_ squeezes_S1x1_S_).sem = rcvS 0 2 := rfl
theorem sem_s03 : (((cc0_scratch3 : DmaSems sig S3x6).slice (Rect.unit (s := S3x6) ![0, 3] S1x1.size inb_S3x6_S1x1_0_3)).squeeze S_ squeezes_S1x1_S_).sem = sndS 0 3 := rfl
theorem sem_r03 : (((cc0_scratch4 : DmaSems sig S3x6).slice (Rect.unit (s := S3x6) ![0, 3] S1x1.size inb_S3x6_S1x1_0_3)).squeeze S_ squeezes_S1x1_S_).sem = rcvS 0 3 := rfl
theorem sem_s04 : (((cc0_scratch3 : DmaSems sig S3x6).slice (Rect.unit (s := S3x6) ![0, 4] S1x1.size inb_S3x6_S1x1_0_4)).squeeze S_ squeezes_S1x1_S_).sem = sndS 0 4 := rfl
theorem sem_r04 : (((cc0_scratch4 : DmaSems sig S3x6).slice (Rect.unit (s := S3x6) ![0, 4] S1x1.size inb_S3x6_S1x1_0_4)).squeeze S_ squeezes_S1x1_S_).sem = rcvS 0 4 := rfl
theorem sem_s05 : (((cc0_scratch3 : DmaSems sig S3x6).slice (Rect.unit (s := S3x6) ![0, 5] S1x1.size inb_S3x6_S1x1_0_5)).squeeze S_ squeezes_S1x1_S_).sem = sndS 0 5 := rfl
theorem sem_r05 : (((cc0_scratch4 : DmaSems sig S3x6).slice (Rect.unit (s := S3x6) ![0, 5] S1x1.size inb_S3x6_S1x1_0_5)).squeeze S_ squeezes_S1x1_S_).sem = rcvS 0 5 := rfl
theorem sem_s10 : (((cc0_scratch3 : DmaSems sig S3x6).slice (Rect.unit (s := S3x6) ![1, 0] S1x1.size inb_S3x6_S1x1_1_0)).squeeze S_ squeezes_S1x1_S_).sem = sndS 1 0 := rfl
theorem sem_r10 : (((cc0_scratch4 : DmaSems sig S3x6).slice (Rect.unit (s := S3x6) ![1, 0] S1x1.size inb_S3x6_S1x1_1_0)).squeeze S_ squeezes_S1x1_S_).sem = rcvS 1 0 := rfl
theorem sem_s11 : (((cc0_scratch3 : DmaSems sig S3x6).slice (Rect.unit (s := S3x6) ![1, 1] S1x1.size inb_S3x6_S1x1_1_1)).squeeze S_ squeezes_S1x1_S_).sem = sndS 1 1 := rfl
theorem sem_r11 : (((cc0_scratch4 : DmaSems sig S3x6).slice (Rect.unit (s := S3x6) ![1, 1] S1x1.size inb_S3x6_S1x1_1_1)).squeeze S_ squeezes_S1x1_S_).sem = rcvS 1 1 := rfl
theorem sem_s12 : (((cc0_scratch3 : DmaSems sig S3x6).slice (Rect.unit (s := S3x6) ![1, 2] S1x1.size inb_S3x6_S1x1_1_2)).squeeze S_ squeezes_S1x1_S_).sem = sndS 1 2 := rfl
theorem sem_r12 : (((cc0_scratch4 : DmaSems sig S3x6).slice (Rect.unit (s := S3x6) ![1, 2] S1x1.size inb_S3x6_S1x1_1_2)).squeeze S_ squeezes_S1x1_S_).sem = rcvS 1 2 := rfl
theorem sem_s13 : (((cc0_scratch3 : DmaSems sig S3x6).slice (Rect.unit (s := S3x6) ![1, 3] S1x1.size inb_S3x6_S1x1_1_3)).squeeze S_ squeezes_S1x1_S_).sem = sndS 1 3 := rfl
theorem sem_r13 : (((cc0_scratch4 : DmaSems sig S3x6).slice (Rect.unit (s := S3x6) ![1, 3] S1x1.size inb_S3x6_S1x1_1_3)).squeeze S_ squeezes_S1x1_S_).sem = rcvS 1 3 := rfl
theorem sem_s14 : (((cc0_scratch3 : DmaSems sig S3x6).slice (Rect.unit (s := S3x6) ![1, 4] S1x1.size inb_S3x6_S1x1_1_4)).squeeze S_ squeezes_S1x1_S_).sem = sndS 1 4 := rfl
theorem sem_r14 : (((cc0_scratch4 : DmaSems sig S3x6).slice (Rect.unit (s := S3x6) ![1, 4] S1x1.size inb_S3x6_S1x1_1_4)).squeeze S_ squeezes_S1x1_S_).sem = rcvS 1 4 := rfl
theorem sem_s15 : (((cc0_scratch3 : DmaSems sig S3x6).slice (Rect.unit (s := S3x6) ![1, 5] S1x1.size inb_S3x6_S1x1_1_5)).squeeze S_ squeezes_S1x1_S_).sem = sndS 1 5 := rfl
theorem sem_r15 : (((cc0_scratch4 : DmaSems sig S3x6).slice (Rect.unit (s := S3x6) ![1, 5] S1x1.size inb_S3x6_S1x1_1_5)).squeeze S_ squeezes_S1x1_S_).sem = rcvS 1 5 := rfl
theorem sem_s20 : (((cc0_scratch3 : DmaSems sig S3x6).slice (Rect.unit (s := S3x6) ![2, 0] S1x1.size inb_S3x6_S1x1_2_0)).squeeze S_ squeezes_S1x1_S_).sem = sndS 2 0 := rfl
theorem sem_r20 : (((cc0_scratch4 : DmaSems sig S3x6).slice (Rect.unit (s := S3x6) ![2, 0] S1x1.size inb_S3x6_S1x1_2_0)).squeeze S_ squeezes_S1x1_S_).sem = rcvS 2 0 := rfl
theorem sem_s21 : (((cc0_scratch3 : DmaSems sig S3x6).slice (Rect.unit (s := S3x6) ![2, 1] S1x1.size inb_S3x6_S1x1_2_1)).squeeze S_ squeezes_S1x1_S_).sem = sndS 2 1 := rfl
theorem sem_r21 : (((cc0_scratch4 : DmaSems sig S3x6).slice (Rect.unit (s := S3x6) ![2, 1] S1x1.size inb_S3x6_S1x1_2_1)).squeeze S_ squeezes_S1x1_S_).sem = rcvS 2 1 := rfl
theorem sem_s22 : (((cc0_scratch3 : DmaSems sig S3x6).slice (Rect.unit (s := S3x6) ![2, 2] S1x1.size inb_S3x6_S1x1_2_2)).squeeze S_ squeezes_S1x1_S_).sem = sndS 2 2 := rfl
theorem sem_r22 : (((cc0_scratch4 : DmaSems sig S3x6).slice (Rect.unit (s := S3x6) ![2, 2] S1x1.size inb_S3x6_S1x1_2_2)).squeeze S_ squeezes_S1x1_S_).sem = rcvS 2 2 := rfl
theorem sem_s23 : (((cc0_scratch3 : DmaSems sig S3x6).slice (Rect.unit (s := S3x6) ![2, 3] S1x1.size inb_S3x6_S1x1_2_3)).squeeze S_ squeezes_S1x1_S_).sem = sndS 2 3 := rfl
theorem sem_r23 : (((cc0_scratch4 : DmaSems sig S3x6).slice (Rect.unit (s := S3x6) ![2, 3] S1x1.size inb_S3x6_S1x1_2_3)).squeeze S_ squeezes_S1x1_S_).sem = rcvS 2 3 := rfl
theorem sem_s24 : (((cc0_scratch3 : DmaSems sig S3x6).slice (Rect.unit (s := S3x6) ![2, 4] S1x1.size inb_S3x6_S1x1_2_4)).squeeze S_ squeezes_S1x1_S_).sem = sndS 2 4 := rfl
theorem sem_r24 : (((cc0_scratch4 : DmaSems sig S3x6).slice (Rect.unit (s := S3x6) ![2, 4] S1x1.size inb_S3x6_S1x1_2_4)).squeeze S_ squeezes_S1x1_S_).sem = rcvS 2 4 := rfl
theorem sem_s25 : (((cc0_scratch3 : DmaSems sig S3x6).slice (Rect.unit (s := S3x6) ![2, 5] S1x1.size inb_S3x6_S1x1_2_5)).squeeze S_ squeezes_S1x1_S_).sem = sndS 2 5 := rfl
theorem sem_r25 : (((cc0_scratch4 : DmaSems sig S3x6).slice (Rect.unit (s := S3x6) ![2, 5] S1x1.size inb_S3x6_S1x1_2_5)).squeeze S_ squeezes_S1x1_S_).sem = rcvS 2 5 := rfl

/-! ## What a transfer counts -/

theorem crd_any (b : Fin (sig.nNear .tc .vmem)) (s : Shape) : sig.dmaCredit .tc (Kind.table .tc .vmem) b s .bf16 = crd s := rfl
theorem amt_a : ∀ i : Fin 6, i ≠ 5 → amt 0 i = crd S1x96x2048 := by
  intro i h; fin_cases i <;> first | exact absurd rfl h | (unfold amt; rfl)
theorem amt_b : ∀ (P : Fin 3) (i : Fin 6), P ≠ 0 → i ≠ 5 → amt P i = crd S1x80x2048 := by
  intro P i h h'; fin_cases P <;> first | exact absurd rfl h | (fin_cases i <;> first | exact absurd rfl h' | (unfold amt; rfl))
theorem amt_c : amt 0 5 = crd S2x96x2048 := by unfold amt; rfl
theorem amt_d : ∀ P : Fin 3, P ≠ 0 → amt P 5 = crd S2x80x2048 := by
  intro P h; fin_cases P <;> first | exact absurd rfl h | (unfold amt; rfl)

theorem cred_00 {off : Fin 3 → ℕ} {inb : ∀ a, off a + (⟨3, ![1, 96, 2048]⟩ : Shape).size a ≤ S8x96x2048.size a} {hsl} :
    (sM0.slice (Rect.unit (s := S8x96x2048) off (⟨3, ![1, 96, 2048]⟩ : Shape).size inb) hsl).view.dmaCredit = amt 0 0 :=
  (View.dmaCredit_closed _ S1x96x2048 rfl cc0_scratch0.idx rfl _ (crd_any _ _)).trans (amt_a 0 (by decide)).symm
theorem cred_01 {off : Fin 3 → ℕ} {inb : ∀ a, off a + (⟨3, ![1, 96, 2048]⟩ : Shape).size a ≤ S8x96x2048.size a} {hsl} :
    (sM0.slice (Rect.unit (s := S8x96x2048) off (⟨3, ![1, 96, 2048]⟩ : Shape).size inb) hsl).view.dmaCredit = amt 0 1 :=
  (View.dmaCredit_closed _ S1x96x2048 rfl cc0_scratch0.idx rfl _ (crd_any _ _)).trans (amt_a 1 (by decide)).symm
theorem cred_02 {off : Fin 3 → ℕ} {inb : ∀ a, off a + (⟨3, ![1, 96, 2048]⟩ : Shape).size a ≤ S8x96x2048.size a} {hsl} :
    (sM0.slice (Rect.unit (s := S8x96x2048) off (⟨3, ![1, 96, 2048]⟩ : Shape).size inb) hsl).view.dmaCredit = amt 0 2 :=
  (View.dmaCredit_closed _ S1x96x2048 rfl cc0_scratch0.idx rfl _ (crd_any _ _)).trans (amt_a 2 (by decide)).symm
theorem cred_03 {off : Fin 3 → ℕ} {inb : ∀ a, off a + (⟨3, ![1, 96, 2048]⟩ : Shape).size a ≤ S8x96x2048.size a} {hsl} :
    (sM0.slice (Rect.unit (s := S8x96x2048) off (⟨3, ![1, 96, 2048]⟩ : Shape).size inb) hsl).view.dmaCredit = amt 0 3 :=
  (View.dmaCredit_closed _ S1x96x2048 rfl cc0_scratch0.idx rfl _ (crd_any _ _)).trans (amt_a 3 (by decide)).symm
theorem cred_04 {off : Fin 3 → ℕ} {inb : ∀ a, off a + (⟨3, ![1, 96, 2048]⟩ : Shape).size a ≤ S8x96x2048.size a} {hsl} :
    (sM0.slice (Rect.unit (s := S8x96x2048) off (⟨3, ![1, 96, 2048]⟩ : Shape).size inb) hsl).view.dmaCredit = amt 0 4 :=
  (View.dmaCredit_closed _ S1x96x2048 rfl cc0_scratch0.idx rfl _ (crd_any _ _)).trans (amt_a 4 (by decide)).symm
theorem cred_05 {off : Fin 3 → ℕ} {inb : ∀ a, off a + (⟨3, ![2, 96, 2048]⟩ : Shape).size a ≤ S8x96x2048.size a} {hsl} :
    (sM0.slice (Rect.unit (s := S8x96x2048) off (⟨3, ![2, 96, 2048]⟩ : Shape).size inb) hsl).view.dmaCredit = amt 0 5 :=
  (View.dmaCredit_closed _ S2x96x2048 rfl cc0_scratch0.idx rfl _ (crd_any _ _)).trans amt_c.symm
theorem cred_10 {off : Fin 3 → ℕ} {inb : ∀ a, off a + (⟨3, ![1, 80, 2048]⟩ : Shape).size a ≤ S8x80x2048.size a} {hsl} :
    (sM1.slice (Rect.unit (s := S8x80x2048) off (⟨3, ![1, 80, 2048]⟩ : Shape).size inb) hsl).view.dmaCredit = amt 1 0 :=
  (View.dmaCredit_closed _ S1x80x2048 rfl cc0_scratch1.idx rfl _ (crd_any _ _)).trans (amt_b 1 0 (by decide) (by decide)).symm
theorem cred_11 {off : Fin 3 → ℕ} {inb : ∀ a, off a + (⟨3, ![1, 80, 2048]⟩ : Shape).size a ≤ S8x80x2048.size a} {hsl} :
    (sM1.slice (Rect.unit (s := S8x80x2048) off (⟨3, ![1, 80, 2048]⟩ : Shape).size inb) hsl).view.dmaCredit = amt 1 1 :=
  (View.dmaCredit_closed _ S1x80x2048 rfl cc0_scratch1.idx rfl _ (crd_any _ _)).trans (amt_b 1 1 (by decide) (by decide)).symm
theorem cred_12 {off : Fin 3 → ℕ} {inb : ∀ a, off a + (⟨3, ![1, 80, 2048]⟩ : Shape).size a ≤ S8x80x2048.size a} {hsl} :
    (sM1.slice (Rect.unit (s := S8x80x2048) off (⟨3, ![1, 80, 2048]⟩ : Shape).size inb) hsl).view.dmaCredit = amt 1 2 :=
  (View.dmaCredit_closed _ S1x80x2048 rfl cc0_scratch1.idx rfl _ (crd_any _ _)).trans (amt_b 1 2 (by decide) (by decide)).symm
theorem cred_13 {off : Fin 3 → ℕ} {inb : ∀ a, off a + (⟨3, ![1, 80, 2048]⟩ : Shape).size a ≤ S8x80x2048.size a} {hsl} :
    (sM1.slice (Rect.unit (s := S8x80x2048) off (⟨3, ![1, 80, 2048]⟩ : Shape).size inb) hsl).view.dmaCredit = amt 1 3 :=
  (View.dmaCredit_closed _ S1x80x2048 rfl cc0_scratch1.idx rfl _ (crd_any _ _)).trans (amt_b 1 3 (by decide) (by decide)).symm
theorem cred_14 {off : Fin 3 → ℕ} {inb : ∀ a, off a + (⟨3, ![1, 80, 2048]⟩ : Shape).size a ≤ S8x80x2048.size a} {hsl} :
    (sM1.slice (Rect.unit (s := S8x80x2048) off (⟨3, ![1, 80, 2048]⟩ : Shape).size inb) hsl).view.dmaCredit = amt 1 4 :=
  (View.dmaCredit_closed _ S1x80x2048 rfl cc0_scratch1.idx rfl _ (crd_any _ _)).trans (amt_b 1 4 (by decide) (by decide)).symm
theorem cred_15 {off : Fin 3 → ℕ} {inb : ∀ a, off a + (⟨3, ![2, 80, 2048]⟩ : Shape).size a ≤ S8x80x2048.size a} {hsl} :
    (sM1.slice (Rect.unit (s := S8x80x2048) off (⟨3, ![2, 80, 2048]⟩ : Shape).size inb) hsl).view.dmaCredit = amt 1 5 :=
  (View.dmaCredit_closed _ S2x80x2048 rfl cc0_scratch1.idx rfl _ (crd_any _ _)).trans (amt_d 1 (by decide)).symm
theorem cred_20 {off : Fin 3 → ℕ} {inb : ∀ a, off a + (⟨3, ![1, 80, 2048]⟩ : Shape).size a ≤ S8x80x2048.size a} {hsl} :
    (sM2.slice (Rect.unit (s := S8x80x2048) off (⟨3, ![1, 80, 2048]⟩ : Shape).size inb) hsl).view.dmaCredit = amt 2 0 :=
  (View.dmaCredit_closed _ S1x80x2048 rfl cc0_scratch2.idx rfl _ (crd_any _ _)).trans (amt_b 2 0 (by decide) (by decide)).symm
theorem cred_21 {off : Fin 3 → ℕ} {inb : ∀ a, off a + (⟨3, ![1, 80, 2048]⟩ : Shape).size a ≤ S8x80x2048.size a} {hsl} :
    (sM2.slice (Rect.unit (s := S8x80x2048) off (⟨3, ![1, 80, 2048]⟩ : Shape).size inb) hsl).view.dmaCredit = amt 2 1 :=
  (View.dmaCredit_closed _ S1x80x2048 rfl cc0_scratch2.idx rfl _ (crd_any _ _)).trans (amt_b 2 1 (by decide) (by decide)).symm
theorem cred_22 {off : Fin 3 → ℕ} {inb : ∀ a, off a + (⟨3, ![1, 80, 2048]⟩ : Shape).size a ≤ S8x80x2048.size a} {hsl} :
    (sM2.slice (Rect.unit (s := S8x80x2048) off (⟨3, ![1, 80, 2048]⟩ : Shape).size inb) hsl).view.dmaCredit = amt 2 2 :=
  (View.dmaCredit_closed _ S1x80x2048 rfl cc0_scratch2.idx rfl _ (crd_any _ _)).trans (amt_b 2 2 (by decide) (by decide)).symm
theorem cred_23 {off : Fin 3 → ℕ} {inb : ∀ a, off a + (⟨3, ![1, 80, 2048]⟩ : Shape).size a ≤ S8x80x2048.size a} {hsl} :
    (sM2.slice (Rect.unit (s := S8x80x2048) off (⟨3, ![1, 80, 2048]⟩ : Shape).size inb) hsl).view.dmaCredit = amt 2 3 :=
  (View.dmaCredit_closed _ S1x80x2048 rfl cc0_scratch2.idx rfl _ (crd_any _ _)).trans (amt_b 2 3 (by decide) (by decide)).symm
theorem cred_24 {off : Fin 3 → ℕ} {inb : ∀ a, off a + (⟨3, ![1, 80, 2048]⟩ : Shape).size a ≤ S8x80x2048.size a} {hsl} :
    (sM2.slice (Rect.unit (s := S8x80x2048) off (⟨3, ![1, 80, 2048]⟩ : Shape).size inb) hsl).view.dmaCredit = amt 2 4 :=
  (View.dmaCredit_closed _ S1x80x2048 rfl cc0_scratch2.idx rfl _ (crd_any _ _)).trans (amt_b 2 4 (by decide) (by decide)).symm
theorem cred_25 {off : Fin 3 → ℕ} {inb : ∀ a, off a + (⟨3, ![2, 80, 2048]⟩ : Shape).size a ≤ S8x80x2048.size a} {hsl} :
    (sM2.slice (Rect.unit (s := S8x80x2048) off (⟨3, ![2, 80, 2048]⟩ : Shape).size inb) hsl).view.dmaCredit = amt 2 5 :=
  (View.dmaCredit_closed _ S2x80x2048 rfl cc0_scratch2.idx rfl _ (crd_any _ _)).trans (amt_d 2 (by decide)).symm

/-! ## Slots -/

theorem mem_own (P : Fin 3) (c : Dev nD) : tt P c ∈ ({tt P c} : Finset (Fin 8)) := Finset.mem_singleton_self _
theorem mem_rl0 (P : Fin 3) (c : Dev nD) : away P c 1 ∈ rl P 0 c := Finset.mem_singleton_self _
theorem mem_rl1 (P : Fin 3) (c : Dev nD) : away P c 2 ∈ rl P 1 c := Finset.mem_singleton_self _
theorem mem_rl2 (P : Fin 3) (c : Dev nD) : away P c 3 ∈ rl P 2 c := Finset.mem_singleton_self _
theorem mem_rl3 (P : Fin 3) (c : Dev nD) : away P c 4 ∈ rl P 3 c := Finset.mem_singleton_self _
theorem mem_rl4 (P : Fin 3) (c : Dev nD) : away P c 5 ∈ rl P 4 c := Finset.mem_singleton_self _
theorem mem_pair (P : Fin 3) (c : Dev nD) : pair P c 6 ∈ rl P 5 c := Finset.mem_insert_self _ _
theorem mem_pair' (P : Fin 3) (c : Dev nD) : pair' P c 6 ∈ rl P 5 c := Finset.mem_insert_of_mem (Finset.mem_singleton_self _)

/-! ## Payloads -/

theorem pay7_eq (w : FVec F S2048x256 .bf16) (v : Vec F S1x96x2048 .bf16) : k0_pay7 w v = k0_pay7 w v := rfl
theorem pay8_eq (w : FVec F S2048x256 .bf16) (v : Vec F S1x96x2048 .bf16) : k0_pay8 w v = k0_pay7 w v := rfl
theorem pay9_eq (w : FVec F S2048x256 .bf16) (v : Vec F S1x96x2048 .bf16) : k0_pay9 w v = k0_pay7 w v := rfl
theorem pay19_eq (w : FVec F S2048x256 .bf16) (v : Vec F S1x96x2048 .bf16) : k0_pay19 w v = k0_pay7 w v := rfl
theorem pay20_eq (w : FVec F S2048x256 .bf16) (v : Vec F S1x96x2048 .bf16) : k0_pay20 w v = k0_pay7 w v := rfl
theorem pay21_eq (w : FVec F S2048x256 .bf16) (v : Vec F S1x96x2048 .bf16) : k0_pay21 w v = k0_pay7 w v := rfl
theorem pay22_eq (w : FVec F S2048x256 .bf16) (v : Vec F S1x96x2048 .bf16) : k0_pay22 w v = k0_pay7 w v := rfl
theorem pay6_eq (w : Vec F S2048x256 .bf16) (v : Vec F S1x96x2048 .bf16) : k0_pay6 w v = k0_pay7 (k0_pay5 w) v := rfl
theorem pay10_eq (w : FVec F S2048x256 .bf16) (v : Vec F S1x80x2048 .bf16) : k0_pay10 w v = k0_pay10 w v := rfl
theorem pay11_eq (w : FVec F S2048x256 .bf16) (v : Vec F S1x80x2048 .bf16) : k0_pay11 w v = k0_pay10 w v := rfl
theorem pay12_eq (w : FVec F S2048x256 .bf16) (v : Vec F S1x80x2048 .bf16) : k0_pay12 w v = k0_pay10 w v := rfl
theorem pay13_eq (w : FVec F S2048x256 .bf16) (v : Vec F S1x80x2048 .bf16) : k0_pay13 w v = k0_pay10 w v := rfl
theorem pay14_eq (w : FVec F S2048x256 .bf16) (v : Vec F S1x80x2048 .bf16) : k0_pay14 w v = k0_pay10 w v := rfl
theorem pay17_eq (w : FVec F S2048x256 .bf16) (v : Vec F S1x80x2048 .bf16) : k0_pay17 w v = k0_pay10 w v := rfl
theorem pay18_eq (w : FVec F S2048x256 .bf16) (v : Vec F S1x80x2048 .bf16) : k0_pay18 w v = k0_pay10 w v := rfl
theorem pay23_eq (w : FVec F S2048x256 .bf16) (v : Vec F S1x80x2048 .bf16) : k0_pay23 w v = k0_pay10 w v := rfl
theorem pay24_eq (w : FVec F S2048x256 .bf16) (v : Vec F S1x80x2048 .bf16) : k0_pay24 w v = k0_pay10 w v := rfl
theorem pay25_eq (w : FVec F S2048x256 .bf16) (v : Vec F S1x80x2048 .bf16) : k0_pay25 w v = k0_pay10 w v := rfl
theorem pay26_eq (w : FVec F S2048x256 .bf16) (v : Vec F S1x80x2048 .bf16) : k0_pay26 w v = k0_pay10 w v := rfl
theorem pay27_eq (w : FVec F S2048x256 .bf16) (v : Vec F S1x80x2048 .bf16) : k0_pay27 w v = k0_pay10 w v := rfl
theorem pay28_eq (w : FVec F S2048x256 .bf16) (v : Vec F S1x80x2048 .bf16) : k0_pay28 w v = k0_pay10 w v := rfl
theorem pay29_eq (w : FVec F S2048x256 .bf16) (v : Vec F S1x80x2048 .bf16) : k0_pay29 w v = k0_pay10 w v := rfl
theorem pay30_eq (w : FVec F S2048x256 .bf16) (v : Vec F S1x80x2048 .bf16) : k0_pay30 w v = k0_pay10 w v := rfl
theorem pay16_eq (w : FVec F S2048x256 .bf16) (v : Vec F S1x80x2048 .bf16) : k0_pay16 (k0_pay15 w v) = k0_pay10 w v := rfl

end Cert.Cube

end
-- ==== Proof.PartsA.lean ====
/-
# The parts of the kernel's body, one after another

Each takes what the device holds for its steps and hands on what it holds afterwards.
-/
module

public import proofs.«01_k».proof.Proof.Names
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (X : Dev nD → Vec F S256x2048 .bf16) (W : Dev nD → Vec F S2048x256 .bf16) (K : Dev nD × CK → ℕ)

theorem part1_run (h0 : xM.IsWhole) (h1 : wM.IsWhole) (h2 : oM.IsWhole) (h3 : sM0.IsWhole) (h4 : sM1.IsWhole) (h5 : sM2.IsWhole) (c : Dev nD)  {Q : _ → sProp 𝕄} :
    Recs X K ⊢ iprop(SigTok c 0 -∗ (bigSep (Finset.univ.filter fun x : Fin 3 × Fin 6 => ax x.1 x.2 = 0) (Lend (F := F) c)) -∗ SigTok c 1 -∗ (bigSep (Finset.univ.filter fun x : Fin 3 × Fin 6 => ax x.1 x.2 = 1) (Lend (F := F) c)) -∗ SigTok c 2 -∗ (bigSep (Finset.univ.filter fun x : Fin 3 × Fin 6 => ax x.1 x.2 = 2) (Lend (F := F) c)) -∗ Owe (F := F) c 0
      -∗ (∀ r1 r2 r3 r4, Owe (F := F) c 3 -∗ Q ⟨c, r1, r2, r3, r4, (SemArray.scalar (sig.barrier 0 rfl))⟩)
      -∗ wpT c (k0_part1 (F := F) xM h0 wM h1 oM h2 sM0 h3 sM1 h4 sM2 h5 cc0_scratch3 cc0_scratch4 cc0_scoped0 ) Q) := by
  rw [k0_part1_eq_skeleton]
  unfold k0_part1_skel
  simp only [semSignalWord, semWaitWord, Prog.lift, Prog.bind_op, Prog.bind_ret, Prog.pure_eq_ret, wp_deviceId]
  iintro #HR Hsig0 Hlend0 Hsig1 Hlend1 Hsig2 Hlend2 HO Hk
  iapply (step_sig X K c 0 0 _ (dev1_eq c) _ rfl _ rfl rfl) $$ HR Hsig0 Hlend0 HO
  iintro HO
  iapply (step_sig X K c 1 1 _ (dev2_eq c) _ rfl _ rfl rfl) $$ HR Hsig1 Hlend1 HO
  iintro HO
  iapply (step_sig X K c 2 2 _ (dev3_eq c) _ rfl _ rfl rfl) $$ HR Hsig2 Hlend2 HO
  iintro HO
  iapply (wpT_ret c)
  iapply Hk $$ %_ %_ %_ %_  HO

theorem part2_run (h0 : xM.IsWhole) (h1 : wM.IsWhole) (h2 : oM.IsWhole) (h3 : sM0.IsWhole) (h4 : sM1.IsWhole) (h5 : sM2.IsWhole) (c : Dev nD) (v2 : BitVec 32) (v12 : BitVec 32) (v16 : BitVec 32) (v20 : BitVec 32) {Q : _ → sProp 𝕄} :
    Recs X K ⊢ iprop(BarW c -∗ bigSep Finset.univ (Tok (F := F) c) -∗ XB X c -∗ Any (F := F) 0 c {tt 0 c} -∗ Any (F := F) 1 c {tt 1 c} -∗ Any (F := F) 2 c {tt 2 c} -∗ Owe (F := F) c 3
      -∗ (∀ r0, At1 c (.inl false) -∗ Rdy c 0 1 -∗ Rdy c 0 3 -∗ Rdy c 1 0 -∗ Rdy c 1 1 -∗ Rdy c 1 3 -∗ Rdy c 2 0 -∗ Rdy c 2 1 -∗ Rdy c 2 3 -∗ Rdy c 0 2 -∗ Rdy c 0 4 -∗ Rdy c 1 2 -∗ Rdy c 1 4 -∗ Rdy c 2 2 -∗ Rdy c 2 4 -∗ Rdy c 0 5 -∗ Rdy c 1 5 -∗ Rdy c 2 5 -∗ XB X c -∗ Src X c 0 1 -∗ Src X c 0 3 -∗ PT X 0 c {tt 0 c} fullShare.right.right -∗ Src X c 1 0 -∗ Src X c 1 1 -∗ Src X c 1 3 -∗ PT X 1 c {tt 1 c} fullShare.right.right -∗ Src X c 2 0 -∗ Src X c 2 1 -∗ Src X c 2 3 -∗ PT X 2 c {tt 2 c} fullShare.right.right -∗ Sent (F := F) c 0 0 -∗ Owe (F := F) c 4 -∗ Q r0)
      -∗ wpT c (k0_part2 (F := F) xM h0 wM h1 oM h2 sM0 h3 sM1 h4 sM2 h5 cc0_scratch3 cc0_scratch4 cc0_scoped0 c v2 v12 v16 v20 (SemArray.scalar (sig.barrier 0 rfl))) Q) := by
  rw [k0_part2_eq_skeleton]
  unfold k0_part2_skel
  simp only [semSignalWord, semWaitWord, Prog.lift, Prog.bind_op, Prog.bind_ret, Prog.pure_eq_ret, wp_deviceId]
  iintro #HR Hbarw Htoks Hxb Hany0 Hany1 Hany2 HO Hk
  iapply (step_barwait X K c 3 _ rfl _ rfl (by decide)) $$ HR Hbarw HO
  iintro Hland HatB HO
  ihave Hrdy := ready c $$ [Hland Htoks]
  · isplitl [Hland]
    · iexact Hland
    · iexact Htoks
  icases Hrdy with ⟨Hrdy00, Hrdy01, Hrdy03, Hrdy10, Hrdy11, Hrdy13, Hrdy20, Hrdy21, Hrdy23, Hrdy02, Hrdy04, Hrdy12, Hrdy14, Hrdy22, Hrdy24, Hrdy05, Hrdy15, Hrdy25⟩
  iapply (get_x X c) $$ Hxb
  iintro Hxb
  iapply (own0 X c _ (off1_eq c)) $$ Hany0
  iintro Hfull
  ihave Hfull := split_own X 0 c $$ Hfull
  icases Hfull with ⟨Hsrc00, Hsrc01, Hsrc03, Hown0⟩
  iapply (own1 X c _ (off2_eq c)) $$ Hany1
  iintro Hfull
  ihave Hfull := split_own X 1 c $$ Hfull
  icases Hfull with ⟨Hsrc10, Hsrc11, Hsrc13, Hown1⟩
  iapply (own2 X c _ (off3_eq c)) $$ Hany2
  iintro Hfull
  ihave Hfull := split_own X 2 c $$ Hfull
  icases Hfull with ⟨Hsrc20, Hsrc21, Hsrc23, Hown2⟩
  iapply (move0 (k := 1) X K c 0 3 _ (off4_eq c) (own_slot 0 c) _ (dev4_eq c) _ _ sem_s00 sem_r00 cred_00 rfl) $$ HR Hrdy00 Hsrc00 HO
  iintro Hsent00 HO
  iapply (wpT_ret c)
  iapply Hk $$ %_ HatB Hrdy01 Hrdy03 Hrdy10 Hrdy11 Hrdy13 Hrdy20 Hrdy21 Hrdy23 Hrdy02 Hrdy04 Hrdy12 Hrdy14 Hrdy22 Hrdy24 Hrdy05 Hrdy15 Hrdy25 Hxb Hsrc01 Hsrc03 Hown0 Hsrc10 Hsrc11 Hsrc13 Hown1 Hsrc20 Hsrc21 Hsrc23 Hown2 Hsent00 HO

theorem part3_run (h0 : xM.IsWhole) (h1 : wM.IsWhole) (h2 : oM.IsWhole) (h3 : sM0.IsWhole) (h4 : sM1.IsWhole) (h5 : sM2.IsWhole) (c : Dev nD) (v2 : BitVec 32) (v58 : BitVec 32) {Q : _ → sProp 𝕄} :
    Recs X K ⊢ iprop(Rdy c 0 1 -∗ Src X c 0 1 -∗ Rdy c 0 3 -∗ Src X c 0 3 -∗ Rdy c 1 0 -∗ Src X c 1 0 -∗ Owe (F := F) c 4
      -∗ (∀ r0, Sent (F := F) c 0 1 -∗ Sent (F := F) c 0 3 -∗ Sent (F := F) c 1 0 -∗ Owe (F := F) c 7 -∗ Q r0)
      -∗ wpT c (k0_part3 (F := F) xM h0 wM h1 oM h2 sM0 h3 sM1 h4 sM2 h5 cc0_scratch3 cc0_scratch4 cc0_scoped0 c v2 v58) Q) := by
  rw [k0_part3_eq_skeleton]
  unfold k0_part3_skel
  simp only [semSignalWord, semWaitWord, Prog.lift, Prog.bind_op, Prog.bind_ret, Prog.pure_eq_ret, wp_deviceId]
  iintro #HR Hrdy01 Hsrc01 Hrdy03 Hsrc03 Hrdy10 Hsrc10 HO Hk
  iapply (move0 (k := 1) X K c 1 4 _ (off4_eq c) (own_slot 0 c) _ (dev5_eq c) _ _ sem_s01 sem_r01 cred_01 rfl) $$ HR Hrdy01 Hsrc01 HO
  iintro Hsent01 HO
  iapply (move0 (k := 1) X K c 3 5 _ (off4_eq c) (own_slot 0 c) _ (dev6_eq c) _ _ sem_s03 sem_r03 cred_03 rfl) $$ HR Hrdy03 Hsrc03 HO
  iintro Hsent03 HO
  iapply (move1 (k := 1) X K c 0 6 _ (off5_eq c) (own_slot 1 c) _ (dev7_eq c) _ _ sem_s10 sem_r10 cred_10 rfl) $$ HR Hrdy10 Hsrc10 HO
  iintro Hsent10 HO
  iapply (wpT_ret c)
  iapply Hk $$ %_ Hsent01 Hsent03 Hsent10 HO

theorem part4_run (h0 : xM.IsWhole) (h1 : wM.IsWhole) (h2 : oM.IsWhole) (h3 : sM0.IsWhole) (h4 : sM1.IsWhole) (h5 : sM2.IsWhole) (c : Dev nD) (v2 : BitVec 32) (v84 : BitVec 32) {Q : _ → sProp 𝕄} :
    Recs X K ⊢ iprop(Rdy c 1 1 -∗ Src X c 1 1 -∗ Rdy c 1 3 -∗ Src X c 1 3 -∗ Rdy c 2 0 -∗ Src X c 2 0 -∗ Owe (F := F) c 7
      -∗ (∀ r0, Sent (F := F) c 1 1 -∗ Sent (F := F) c 1 3 -∗ Sent (F := F) c 2 0 -∗ Owe (F := F) c 10 -∗ Q r0)
      -∗ wpT c (k0_part4 (F := F) xM h0 wM h1 oM h2 sM0 h3 sM1 h4 sM2 h5 cc0_scratch3 cc0_scratch4 cc0_scoped0 c v2 v84) Q) := by
  rw [k0_part4_eq_skeleton]
  unfold k0_part4_skel
  simp only [semSignalWord, semWaitWord, Prog.lift, Prog.bind_op, Prog.bind_ret, Prog.pure_eq_ret, wp_deviceId]
  iintro #HR Hrdy11 Hsrc11 Hrdy13 Hsrc13 Hrdy20 Hsrc20 HO Hk
  iapply (move1 (k := 1) X K c 1 7 _ (off5_eq c) (own_slot 1 c) _ (dev8_eq c) _ _ sem_s11 sem_r11 cred_11 rfl) $$ HR Hrdy11 Hsrc11 HO
  iintro Hsent11 HO
  iapply (move1 (k := 1) X K c 3 8 _ (off5_eq c) (own_slot 1 c) _ (dev9_eq c) _ _ sem_s13 sem_r13 cred_13 rfl) $$ HR Hrdy13 Hsrc13 HO
  iintro Hsent13 HO
  iapply (move2 (k := 1) X K c 0 9 _ (off6_eq c) (own_slot 2 c) _ (dev10_eq c) _ _ sem_s20 sem_r20 cred_20 rfl) $$ HR Hrdy20 Hsrc20 HO
  iintro Hsent20 HO
  iapply (wpT_ret c)
  iapply Hk $$ %_ Hsent11 Hsent13 Hsent20 HO

theorem part5_run (h0 : xM.IsWhole) (h1 : wM.IsWhole) (h2 : oM.IsWhole) (h3 : sM0.IsWhole) (h4 : sM1.IsWhole) (h5 : sM2.IsWhole) (c : Dev nD) (v2 : BitVec 32) (v12 : BitVec 32) (v111 : BitVec 32) {Q : _ → sProp 𝕄} :
    Recs X K ⊢ iprop(Rdy c 2 1 -∗ Src X c 2 1 -∗ Rdy c 2 3 -∗ Src X c 2 3 -∗ Rcv (F := F) c 0 0 -∗ Owe (F := F) c 10
      -∗ (∀ r0, Sent (F := F) c 2 1 -∗ Sent (F := F) c 2 3 -∗ PT X 0 c (rl 0 0 c) fullShare.right -∗ At1 (F := F) c (.inr (true, 0, 0)) -∗ Src X c 0 2 -∗ Src X c 0 4 -∗ Owe (F := F) c 12 -∗ Q r0)
      -∗ wpT c (k0_part5 (F := F) xM h0 wM h1 oM h2 sM0 h3 sM1 h4 sM2 h5 cc0_scratch3 cc0_scratch4 cc0_scoped0 c v2 v12 v111) Q) := by
  rw [k0_part5_eq_skeleton]
  unfold k0_part5_skel
  simp only [semSignalWord, semWaitWord, Prog.lift, Prog.bind_op, Prog.bind_ret, Prog.pure_eq_ret, wp_deviceId]
  iintro #HR Hrdy21 Hsrc21 Hrdy23 Hsrc23 Hrcv00 HO Hk
  iapply (move2 (k := 1) X K c 1 10 _ (off6_eq c) (own_slot 2 c) _ (dev11_eq c) _ _ sem_s21 sem_r21 cred_21 rfl) $$ HR Hrdy21 Hsrc21 HO
  iintro Hsent21 HO
  iapply (move2 (k := 1) X K c 3 11 _ (off6_eq c) (own_slot 2 c) _ (dev12_eq c) _ _ sem_s23 sem_r23 cred_23 rfl) $$ HR Hrdy23 Hsrc23 HO
  iintro Hsent23 HO
  iapply (step_recv X K c 0 0 12 _ sem_r00 cred_00 (by decide)) $$ HR Hrcv00 HO
  iintro Hgot00 Hatr00 HO
  ihave Hgot00 := split_fst X 0 c $$ Hgot00
  icases Hgot00 with ⟨Hsrc02, Hsrc04, Hgot00⟩
  iapply (wpT_ret c)
  iapply Hk $$ %_ Hsent21 Hsent23 Hgot00 Hatr00 Hsrc02 Hsrc04 HO

theorem part6_run (h0 : xM.IsWhole) (h1 : wM.IsWhole) (h2 : oM.IsWhole) (h3 : sM0.IsWhole) (h4 : sM1.IsWhole) (h5 : sM2.IsWhole) (c : Dev nD) (v2 : BitVec 32) (v12 : BitVec 32) (v16 : BitVec 32) (c1_i32_137 : BitVec 32) {Q : _ → sProp 𝕄} :
    Recs X K ⊢ iprop(Rdy c 0 2 -∗ Src X c 0 2 -∗ Rdy c 0 4 -∗ Src X c 0 4 -∗ Owe (F := F) c 12
      -∗ (Sent (F := F) c 0 2 -∗ Sent (F := F) c 0 4 -∗ Owe (F := F) c 14 -∗ Q ⟨⟩)
      -∗ wpT c (k0_part6 (F := F) xM h0 wM h1 oM h2 sM0 h3 sM1 h4 sM2 h5 cc0_scratch3 cc0_scratch4 cc0_scoped0 c v2 v12 v16 c1_i32_137) Q) := by
  rw [k0_part6_eq_skeleton]
  unfold k0_part6_skel
  simp only [semSignalWord, semWaitWord, Prog.lift, Prog.bind_op, Prog.bind_ret, Prog.pure_eq_ret, wp_deviceId]
  iintro #HR Hrdy02 Hsrc02 Hrdy04 Hsrc04 HO Hk
  iapply (move0 (k := 1) X K c 2 12 _ (off7_1_eq c) (fst_slot 0 c) _ (dev13_eq c) _ _ sem_s02 sem_r02 cred_02 rfl) $$ HR Hrdy02 Hsrc02 HO
  iintro Hsent02 HO
  iapply (move0 (k := 1) X K c 4 13 _ (off7_1_eq c) (fst_slot 0 c) _ (dev14_eq c) _ _ sem_s04 sem_r04 cred_04 rfl) $$ HR Hrdy04 Hsrc04 HO
  iintro Hsent04 HO
  iapply (wpT_ret c)
  iapply Hk $$  Hsent02 Hsent04 HO

theorem part7_run (h0 : xM.IsWhole) (h1 : wM.IsWhole) (h2 : oM.IsWhole) (h3 : sM0.IsWhole) (h4 : sM1.IsWhole) (h5 : sM2.IsWhole) (c : Dev nD) (v2 : BitVec 32) (v16 : BitVec 32) (v20 : BitVec 32) {Q : _ → sProp 𝕄} :
    Recs X K ⊢ iprop(Rcv (F := F) c 1 0 -∗ Rdy c 1 2 -∗ Rdy c 1 4 -∗ Owe (F := F) c 14
      -∗ (PT X 1 c (rl 1 0 c) fullShare.right -∗ At1 (F := F) c (.inr (true, 1, 0)) -∗ Sent (F := F) c 1 2 -∗ Sent (F := F) c 1 4 -∗ Owe (F := F) c 16 -∗ Q ⟨⟩)
      -∗ wpT c (k0_part7 (F := F) xM h0 wM h1 oM h2 sM0 h3 sM1 h4 sM2 h5 cc0_scratch3 cc0_scratch4 cc0_scoped0 c v2 v16 v20) Q) := by
  rw [k0_part7_eq_skeleton]
  unfold k0_part7_skel
  simp only [semSignalWord, semWaitWord, Prog.lift, Prog.bind_op, Prog.bind_ret, Prog.pure_eq_ret, wp_deviceId]
  iintro #HR Hrcv10 Hrdy12 Hrdy14 HO Hk
  iapply (step_recv X K c 1 0 14 _ sem_r10 cred_10 (by decide)) $$ HR Hrcv10 HO
  iintro Hgot10 Hatr10 HO
  ihave Hgot10 := split_fst X 1 c $$ Hgot10
  icases Hgot10 with ⟨Hsrc12, Hsrc14, Hgot10⟩
  iapply (move1 (k := 1) X K c 2 14 _ (off8_1_eq c) (fst_slot 1 c) _ (dev15_eq c) _ _ sem_s12 sem_r12 cred_12 rfl) $$ HR Hrdy12 Hsrc12 HO
  iintro Hsent12 HO
  iapply (move1 (k := 1) X K c 4 15 _ (off8_1_eq c) (fst_slot 1 c) _ (dev16_eq c) _ _ sem_s14 sem_r14 cred_14 rfl) $$ HR Hrdy14 Hsrc14 HO
  iintro Hsent14 HO
  iapply (wpT_ret c)
  iapply Hk $$  Hgot10 Hatr10 Hsent12 Hsent14 HO

theorem part8_run (h0 : xM.IsWhole) (h1 : wM.IsWhole) (h2 : oM.IsWhole) (h3 : sM0.IsWhole) (h4 : sM1.IsWhole) (h5 : sM2.IsWhole) (c : Dev nD) (v2 : BitVec 32) (v12 : BitVec 32) (v20 : BitVec 32) {Q : _ → sProp 𝕄} :
    Recs X K ⊢ iprop(Rcv (F := F) c 2 0 -∗ Rdy c 2 2 -∗ Rdy c 2 4 -∗ Owe (F := F) c 16
      -∗ (PT X 2 c (rl 2 0 c) fullShare.right -∗ At1 (F := F) c (.inr (true, 2, 0)) -∗ Sent (F := F) c 2 2 -∗ Sent (F := F) c 2 4 -∗ Owe (F := F) c 18 -∗ Q ⟨⟩)
      -∗ wpT c (k0_part8 (F := F) xM h0 wM h1 oM h2 sM0 h3 sM1 h4 sM2 h5 cc0_scratch3 cc0_scratch4 cc0_scoped0 c v2 v12 v20) Q) := by
  rw [k0_part8_eq_skeleton]
  unfold k0_part8_skel
  simp only [semSignalWord, semWaitWord, Prog.lift, Prog.bind_op, Prog.bind_ret, Prog.pure_eq_ret, wp_deviceId]
  iintro #HR Hrcv20 Hrdy22 Hrdy24 HO Hk
  iapply (step_recv X K c 2 0 16 _ sem_r20 cred_20 (by decide)) $$ HR Hrcv20 HO
  iintro Hgot20 Hatr20 HO
  ihave Hgot20 := split_fst X 2 c $$ Hgot20
  icases Hgot20 with ⟨Hsrc22, Hsrc24, Hgot20⟩
  iapply (move2 (k := 1) X K c 2 16 _ (off9_1_eq c) (fst_slot 2 c) _ (dev17_eq c) _ _ sem_s22 sem_r22 cred_22 rfl) $$ HR Hrdy22 Hsrc22 HO
  iintro Hsent22 HO
  iapply (move2 (k := 1) X K c 4 17 _ (off9_1_eq c) (fst_slot 2 c) _ (dev18_eq c) _ _ sem_s24 sem_r24 cred_24 rfl) $$ HR Hrdy24 Hsrc24 HO
  iintro Hsent24 HO
  iapply (wpT_ret c)
  iapply Hk $$  Hgot20 Hatr20 Hsent22 Hsent24 HO

theorem part9_run (h0 : xM.IsWhole) (h1 : wM.IsWhole) (h2 : oM.IsWhole) (h3 : sM0.IsWhole) (h4 : sM1.IsWhole) (h5 : sM2.IsWhole) (c : Dev nD) (v2 : BitVec 32) (v12 : BitVec 32) (v16 : BitVec 32) {Q : _ → sProp 𝕄} :
    Recs X K ⊢ iprop(Rcv (F := F) c 0 1 -∗ Rcv (F := F) c 0 2 -∗ Rdy c 0 5 -∗ Owe (F := F) c 18
      -∗ (PT X 0 c (rl 0 1 c) fullShare.right -∗ At1 (F := F) c (.inr (true, 0, 1)) -∗ PT X 0 c (rl 0 2 c) fullShare.right -∗ At1 (F := F) c (.inr (true, 0, 2)) -∗ Sent (F := F) c 0 5 -∗ Owe (F := F) c 19 -∗ Q ⟨⟩)
      -∗ wpT c (k0_part9 (F := F) xM h0 wM h1 oM h2 sM0 h3 sM1 h4 sM2 h5 cc0_scratch3 cc0_scratch4 cc0_scoped0 c v2 v12 v16) Q) := by
  rw [k0_part9_eq_skeleton]
  unfold k0_part9_skel
  simp only [semSignalWord, semWaitWord, Prog.lift, Prog.bind_op, Prog.bind_ret, Prog.pure_eq_ret, wp_deviceId]
  iintro #HR Hrcv01 Hrcv02 Hrdy05 HO Hk
  iapply (step_recv X K c 0 1 18 _ sem_r01 cred_01 (by decide)) $$ HR Hrcv01 HO
  iintro Hgot01 Hatr01 HO
  iapply (step_recv X K c 0 2 18 _ sem_r02 cred_02 (by decide)) $$ HR Hrcv02 HO
  iintro Hgot02 Hatr02 HO
  ihave Hboth := split_snd X 0 c $$ [Hgot01 Hgot02]
  · isplitl [Hgot01]
    · iexact Hgot01
    · iexact Hgot02
  icases Hboth with ⟨Hsrc05, Hgot01, Hgot02⟩
  iapply (move0 (k := 2) X K c 5 18 _ (off10_2_eq c) (two_slots 0 c) _ (dev19_eq c) _ _ sem_s05 sem_r05 cred_05 rfl) $$ HR Hrdy05 Hsrc05 HO
  iintro Hsent05 HO
  iapply (wpT_ret c)
  iapply Hk $$  Hgot01 Hatr01 Hgot02 Hatr02 Hsent05 HO

theorem part10_run (h0 : xM.IsWhole) (h1 : wM.IsWhole) (h2 : oM.IsWhole) (h3 : sM0.IsWhole) (h4 : sM1.IsWhole) (h5 : sM2.IsWhole) (c : Dev nD) (v2 : BitVec 32) (v16 : BitVec 32) {Q : _ → sProp 𝕄} :
    Recs X K ⊢ iprop(Rcv (F := F) c 1 1 -∗ Rcv (F := F) c 1 2 -∗ Owe (F := F) c 19
      -∗ (PT X 1 c (rl 1 1 c) fullShare.right -∗ At1 (F := F) c (.inr (true, 1, 1)) -∗ PT X 1 c (rl 1 2 c) fullShare.right -∗ At1 (F := F) c (.inr (true, 1, 2)) -∗ Src X c 1 5 -∗ Owe (F := F) c 19 -∗ Q ⟨⟩)
      -∗ wpT c (k0_part10 (F := F) xM h0 wM h1 oM h2 sM0 h3 sM1 h4 sM2 h5 cc0_scratch3 cc0_scratch4 cc0_scoped0 c v2 v16) Q) := by
  rw [k0_part10_eq_skeleton]
  unfold k0_part10_skel
  simp only [semSignalWord, semWaitWord, Prog.lift, Prog.bind_op, Prog.bind_ret, Prog.pure_eq_ret, wp_deviceId]
  iintro #HR Hrcv11 Hrcv12 HO Hk
  iapply (step_recv X K c 1 1 19 _ sem_r11 cred_11 (by decide)) $$ HR Hrcv11 HO
  iintro Hgot11 Hatr11 HO
  iapply (step_recv X K c 1 2 19 _ sem_r12 cred_12 (by decide)) $$ HR Hrcv12 HO
  iintro Hgot12 Hatr12 HO
  ihave Hboth := split_snd X 1 c $$ [Hgot11 Hgot12]
  · isplitl [Hgot11]
    · iexact Hgot11
    · iexact Hgot12
  icases Hboth with ⟨Hsrc15, Hgot11, Hgot12⟩
  iapply (wpT_ret c)
  iapply Hk $$  Hgot11 Hatr11 Hgot12 Hatr12 Hsrc15 HO

theorem part11_run (h0 : xM.IsWhole) (h1 : wM.IsWhole) (h2 : oM.IsWhole) (h3 : sM0.IsWhole) (h4 : sM1.IsWhole) (h5 : sM2.IsWhole) (c : Dev nD) (v2 : BitVec 32) (v20 : BitVec 32) {Q : _ → sProp 𝕄} :
    Recs X K ⊢ iprop(Rdy c 1 5 -∗ Src X c 1 5 -∗ Rcv (F := F) c 2 1 -∗ Rcv (F := F) c 2 2 -∗ Owe (F := F) c 19
      -∗ (Sent (F := F) c 1 5 -∗ PT X 2 c (rl 2 1 c) fullShare.right -∗ At1 (F := F) c (.inr (true, 2, 1)) -∗ PT X 2 c (rl 2 2 c) fullShare.right -∗ At1 (F := F) c (.inr (true, 2, 2)) -∗ Src X c 2 5 -∗ Owe (F := F) c 20 -∗ Q ⟨⟩)
      -∗ wpT c (k0_part11 (F := F) xM h0 wM h1 oM h2 sM0 h3 sM1 h4 sM2 h5 cc0_scratch3 cc0_scratch4 cc0_scoped0 c v2 v20) Q) := by
  rw [k0_part11_eq_skeleton]
  unfold k0_part11_skel
  simp only [semSignalWord, semWaitWord, Prog.lift, Prog.bind_op, Prog.bind_ret, Prog.pure_eq_ret, wp_deviceId]
  iintro #HR Hrdy15 Hsrc15 Hrcv21 Hrcv22 HO Hk
  iapply (move1 (k := 2) X K c 5 19 _ (off11_2_eq c) (two_slots 1 c) _ (dev20_eq c) _ _ sem_s15 sem_r15 cred_15 rfl) $$ HR Hrdy15 Hsrc15 HO
  iintro Hsent15 HO
  iapply (step_recv X K c 2 1 20 _ sem_r21 cred_21 (by decide)) $$ HR Hrcv21 HO
  iintro Hgot21 Hatr21 HO
  iapply (step_recv X K c 2 2 20 _ sem_r22 cred_22 (by decide)) $$ HR Hrcv22 HO
  iintro Hgot22 Hatr22 HO
  ihave Hboth := split_snd X 2 c $$ [Hgot21 Hgot22]
  · isplitl [Hgot21]
    · iexact Hgot21
    · iexact Hgot22
  icases Hboth with ⟨Hsrc25, Hgot21, Hgot22⟩
  iapply (wpT_ret c)
  iapply Hk $$  Hsent15 Hgot21 Hatr21 Hgot22 Hatr22 Hsrc25 HO

end Cert.Cube

end
-- ==== Proof.PartsB.lean ====
/-
# The parts of the kernel's body, one after another

Each takes what the device holds for its steps and hands on what it holds afterwards.
-/
module

public import proofs.«01_k».proof.Proof.Names
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (X : Dev nD → Vec F S256x2048 .bf16) (W : Dev nD → Vec F S2048x256 .bf16) (K : Dev nD × CK → ℕ)

theorem part12_run (h0 : xM.IsWhole) (h1 : wM.IsWhole) (h2 : oM.IsWhole) (h3 : sM0.IsWhole) (h4 : sM1.IsWhole) (h5 : sM2.IsWhole) (c : Dev nD) (v12 : BitVec 32) (S : Finset (Fin 3 × Fin 8)) {Q : _ → sProp 𝕄} :
    Recs X K ⊢ iprop(Rdy c 2 5 -∗ Src X c 2 5 -∗ WB W c -∗ PT X 0 c {tt 0 c} fullShare.right.right -∗ OutB X (k0_pay5 (W c)) c S -∗ Owe (F := F) c 20
      -∗ (∀ r1 r2 r3 r4 r5 r6 r7, Sent (F := F) c 2 5 -∗ WB W c -∗ PT X 0 c {tt 0 c} fullShare.right.right -∗ OutB X (k0_pay5 (W c)) c (insert (0, (tt 0 c)) S) -∗ Owe (F := F) c 21 -∗ Q ⟨(k0_pay5 (W c)), r1, r2, r3, r4, r5, r6, r7⟩)
      -∗ wpT c (k0_part12 (F := F) xM h0 wM h1 oM h2 sM0 h3 sM1 h4 sM2 h5 cc0_scratch3 cc0_scratch4 cc0_scoped0 c v12) Q) := by
  rw [k0_part12_eq_skeleton]
  unfold k0_part12_skel
  simp only [semSignalWord, semWaitWord, Prog.lift, Prog.bind_op, Prog.bind_ret, Prog.pure_eq_ret, wp_deviceId]
  iintro #HR Hrdy25 Hsrc25 Hwb Hown0 Hout HO Hk
  iapply (move2 (k := 2) X K c 5 20 _ (off12_2_eq c) (two_slots 2 c) _ (dev21_eq c) _ _ sem_s25 sem_r25 cred_25 rfl) $$ HR Hrdy25 Hsrc25 HO
  iintro Hsent25 HO
  iapply (get_w W c) $$ Hwb
  iintro Hwb
  iapply (take0 X c _ _ _ (off1_eq c) (mem_own 0 c)) $$ Hown0
  iintro Hown0
  iapply (put0 X (k0_pay5 (W c)) c _ (tt 0 c) (off13_eq c) _ _ (pay6_eq _ _)) $$ Hout
  iintro Hout
  iapply (wpT_ret c)
  iapply Hk $$ %_ %_ %_ %_ %_ %_ %_ Hsent25 Hwb Hown0 Hout HO

theorem part13_run (h0 : xM.IsWhole) (h1 : wM.IsWhole) (h2 : oM.IsWhole) (h3 : sM0.IsWhole) (h4 : sM1.IsWhole) (h5 : sM2.IsWhole) (c : Dev nD) (v287 : BitVec 32) (v288 : BitVec 32) (v289 : BitVec 32) (v310 : BitVec 32) (v312 : BitVec 32) (v315 : BitVec 32) (c2_i32_355 : BitVec 32) (S : Finset (Fin 3 × Fin 8)) {Q : _ → sProp 𝕄} :
    Recs X K ⊢ iprop(PT X 0 c (rl 0 0 c) fullShare.right -∗ OutB X (k0_pay5 (W c)) c S -∗ PT X 0 c (rl 0 1 c) fullShare.right -∗ Owe (F := F) c 21
      -∗ (∀ r0 r1, PT X 0 c (rl 0 0 c) fullShare.right -∗ OutB X (k0_pay5 (W c)) c (insert (0, (away 0 c 2)) (insert (0, (away 0 c 1)) S)) -∗ PT X 0 c (rl 0 1 c) fullShare.right -∗ Owe (F := F) c 21 -∗ Q ⟨r0, r1⟩)
      -∗ wpT c (k0_part13 (F := F) xM h0 wM h1 oM h2 sM0 h3 sM1 h4 sM2 h5 cc0_scratch3 cc0_scratch4 cc0_scoped0 c (k0_pay5 (W c)) v287 v288 v289 v310 v312 v315 c2_i32_355) Q) := by
  rw [k0_part13_eq_skeleton]
  unfold k0_part13_skel
  simp only [semSignalWord, semWaitWord, Prog.lift, Prog.bind_op, Prog.bind_ret, Prog.pure_eq_ret, wp_deviceId]
  iintro #HR Hgot00 Hout Hgot01 HO Hk
  iapply (take0 X c _ _ _ (off14_1_eq c) (mem_rl0 0 c)) $$ Hgot00
  iintro Hgot00
  iapply (put0 X (k0_pay5 (W c)) c _ (away 0 c 1) (off15_1_eq c) _ _ (pay7_eq _ _)) $$ Hout
  iintro Hout
  iapply (take0 X c _ _ _ (off14_2_eq c) (mem_rl1 0 c)) $$ Hgot01
  iintro Hgot01
  iapply (put0 X (k0_pay5 (W c)) c _ (away 0 c 2) (off15_2_eq c) _ _ (pay8_eq _ _)) $$ Hout
  iintro Hout
  iapply (wpT_ret c)
  iapply Hk $$ %_ %_ Hgot00 Hout Hgot01 HO

theorem part14_run (h0 : xM.IsWhole) (h1 : wM.IsWhole) (h2 : oM.IsWhole) (h3 : sM0.IsWhole) (h4 : sM1.IsWhole) (h5 : sM2.IsWhole) (c : Dev nD) (v16 : BitVec 32) (v289 : BitVec 32) (v350 : BitVec 32) (v351 : BitVec 32) (S : Finset (Fin 3 × Fin 8)) {Q : _ → sProp 𝕄} :
    Recs X K ⊢ iprop(PT X 0 c (rl 0 2 c) fullShare.right -∗ OutB X (k0_pay5 (W c)) c S -∗ Owe (F := F) c 21
      -∗ (∀ r0 r1 r2 r3, PT X 0 c (rl 0 2 c) fullShare.right -∗ OutB X (k0_pay5 (W c)) c (insert (0, (away 0 c 3)) S) -∗ Owe (F := F) c 21 -∗ Q ⟨r0, r1, r2, r3⟩)
      -∗ wpT c (k0_part14 (F := F) xM h0 wM h1 oM h2 sM0 h3 sM1 h4 sM2 h5 cc0_scratch3 cc0_scratch4 cc0_scoped0 c v16 (k0_pay5 (W c)) v289 v350 v351) Q) := by
  rw [k0_part14_eq_skeleton]
  unfold k0_part14_skel
  simp only [semSignalWord, semWaitWord, Prog.lift, Prog.bind_op, Prog.bind_ret, Prog.pure_eq_ret, wp_deviceId]
  iintro #HR Hgot02 Hout HO Hk
  iapply (take0 X c _ _ _ (off14_3_eq c) (mem_rl2 0 c)) $$ Hgot02
  iintro Hgot02
  iapply (put0 X (k0_pay5 (W c)) c _ (away 0 c 3) (off15_3_eq c) _ _ (pay9_eq _ _)) $$ Hout
  iintro Hout
  iapply (wpT_ret c)
  iapply Hk $$ %_ %_ %_ %_ Hgot02 Hout HO

theorem part15_run (h0 : xM.IsWhole) (h1 : wM.IsWhole) (h2 : oM.IsWhole) (h3 : sM0.IsWhole) (h4 : sM1.IsWhole) (h5 : sM2.IsWhole) (c : Dev nD) (v370 : BitVec 32) (v371 : BitVec 32) (v384 : BitVec 32) (S : Finset (Fin 3 × Fin 8)) {Q : _ → sProp 𝕄} :
    Recs X K ⊢ iprop(PT X 1 c {tt 1 c} fullShare.right.right -∗ OutB X (k0_pay5 (W c)) c S -∗ PT X 1 c (rl 1 0 c) fullShare.right -∗ Owe (F := F) c 21
      -∗ (∀ r0 r1, PT X 1 c {tt 1 c} fullShare.right.right -∗ OutB X (k0_pay5 (W c)) c (insert (1, (away 1 c 1)) (insert (1, (tt 1 c)) S)) -∗ PT X 1 c (rl 1 0 c) fullShare.right -∗ Owe (F := F) c 21 -∗ Q ⟨r0, r1⟩)
      -∗ wpT c (k0_part15 (F := F) xM h0 wM h1 oM h2 sM0 h3 sM1 h4 sM2 h5 cc0_scratch3 cc0_scratch4 cc0_scoped0 c (k0_pay5 (W c)) v370 v371 v384) Q) := by
  rw [k0_part15_eq_skeleton]
  unfold k0_part15_skel
  simp only [semSignalWord, semWaitWord, Prog.lift, Prog.bind_op, Prog.bind_ret, Prog.pure_eq_ret, wp_deviceId]
  iintro #HR Hown1 Hout Hgot10 HO Hk
  iapply (take1 X c _ _ _ (off2_eq c) (mem_own 1 c)) $$ Hown1
  iintro Hown1
  iapply (put1 X (k0_pay5 (W c)) c _ (tt 1 c) (off16_eq c) _ _ (pay10_eq _ _)) $$ Hout
  iintro Hout
  iapply (take1 X c _ _ _ (off17_1_eq c) (mem_rl0 1 c)) $$ Hgot10
  iintro Hgot10
  iapply (put1 X (k0_pay5 (W c)) c _ (away 1 c 1) (off18_1_eq c) _ _ (pay11_eq _ _)) $$ Hout
  iintro Hout
  iapply (wpT_ret c)
  iapply Hk $$ %_ %_ Hown1 Hout Hgot10 HO

theorem part16_run (h0 : xM.IsWhole) (h1 : wM.IsWhole) (h2 : oM.IsWhole) (h3 : sM0.IsWhole) (h4 : sM1.IsWhole) (h5 : sM2.IsWhole) (c : Dev nD) (v20 : BitVec 32) (v371 : BitVec 32) (v372 : BitVec 32) (v420 : BitVec 32) (v421 : BitVec 32) (S : Finset (Fin 3 × Fin 8)) {Q : _ → sProp 𝕄} :
    Recs X K ⊢ iprop(PT X 1 c (rl 1 1 c) fullShare.right -∗ OutB X (k0_pay5 (W c)) c S -∗ PT X 1 c (rl 1 2 c) fullShare.right -∗ Owe (F := F) c 21
      -∗ (∀ r0 r1 r2 r3, PT X 1 c (rl 1 1 c) fullShare.right -∗ OutB X (k0_pay5 (W c)) c (insert (1, (away 1 c 3)) (insert (1, (away 1 c 2)) S)) -∗ PT X 1 c (rl 1 2 c) fullShare.right -∗ Owe (F := F) c 21 -∗ Q ⟨r0, r1, r2, r3⟩)
      -∗ wpT c (k0_part16 (F := F) xM h0 wM h1 oM h2 sM0 h3 sM1 h4 sM2 h5 cc0_scratch3 cc0_scratch4 cc0_scoped0 c v20 (k0_pay5 (W c)) v371 v372 v420 v421) Q) := by
  rw [k0_part16_eq_skeleton]
  unfold k0_part16_skel
  simp only [semSignalWord, semWaitWord, Prog.lift, Prog.bind_op, Prog.bind_ret, Prog.pure_eq_ret, wp_deviceId]
  iintro #HR Hgot11 Hout Hgot12 HO Hk
  iapply (take1 X c _ _ _ (off17_2_eq c) (mem_rl1 1 c)) $$ Hgot11
  iintro Hgot11
  iapply (put1 X (k0_pay5 (W c)) c _ (away 1 c 2) (off18_2_eq c) _ _ (pay12_eq _ _)) $$ Hout
  iintro Hout
  iapply (take1 X c _ _ _ (off17_3_eq c) (mem_rl2 1 c)) $$ Hgot12
  iintro Hgot12
  iapply (put1 X (k0_pay5 (W c)) c _ (away 1 c 3) (off18_3_eq c) _ _ (pay13_eq _ _)) $$ Hout
  iintro Hout
  iapply (wpT_ret c)
  iapply Hk $$ %_ %_ %_ %_ Hgot11 Hout Hgot12 HO

theorem part17_run (h0 : xM.IsWhole) (h1 : wM.IsWhole) (h2 : oM.IsWhole) (h3 : sM0.IsWhole) (h4 : sM1.IsWhole) (h5 : sM2.IsWhole) (c : Dev nD) (v20 : BitVec 32) (v453 : BitVec 32) (v456 : BitVec 32) (S : Finset (Fin 3 × Fin 8)) {Q : _ → sProp 𝕄} :
    Recs X K ⊢ iprop(PT X 2 c {tt 2 c} fullShare.right.right -∗ OutB X (k0_pay5 (W c)) c S -∗ PT X 2 c (rl 2 0 c) fullShare.right -∗ Owe (F := F) c 21
      -∗ (∀ r0, PT X 2 c {tt 2 c} fullShare.right.right -∗ OutB X (k0_pay5 (W c)) c (insert (2, (tt 2 c)) S) -∗ PT X 2 c (rl 2 0 c) fullShare.right -∗ Owe (F := F) c 21 -∗ Q ⟨r0, (k0_pay15 (k0_pay5 (W c)) (slotVec X 80 176 (by omega) 2 (away 2 c 1)))⟩)
      -∗ wpT c (k0_part17 (F := F) xM h0 wM h1 oM h2 sM0 h3 sM1 h4 sM2 h5 cc0_scratch3 cc0_scratch4 cc0_scoped0 c v20 (k0_pay5 (W c)) v453 v456) Q) := by
  rw [k0_part17_eq_skeleton]
  unfold k0_part17_skel
  simp only [semSignalWord, semWaitWord, Prog.lift, Prog.bind_op, Prog.bind_ret, Prog.pure_eq_ret, wp_deviceId]
  iintro #HR Hown2 Hout Hgot20 HO Hk
  iapply (take2 X c _ _ _ (off3_eq c) (mem_own 2 c)) $$ Hown2
  iintro Hown2
  iapply (put2 X (k0_pay5 (W c)) c _ (tt 2 c) (off19_eq c) _ _ (pay14_eq _ _)) $$ Hout
  iintro Hout
  iapply (take2 X c _ _ _ (off20_1_eq c) (mem_rl0 2 c)) $$ Hgot20
  iintro Hgot20
  iapply (wpT_ret c)
  iapply Hk $$ %_ Hown2 Hout Hgot20 HO

theorem part18_run (h0 : xM.IsWhole) (h1 : wM.IsWhole) (h2 : oM.IsWhole) (h3 : sM0.IsWhole) (h4 : sM1.IsWhole) (h5 : sM2.IsWhole) (c : Dev nD) (v454 : BitVec 32) (v455 : BitVec 32) (v487 : BitVec 32) (S : Finset (Fin 3 × Fin 8)) {Q : _ → sProp 𝕄} :
    Recs X K ⊢ iprop(OutB X (k0_pay5 (W c)) c S -∗ PT X 2 c (rl 2 1 c) fullShare.right -∗ Owe (F := F) c 21
      -∗ (∀ r0 r1, OutB X (k0_pay5 (W c)) c (insert (2, (away 2 c 2)) (insert (2, (away 2 c 1)) S)) -∗ PT X 2 c (rl 2 1 c) fullShare.right -∗ Owe (F := F) c 21 -∗ Q ⟨r0, r1⟩)
      -∗ wpT c (k0_part18 (F := F) xM h0 wM h1 oM h2 sM0 h3 sM1 h4 sM2 h5 cc0_scratch3 cc0_scratch4 cc0_scoped0 c (k0_pay5 (W c)) v454 v455 v487 (k0_pay15 (k0_pay5 (W c)) (slotVec X 80 176 (by omega) 2 (away 2 c 1)))) Q) := by
  rw [k0_part18_eq_skeleton]
  unfold k0_part18_skel
  simp only [semSignalWord, semWaitWord, Prog.lift, Prog.bind_op, Prog.bind_ret, Prog.pure_eq_ret, wp_deviceId]
  iintro #HR Hout Hgot21 HO Hk
  iapply (put2 X (k0_pay5 (W c)) c _ (away 2 c 1) (off21_1_eq c) _ _ (pay16_eq _ _)) $$ Hout
  iintro Hout
  iapply (take2 X c _ _ _ (off20_2_eq c) (mem_rl1 2 c)) $$ Hgot21
  iintro Hgot21
  iapply (put2 X (k0_pay5 (W c)) c _ (away 2 c 2) (off21_2_eq c) _ _ (pay17_eq _ _)) $$ Hout
  iintro Hout
  iapply (wpT_ret c)
  iapply Hk $$ %_ %_ Hout Hgot21 HO

theorem part19_run (h0 : xM.IsWhole) (h1 : wM.IsWhole) (h2 : oM.IsWhole) (h3 : sM0.IsWhole) (h4 : sM1.IsWhole) (h5 : sM2.IsWhole) (c : Dev nD) (v2 : BitVec 32) (v12 : BitVec 32) (v455 : BitVec 32) (v526 : BitVec 32) (c176_i32_492 : BitVec 32) (S : Finset (Fin 3 × Fin 8)) {Q : _ → sProp 𝕄} :
    Recs X K ⊢ iprop(PT X 2 c (rl 2 2 c) fullShare.right -∗ OutB X (k0_pay5 (W c)) c S -∗ Rcv (F := F) c 0 3 -∗ Owe (F := F) c 21
      -∗ (∀ r0, PT X 2 c (rl 2 2 c) fullShare.right -∗ OutB X (k0_pay5 (W c)) c (insert (2, (away 2 c 3)) S) -∗ PT X 0 c (rl 0 3 c) fullShare -∗ At1 (F := F) c (.inr (true, 0, 3)) -∗ Owe (F := F) c 21 -∗ Q ⟨r0, (slotVec X 96 0 (by omega) 0 (away 0 c 4))⟩)
      -∗ wpT c (k0_part19 (F := F) xM h0 wM h1 oM h2 sM0 h3 sM1 h4 sM2 h5 cc0_scratch3 cc0_scratch4 cc0_scoped0 c v2 v12 (k0_pay5 (W c)) v455 v526 c176_i32_492) Q) := by
  rw [k0_part19_eq_skeleton]
  unfold k0_part19_skel
  simp only [semSignalWord, semWaitWord, Prog.lift, Prog.bind_op, Prog.bind_ret, Prog.pure_eq_ret, wp_deviceId]
  iintro #HR Hgot22 Hout Hrcv03 HO Hk
  iapply (take2 X c _ _ _ (off20_3_eq c) (mem_rl2 2 c)) $$ Hgot22
  iintro Hgot22
  iapply (put2 X (k0_pay5 (W c)) c _ (away 2 c 3) (off21_3_eq c) _ _ (pay18_eq _ _)) $$ Hout
  iintro Hout
  iapply (step_recv X K c 0 3 21 _ sem_r03 cred_03 (by decide)) $$ HR Hrcv03 HO
  iintro Hgot03 Hatr03 HO
  iapply (take0 X c _ _ _ (off14_4_eq c) (mem_rl3 0 c)) $$ Hgot03
  iintro Hgot03
  iapply (wpT_ret c)
  iapply Hk $$ %_ Hgot22 Hout Hgot03 Hatr03 HO

theorem part20_run (h0 : xM.IsWhole) (h1 : wM.IsWhole) (h2 : oM.IsWhole) (h3 : sM0.IsWhole) (h4 : sM1.IsWhole) (h5 : sM2.IsWhole) (c : Dev nD) (v2 : BitVec 32) (v12 : BitVec 32) (v555 : BitVec 32) (S : Finset (Fin 3 × Fin 8)) {Q : _ → sProp 𝕄} :
    Recs X K ⊢ iprop(OutB X (k0_pay5 (W c)) c S -∗ Rcv (F := F) c 0 4 -∗ Owe (F := F) c 21
      -∗ (∀ r0, OutB X (k0_pay5 (W c)) c (insert (0, (away 0 c 4)) S) -∗ PT X 0 c (rl 0 4 c) fullShare -∗ At1 (F := F) c (.inr (true, 0, 4)) -∗ Owe (F := F) c 21 -∗ Q ⟨r0, (k0_pay20 (k0_pay5 (W c)) (slotVec X 96 0 (by omega) 0 (away 0 c 5)))⟩)
      -∗ wpT c (k0_part20 (F := F) xM h0 wM h1 oM h2 sM0 h3 sM1 h4 sM2 h5 cc0_scratch3 cc0_scratch4 cc0_scoped0 c v2 v12 (k0_pay5 (W c)) v555 (slotVec X 96 0 (by omega) 0 (away 0 c 4))) Q) := by
  rw [k0_part20_eq_skeleton]
  unfold k0_part20_skel
  simp only [semSignalWord, semWaitWord, Prog.lift, Prog.bind_op, Prog.bind_ret, Prog.pure_eq_ret, wp_deviceId]
  iintro #HR Hout Hrcv04 HO Hk
  iapply (put0 X (k0_pay5 (W c)) c _ (away 0 c 4) (off15_4_eq c) _ _ (pay19_eq _ _)) $$ Hout
  iintro Hout
  iapply (step_recv X K c 0 4 21 _ sem_r04 cred_04 (by decide)) $$ HR Hrcv04 HO
  iintro Hgot04 Hatr04 HO
  iapply (take0 X c _ _ _ (off14_5_eq c) (mem_rl4 0 c)) $$ Hgot04
  iintro Hgot04
  iapply (wpT_ret c)
  iapply Hk $$ %_ Hout Hgot04 Hatr04 HO

theorem part21_run (h0 : xM.IsWhole) (h1 : wM.IsWhole) (h2 : oM.IsWhole) (h3 : sM0.IsWhole) (h4 : sM1.IsWhole) (h5 : sM2.IsWhole) (c : Dev nD) (v2 : BitVec 32) (v12 : BitVec 32) (v583 : BitVec 32) (S : Finset (Fin 3 × Fin 8)) {Q : _ → sProp 𝕄} :
    Recs X K ⊢ iprop(OutB X (k0_pay5 (W c)) c S -∗ Rcv (F := F) c 0 5 -∗ Owe (F := F) c 21
      -∗ (∀ r0 r1, OutB X (k0_pay5 (W c)) c (insert (0, (pair 0 c 6)) (insert (0, (away 0 c 5)) S)) -∗ PT X 0 c (rl 0 5 c) fullShare -∗ At1 (F := F) c (.inr (true, 0, 5)) -∗ Owe (F := F) c 21 -∗ Q ⟨r0, r1⟩)
      -∗ wpT c (k0_part21 (F := F) xM h0 wM h1 oM h2 sM0 h3 sM1 h4 sM2 h5 cc0_scratch3 cc0_scratch4 cc0_scoped0 c v2 v12 (k0_pay5 (W c)) v583 (k0_pay20 (k0_pay5 (W c)) (slotVec X 96 0 (by omega) 0 (away 0 c 5)))) Q) := by
  rw [k0_part21_eq_skeleton]
  unfold k0_part21_skel
  simp only [semSignalWord, semWaitWord, Prog.lift, Prog.bind_op, Prog.bind_ret, Prog.pure_eq_ret, wp_deviceId]
  iintro #HR Hout Hrcv05 HO Hk
  iapply (put0 X (k0_pay5 (W c)) c _ (away 0 c 5) (off15_5_eq c) _ _ (pay20_eq _ _)) $$ Hout
  iintro Hout
  iapply (step_recv X K c 0 5 21 _ sem_r05 cred_05 (by decide)) $$ HR Hrcv05 HO
  iintro Hgot05 Hatr05 HO
  iapply (take0 X c _ _ _ (off22_eq c) (mem_pair 0 c)) $$ Hgot05
  iintro Hgot05
  iapply (put0 X (k0_pay5 (W c)) c _ (pair 0 c 6) (off23_eq c) _ _ (pay21_eq _ _)) $$ Hout
  iintro Hout
  iapply (wpT_ret c)
  iapply Hk $$ %_ %_ Hout Hgot05 Hatr05 HO

theorem part22_run (h0 : xM.IsWhole) (h1 : wM.IsWhole) (h2 : oM.IsWhole) (h3 : sM0.IsWhole) (h4 : sM1.IsWhole) (h5 : sM2.IsWhole) (c : Dev nD) (v2 : BitVec 32) (v16 : BitVec 32) (v593 : BitVec 32) (c1_i32_571 : BitVec 32) (S : Finset (Fin 3 × Fin 8)) {Q : _ → sProp 𝕄} :
    Recs X K ⊢ iprop(PT X 0 c (rl 0 5 c) fullShare -∗ OutB X (k0_pay5 (W c)) c S -∗ Rcv (F := F) c 1 3 -∗ Owe (F := F) c 21
      -∗ (∀ r0 r1 r2, PT X 0 c (rl 0 5 c) fullShare -∗ OutB X (k0_pay5 (W c)) c (insert (0, (pair' 0 c 6)) S) -∗ PT X 1 c (rl 1 3 c) fullShare -∗ At1 (F := F) c (.inr (true, 1, 3)) -∗ Owe (F := F) c 21 -∗ Q ⟨r0, r1, r2⟩)
      -∗ wpT c (k0_part22 (F := F) xM h0 wM h1 oM h2 sM0 h3 sM1 h4 sM2 h5 cc0_scratch3 cc0_scratch4 cc0_scoped0 c v2 v16 (k0_pay5 (W c)) v593 c1_i32_571) Q) := by
  rw [k0_part22_eq_skeleton]
  unfold k0_part22_skel
  simp only [semSignalWord, semWaitWord, Prog.lift, Prog.bind_op, Prog.bind_ret, Prog.pure_eq_ret, wp_deviceId]
  iintro #HR Hgot05 Hout Hrcv13 HO Hk
  iapply (take0 X c _ _ _ (off24_eq c) (mem_pair' 0 c)) $$ Hgot05
  iintro Hgot05
  iapply (put0 X (k0_pay5 (W c)) c _ (pair' 0 c 6) (off25_eq c) _ _ (pay22_eq _ _)) $$ Hout
  iintro Hout
  iapply (step_recv X K c 1 3 21 _ sem_r13 cred_13 (by decide)) $$ HR Hrcv13 HO
  iintro Hgot13 Hatr13 HO
  iapply (wpT_ret c)
  iapply Hk $$ %_ %_ %_ Hgot05 Hout Hgot13 Hatr13 HO

theorem part23_run (h0 : xM.IsWhole) (h1 : wM.IsWhole) (h2 : oM.IsWhole) (h3 : sM0.IsWhole) (h4 : sM1.IsWhole) (h5 : sM2.IsWhole) (c : Dev nD) (v2 : BitVec 32) (v16 : BitVec 32) (v648 : BitVec 32) (v649 : BitVec 32) (v650 : BitVec 32) (S : Finset (Fin 3 × Fin 8)) {Q : _ → sProp 𝕄} :
    Recs X K ⊢ iprop(PT X 1 c (rl 1 3 c) fullShare -∗ OutB X (k0_pay5 (W c)) c S -∗ Rcv (F := F) c 1 4 -∗ Owe (F := F) c 21
      -∗ (∀ r0 r1 r2 r3 r4, PT X 1 c (rl 1 3 c) fullShare -∗ OutB X (k0_pay5 (W c)) c (insert (1, (away 1 c 4)) S) -∗ PT X 1 c (rl 1 4 c) fullShare -∗ At1 (F := F) c (.inr (true, 1, 4)) -∗ Owe (F := F) c 21 -∗ Q ⟨r0, r1, r2, r3, r4⟩)
      -∗ wpT c (k0_part23 (F := F) xM h0 wM h1 oM h2 sM0 h3 sM1 h4 sM2 h5 cc0_scratch3 cc0_scratch4 cc0_scoped0 c v2 v16 (k0_pay5 (W c)) v648 v649 v650) Q) := by
  rw [k0_part23_eq_skeleton]
  unfold k0_part23_skel
  simp only [semSignalWord, semWaitWord, Prog.lift, Prog.bind_op, Prog.bind_ret, Prog.pure_eq_ret, wp_deviceId]
  iintro #HR Hgot13 Hout Hrcv14 HO Hk
  iapply (take1 X c _ _ _ (off17_4_eq c) (mem_rl3 1 c)) $$ Hgot13
  iintro Hgot13
  iapply (put1 X (k0_pay5 (W c)) c _ (away 1 c 4) (off18_4_eq c) _ _ (pay23_eq _ _)) $$ Hout
  iintro Hout
  iapply (step_recv X K c 1 4 21 _ sem_r14 cred_14 (by decide)) $$ HR Hrcv14 HO
  iintro Hgot14 Hatr14 HO
  iapply (wpT_ret c)
  iapply Hk $$ %_ %_ %_ %_ %_ Hgot13 Hout Hgot14 Hatr14 HO

theorem part24_run (h0 : xM.IsWhole) (h1 : wM.IsWhole) (h2 : oM.IsWhole) (h3 : sM0.IsWhole) (h4 : sM1.IsWhole) (h5 : sM2.IsWhole) (c : Dev nD) (v2 : BitVec 32) (v16 : BitVec 32) (v676 : BitVec 32) (v677 : BitVec 32) (v679 : BitVec 32) (v680 : BitVec 32) (c1_i32_626 : BitVec 32) (S : Finset (Fin 3 × Fin 8)) {Q : _ → sProp 𝕄} :
    Recs X K ⊢ iprop(PT X 1 c (rl 1 4 c) fullShare -∗ OutB X (k0_pay5 (W c)) c S -∗ Rcv (F := F) c 1 5 -∗ Owe (F := F) c 21
      -∗ (∀ r0 r1 r2, PT X 1 c (rl 1 4 c) fullShare -∗ OutB X (k0_pay5 (W c)) c (insert (1, (away 1 c 5)) S) -∗ PT X 1 c (rl 1 5 c) fullShare -∗ At1 (F := F) c (.inr (true, 1, 5)) -∗ Owe (F := F) c 21 -∗ Q ⟨r0, r1, r2⟩)
      -∗ wpT c (k0_part24 (F := F) xM h0 wM h1 oM h2 sM0 h3 sM1 h4 sM2 h5 cc0_scratch3 cc0_scratch4 cc0_scoped0 c v2 v16 (k0_pay5 (W c)) v676 v677 v679 v680 c1_i32_626) Q) := by
  rw [k0_part24_eq_skeleton]
  unfold k0_part24_skel
  simp only [semSignalWord, semWaitWord, Prog.lift, Prog.bind_op, Prog.bind_ret, Prog.pure_eq_ret, wp_deviceId]
  iintro #HR Hgot14 Hout Hrcv15 HO Hk
  iapply (take1 X c _ _ _ (off17_5_eq c) (mem_rl4 1 c)) $$ Hgot14
  iintro Hgot14
  iapply (put1 X (k0_pay5 (W c)) c _ (away 1 c 5) (off18_5_eq c) _ _ (pay24_eq _ _)) $$ Hout
  iintro Hout
  iapply (step_recv X K c 1 5 21 _ sem_r15 cred_15 (by decide)) $$ HR Hrcv15 HO
  iintro Hgot15 Hatr15 HO
  iapply (wpT_ret c)
  iapply Hk $$ %_ %_ %_ Hgot14 Hout Hgot15 Hatr15 HO

theorem part25_run (h0 : xM.IsWhole) (h1 : wM.IsWhole) (h2 : oM.IsWhole) (h3 : sM0.IsWhole) (h4 : sM1.IsWhole) (h5 : sM2.IsWhole) (c : Dev nD) (v20 : BitVec 32) (v698 : BitVec 32) (v709 : BitVec 32) (v712 : BitVec 32) (S : Finset (Fin 3 × Fin 8)) {Q : _ → sProp 𝕄} :
    Recs X K ⊢ iprop(PT X 1 c (rl 1 5 c) fullShare -∗ OutB X (k0_pay5 (W c)) c S -∗ Owe (F := F) c 21
      -∗ (PT X 1 c (rl 1 5 c) fullShare -∗ OutB X (k0_pay5 (W c)) c (insert (1, (pair' 1 c 6)) (insert (1, (pair 1 c 6)) S)) -∗ Owe (F := F) c 21 -∗ Q ⟨⟩)
      -∗ wpT c (k0_part25 (F := F) xM h0 wM h1 oM h2 sM0 h3 sM1 h4 sM2 h5 cc0_scratch3 cc0_scratch4 cc0_scoped0 c v20 (k0_pay5 (W c)) v698 v709 v712) Q) := by
  rw [k0_part25_eq_skeleton]
  unfold k0_part25_skel
  simp only [semSignalWord, semWaitWord, Prog.lift, Prog.bind_op, Prog.bind_ret, Prog.pure_eq_ret, wp_deviceId]
  iintro #HR Hgot15 Hout HO Hk
  iapply (take1 X c _ _ _ (off26_eq c) (mem_pair 1 c)) $$ Hgot15
  iintro Hgot15
  iapply (put1 X (k0_pay5 (W c)) c _ (pair 1 c 6) (off27_eq c) _ _ (pay25_eq _ _)) $$ Hout
  iintro Hout
  iapply (take1 X c _ _ _ (off28_eq c) (mem_pair' 1 c)) $$ Hgot15
  iintro Hgot15
  iapply (put1 X (k0_pay5 (W c)) c _ (pair' 1 c 6) (off29_eq c) _ _ (pay26_eq _ _)) $$ Hout
  iintro Hout
  iapply (wpT_ret c)
  iapply Hk $$  Hgot15 Hout HO

theorem part26_run (h0 : xM.IsWhole) (h1 : wM.IsWhole) (h2 : oM.IsWhole) (h3 : sM0.IsWhole) (h4 : sM1.IsWhole) (h5 : sM2.IsWhole) (c : Dev nD) (v2 : BitVec 32) (v20 : BitVec 32) (S : Finset (Fin 3 × Fin 8)) {Q : _ → sProp 𝕄} :
    Recs X K ⊢ iprop(Rcv (F := F) c 2 3 -∗ OutB X (k0_pay5 (W c)) c S -∗ Owe (F := F) c 21
      -∗ (∀ r0 r1, PT X 2 c (rl 2 3 c) fullShare -∗ At1 (F := F) c (.inr (true, 2, 3)) -∗ OutB X (k0_pay5 (W c)) c (insert (2, (away 2 c 4)) S) -∗ Owe (F := F) c 21 -∗ Q ⟨r0, r1⟩)
      -∗ wpT c (k0_part26 (F := F) xM h0 wM h1 oM h2 sM0 h3 sM1 h4 sM2 h5 cc0_scratch3 cc0_scratch4 cc0_scoped0 c v2 v20 (k0_pay5 (W c))) Q) := by
  rw [k0_part26_eq_skeleton]
  unfold k0_part26_skel
  simp only [semSignalWord, semWaitWord, Prog.lift, Prog.bind_op, Prog.bind_ret, Prog.pure_eq_ret, wp_deviceId]
  iintro #HR Hrcv23 Hout HO Hk
  iapply (step_recv X K c 2 3 21 _ sem_r23 cred_23 (by decide)) $$ HR Hrcv23 HO
  iintro Hgot23 Hatr23 HO
  iapply (take2 X c _ _ _ (off20_4_eq c) (mem_rl3 2 c)) $$ Hgot23
  iintro Hgot23
  iapply (put2 X (k0_pay5 (W c)) c _ (away 2 c 4) (off21_4_eq c) _ _ (pay27_eq _ _)) $$ Hout
  iintro Hout
  iapply (wpT_ret c)
  iapply Hk $$ %_ %_ Hgot23 Hatr23 Hout HO

theorem part27_run (h0 : xM.IsWhole) (h1 : wM.IsWhole) (h2 : oM.IsWhole) (h3 : sM0.IsWhole) (h4 : sM1.IsWhole) (h5 : sM2.IsWhole) (c : Dev nD) (v2 : BitVec 32) (v20 : BitVec 32) (v775 : BitVec 32) (c0_i32_705 : BitVec 32) (S : Finset (Fin 3 × Fin 8)) {Q : _ → sProp 𝕄} :
    Recs X K ⊢ iprop(Rcv (F := F) c 2 4 -∗ OutB X (k0_pay5 (W c)) c S -∗ Owe (F := F) c 21
      -∗ (∀ r0, PT X 2 c (rl 2 4 c) fullShare -∗ At1 (F := F) c (.inr (true, 2, 4)) -∗ OutB X (k0_pay5 (W c)) c (insert (2, (away 2 c 5)) S) -∗ Owe (F := F) c 21 -∗ Q r0)
      -∗ wpT c (k0_part27 (F := F) xM h0 wM h1 oM h2 sM0 h3 sM1 h4 sM2 h5 cc0_scratch3 cc0_scratch4 cc0_scoped0 c v2 v20 (k0_pay5 (W c)) v775 c0_i32_705) Q) := by
  rw [k0_part27_eq_skeleton]
  unfold k0_part27_skel
  simp only [semSignalWord, semWaitWord, Prog.lift, Prog.bind_op, Prog.bind_ret, Prog.pure_eq_ret, wp_deviceId]
  iintro #HR Hrcv24 Hout HO Hk
  iapply (step_recv X K c 2 4 21 _ sem_r24 cred_24 (by decide)) $$ HR Hrcv24 HO
  iintro Hgot24 Hatr24 HO
  iapply (take2 X c _ _ _ (off20_5_eq c) (mem_rl4 2 c)) $$ Hgot24
  iintro Hgot24
  iapply (put2 X (k0_pay5 (W c)) c _ (away 2 c 5) (off21_5_eq c) _ _ (pay28_eq _ _)) $$ Hout
  iintro Hout
  iapply (wpT_ret c)
  iapply Hk $$ %_ Hgot24 Hatr24 Hout HO

theorem part28_run (h0 : xM.IsWhole) (h1 : wM.IsWhole) (h2 : oM.IsWhole) (h3 : sM0.IsWhole) (h4 : sM1.IsWhole) (h5 : sM2.IsWhole) (c : Dev nD) (v803 : BitVec 32) (S : Finset (Fin 3 × Fin 8)) {Q : _ → sProp 𝕄} :
    Recs X K ⊢ iprop(Rcv (F := F) c 2 5 -∗ OutB X (k0_pay5 (W c)) c S -∗ Owe (F := F) c 21
      -∗ (∀ r0 r1, PT X 2 c (rl 2 5 c) fullShare -∗ At1 (F := F) c (.inr (true, 2, 5)) -∗ OutB X (k0_pay5 (W c)) c (insert (2, (pair 2 c 6)) S) -∗ Owe (F := F) c 21 -∗ Q ⟨r0, r1⟩)
      -∗ wpT c (k0_part28 (F := F) xM h0 wM h1 oM h2 sM0 h3 sM1 h4 sM2 h5 cc0_scratch3 cc0_scratch4 cc0_scoped0 c (k0_pay5 (W c)) v803) Q) := by
  rw [k0_part28_eq_skeleton]
  unfold k0_part28_skel
  simp only [semSignalWord, semWaitWord, Prog.lift, Prog.bind_op, Prog.bind_ret, Prog.pure_eq_ret, wp_deviceId]
  iintro #HR Hrcv25 Hout HO Hk
  iapply (step_recv X K c 2 5 21 _ sem_r25 cred_25 (by decide)) $$ HR Hrcv25 HO
  iintro Hgot25 Hatr25 HO
  iapply (take2 X c _ _ _ (off30_eq c) (mem_pair 2 c)) $$ Hgot25
  iintro Hgot25
  iapply (put2 X (k0_pay5 (W c)) c _ (pair 2 c 6) (off31_eq c) _ _ (pay29_eq _ _)) $$ Hout
  iintro Hout
  iapply (wpT_ret c)
  iapply Hk $$ %_ %_ Hgot25 Hatr25 Hout HO

theorem part29_run (h0 : xM.IsWhole) (h1 : wM.IsWhole) (h2 : oM.IsWhole) (h3 : sM0.IsWhole) (h4 : sM1.IsWhole) (h5 : sM2.IsWhole) (c : Dev nD) (v830 : BitVec 32) (v840 : BitVec 32) (S : Finset (Fin 3 × Fin 8)) {Q : _ → sProp 𝕄} :
    Recs X K ⊢ iprop(PT X 2 c (rl 2 5 c) fullShare -∗ OutB X (k0_pay5 (W c)) c S -∗ Sent (F := F) c 0 0 -∗ Sent (F := F) c 0 1 -∗ Sent (F := F) c 0 3 -∗ Owe (F := F) c 21
      -∗ (PT X 2 c (rl 2 5 c) fullShare -∗ OutB X (k0_pay5 (W c)) c (insert (2, (pair' 2 c 6)) S) -∗ Src X c 0 0 -∗ At1 (F := F) c (.inr (false, 0, 0)) -∗ Src X c 0 1 -∗ At1 (F := F) c (.inr (false, 0, 1)) -∗ Src X c 0 3 -∗ At1 (F := F) c (.inr (false, 0, 3)) -∗ Owe (F := F) c 21 -∗ Q ⟨⟩)
      -∗ wpT c (k0_part29 (F := F) xM h0 wM h1 oM h2 sM0 h3 sM1 h4 sM2 h5 cc0_scratch3 cc0_scratch4 cc0_scoped0 c (k0_pay5 (W c)) v830 v840) Q) := by
  rw [k0_part29_eq_skeleton]
  unfold k0_part29_skel
  simp only [semSignalWord, semWaitWord, Prog.lift, Prog.bind_op, Prog.bind_ret, Prog.pure_eq_ret, wp_deviceId]
  iintro #HR Hgot25 Hout Hsent00 Hsent01 Hsent03 HO Hk
  iapply (take2 X c _ _ _ (off32_eq c) (mem_pair' 2 c)) $$ Hgot25
  iintro Hgot25
  iapply (put2 X (k0_pay5 (W c)) c _ (pair' 2 c 6) (off33_eq c) _ _ (pay30_eq _ _)) $$ Hout
  iintro Hout
  iapply (step_swait X K c 0 0 21 _ sem_s00 cred_00 (by decide)) $$ HR Hsent00 HO
  iintro Hsrc00 Hats00 HO
  iapply (step_swait X K c 0 1 21 _ sem_s01 cred_01 (by decide)) $$ HR Hsent01 HO
  iintro Hsrc01 Hats01 HO
  iapply (step_swait X K c 0 3 21 _ sem_s03 cred_03 (by decide)) $$ HR Hsent03 HO
  iintro Hsrc03 Hats03 HO
  iapply (wpT_ret c)
  iapply Hk $$  Hgot25 Hout Hsrc00 Hats00 Hsrc01 Hats01 Hsrc03 Hats03 HO

theorem part30_run (h0 : xM.IsWhole) (h1 : wM.IsWhole) (h2 : oM.IsWhole) (h3 : sM0.IsWhole) (h4 : sM1.IsWhole) (h5 : sM2.IsWhole) (c : Dev nD)  {Q : _ → sProp 𝕄} :
    Recs X K ⊢ iprop(Sent (F := F) c 1 0 -∗ Sent (F := F) c 1 1 -∗ Sent (F := F) c 1 3 -∗ Sent (F := F) c 2 0 -∗ Owe (F := F) c 21
      -∗ (Src X c 1 0 -∗ At1 (F := F) c (.inr (false, 1, 0)) -∗ Src X c 1 1 -∗ At1 (F := F) c (.inr (false, 1, 1)) -∗ Src X c 1 3 -∗ At1 (F := F) c (.inr (false, 1, 3)) -∗ Src X c 2 0 -∗ At1 (F := F) c (.inr (false, 2, 0)) -∗ Owe (F := F) c 21 -∗ Q ⟨⟩)
      -∗ wpT c (k0_part30 (F := F) xM h0 wM h1 oM h2 sM0 h3 sM1 h4 sM2 h5 cc0_scratch3 cc0_scratch4 cc0_scoped0 c) Q) := by
  rw [k0_part30_eq_skeleton]
  unfold k0_part30_skel
  simp only [semSignalWord, semWaitWord, Prog.lift, Prog.bind_op, Prog.bind_ret, Prog.pure_eq_ret, wp_deviceId]
  iintro #HR Hsent10 Hsent11 Hsent13 Hsent20 HO Hk
  iapply (step_swait X K c 1 0 21 _ sem_s10 cred_10 (by decide)) $$ HR Hsent10 HO
  iintro Hsrc10 Hats10 HO
  iapply (step_swait X K c 1 1 21 _ sem_s11 cred_11 (by decide)) $$ HR Hsent11 HO
  iintro Hsrc11 Hats11 HO
  iapply (step_swait X K c 1 3 21 _ sem_s13 cred_13 (by decide)) $$ HR Hsent13 HO
  iintro Hsrc13 Hats13 HO
  iapply (step_swait X K c 2 0 21 _ sem_s20 cred_20 (by decide)) $$ HR Hsent20 HO
  iintro Hsrc20 Hats20 HO
  iapply (wpT_ret c)
  iapply Hk $$  Hsrc10 Hats10 Hsrc11 Hats11 Hsrc13 Hats13 Hsrc20 Hats20 HO

theorem part31_run (h0 : xM.IsWhole) (h1 : wM.IsWhole) (h2 : oM.IsWhole) (h3 : sM0.IsWhole) (h4 : sM1.IsWhole) (h5 : sM2.IsWhole) (c : Dev nD)  {Q : _ → sProp 𝕄} :
    Recs X K ⊢ iprop(Sent (F := F) c 2 1 -∗ Sent (F := F) c 2 3 -∗ Sent (F := F) c 0 2 -∗ Sent (F := F) c 0 4 -∗ Owe (F := F) c 21
      -∗ (Src X c 2 1 -∗ At1 (F := F) c (.inr (false, 2, 1)) -∗ Src X c 2 3 -∗ At1 (F := F) c (.inr (false, 2, 3)) -∗ Src X c 0 2 -∗ At1 (F := F) c (.inr (false, 0, 2)) -∗ Src X c 0 4 -∗ At1 (F := F) c (.inr (false, 0, 4)) -∗ Owe (F := F) c 21 -∗ Q ⟨⟩)
      -∗ wpT c (k0_part31 (F := F) xM h0 wM h1 oM h2 sM0 h3 sM1 h4 sM2 h5 cc0_scratch3 cc0_scratch4 cc0_scoped0 c) Q) := by
  rw [k0_part31_eq_skeleton]
  unfold k0_part31_skel
  simp only [semSignalWord, semWaitWord, Prog.lift, Prog.bind_op, Prog.bind_ret, Prog.pure_eq_ret, wp_deviceId]
  iintro #HR Hsent21 Hsent23 Hsent02 Hsent04 HO Hk
  iapply (step_swait X K c 2 1 21 _ sem_s21 cred_21 (by decide)) $$ HR Hsent21 HO
  iintro Hsrc21 Hats21 HO
  iapply (step_swait X K c 2 3 21 _ sem_s23 cred_23 (by decide)) $$ HR Hsent23 HO
  iintro Hsrc23 Hats23 HO
  iapply (step_swait X K c 0 2 21 _ sem_s02 cred_02 (by decide)) $$ HR Hsent02 HO
  iintro Hsrc02 Hats02 HO
  iapply (step_swait X K c 0 4 21 _ sem_s04 cred_04 (by decide)) $$ HR Hsent04 HO
  iintro Hsrc04 Hats04 HO
  iapply (wpT_ret c)
  iapply Hk $$  Hsrc21 Hats21 Hsrc23 Hats23 Hsrc02 Hats02 Hsrc04 Hats04 HO

theorem part32_run (h0 : xM.IsWhole) (h1 : wM.IsWhole) (h2 : oM.IsWhole) (h3 : sM0.IsWhole) (h4 : sM1.IsWhole) (h5 : sM2.IsWhole) (c : Dev nD)  {Q : _ → sProp 𝕄} :
    Recs X K ⊢ iprop(Sent (F := F) c 1 2 -∗ Sent (F := F) c 1 4 -∗ Sent (F := F) c 2 2 -∗ Sent (F := F) c 2 4 -∗ Owe (F := F) c 21
      -∗ (Src X c 1 2 -∗ At1 (F := F) c (.inr (false, 1, 2)) -∗ Src X c 1 4 -∗ At1 (F := F) c (.inr (false, 1, 4)) -∗ Src X c 2 2 -∗ At1 (F := F) c (.inr (false, 2, 2)) -∗ Src X c 2 4 -∗ At1 (F := F) c (.inr (false, 2, 4)) -∗ Owe (F := F) c 21 -∗ Q ⟨⟩)
      -∗ wpT c (k0_part32 (F := F) xM h0 wM h1 oM h2 sM0 h3 sM1 h4 sM2 h5 cc0_scratch3 cc0_scratch4 cc0_scoped0 c) Q) := by
  rw [k0_part32_eq_skeleton]
  unfold k0_part32_skel
  simp only [semSignalWord, semWaitWord, Prog.lift, Prog.bind_op, Prog.bind_ret, Prog.pure_eq_ret, wp_deviceId]
  iintro #HR Hsent12 Hsent14 Hsent22 Hsent24 HO Hk
  iapply (step_swait X K c 1 2 21 _ sem_s12 cred_12 (by decide)) $$ HR Hsent12 HO
  iintro Hsrc12 Hats12 HO
  iapply (step_swait X K c 1 4 21 _ sem_s14 cred_14 (by decide)) $$ HR Hsent14 HO
  iintro Hsrc14 Hats14 HO
  iapply (step_swait X K c 2 2 21 _ sem_s22 cred_22 (by decide)) $$ HR Hsent22 HO
  iintro Hsrc22 Hats22 HO
  iapply (step_swait X K c 2 4 21 _ sem_s24 cred_24 (by decide)) $$ HR Hsent24 HO
  iintro Hsrc24 Hats24 HO
  iapply (wpT_ret c)
  iapply Hk $$  Hsrc12 Hats12 Hsrc14 Hats14 Hsrc22 Hats22 Hsrc24 Hats24 HO

end Cert.Cube

end
-- ==== Proof.Body.lean ====
/-
# The body, run once at a device
-/
module

public import proofs.«01_k».proof.Proof.PartsA
public import proofs.«01_k».proof.Proof.PartsB
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (X : Dev nD → Vec F S256x2048 .bf16) (W : Dev nD → Vec F S2048x256 .bf16) (K : Dev nD × CK → ℕ)

theorem all_bands : ∀ c : Dev nD, ((insert (2, (pair' 2 c 6)) (insert (2, (pair 2 c 6)) (insert (2, (away 2 c 5)) (insert (2, (away 2 c 4)) (insert (1, (pair' 1 c 6)) (insert (1, (pair 1 c 6)) (insert (1, (away 1 c 5)) (insert (1, (away 1 c 4)) (insert (0, (pair' 0 c 6)) (insert (0, (pair 0 c 6)) (insert (0, (away 0 c 5)) (insert (0, (away 0 c 4)) (insert (2, (away 2 c 3)) (insert (2, (away 2 c 2)) (insert (2, (away 2 c 1)) (insert (2, (tt 2 c)) (insert (1, (away 1 c 3)) (insert (1, (away 1 c 2)) (insert (1, (away 1 c 1)) (insert (1, (tt 1 c)) (insert (0, (away 0 c 3)) (insert (0, (away 0 c 2)) (insert (0, (away 0 c 1)) (insert (0, (tt 0 c)) ∅)))))))))))))))))))))))) : Finset (Fin 3 × Fin 8)) = Finset.univ := by
  decide +kernel

theorem wpT_bind (c : Dev nD) {α β : Type} {p : Prog (TpuEff nD τ sig (Elt F) Λ₀ .tc) α} {k : α → Prog (TpuEff nD τ sig (Elt F) Λ₀ .tc) β}
    {Q : β → sProp 𝕄} : wpT c p (fun a => wpT c (k a) Q) ⊢ wpT c (p >>= k) Q := by
  unfold wpT
  rw [wp_bind]

theorem part33_run (h0 : xM.IsWhole) (h1 : wM.IsWhole) (h2 : oM.IsWhole) (h3 : sM0.IsWhole) (h4 : sM1.IsWhole) (h5 : sM2.IsWhole) (c : Dev nD) {Q : _ → sProp 𝕄} :
    Recs X K ⊢ iprop(XB X c -∗ WB W c -∗ OutB X (k0_pay5 (W c)) c ∅ -∗ SigTok (F := F) c 0 -∗ SigTok (F := F) c 1 -∗ SigTok (F := F) c 2 -∗ (bigSep (Finset.univ.filter fun x : Fin 3 × Fin 6 => ax x.1 x.2 = 0) (Lend (F := F) c)) -∗ (bigSep (Finset.univ.filter fun x : Fin 3 × Fin 6 => ax x.1 x.2 = 1) (Lend (F := F) c)) -∗ (bigSep (Finset.univ.filter fun x : Fin 3 × Fin 6 => ax x.1 x.2 = 2) (Lend (F := F) c)) -∗ BarW (F := F) c -∗ bigSep Finset.univ (Tok (F := F) c) -∗ Any (F := F) 0 c {tt 0 c} -∗ Any (F := F) 1 c {tt 1 c} -∗ Any (F := F) 2 c {tt 2 c} -∗ Rcv (F := F) c 0 0 -∗ Rcv (F := F) c 0 1 -∗ Rcv (F := F) c 0 2 -∗ Rcv (F := F) c 0 3 -∗ Rcv (F := F) c 0 4 -∗ Rcv (F := F) c 0 5 -∗ Rcv (F := F) c 1 0 -∗ Rcv (F := F) c 1 1 -∗ Rcv (F := F) c 1 2 -∗ Rcv (F := F) c 1 3 -∗ Rcv (F := F) c 1 4 -∗ Rcv (F := F) c 1 5 -∗ Rcv (F := F) c 2 0 -∗ Rcv (F := F) c 2 1 -∗ Rcv (F := F) c 2 2 -∗ Rcv (F := F) c 2 3 -∗ Rcv (F := F) c 2 4 -∗ Rcv (F := F) c 2 5 -∗ Owe (F := F) c 0
      -∗ (∀ r0, OutB X (k0_pay5 (W c)) c Finset.univ -∗ At1 c (.inl false) -∗ At1 (F := F) c (.inr (true, 0, 0)) -∗ At1 (F := F) c (.inr (true, 0, 1)) -∗ At1 (F := F) c (.inr (true, 0, 2)) -∗ At1 (F := F) c (.inr (true, 0, 3)) -∗ At1 (F := F) c (.inr (true, 0, 4)) -∗ At1 (F := F) c (.inr (true, 0, 5)) -∗ At1 (F := F) c (.inr (true, 1, 0)) -∗ At1 (F := F) c (.inr (true, 1, 1)) -∗ At1 (F := F) c (.inr (true, 1, 2)) -∗ At1 (F := F) c (.inr (true, 1, 3)) -∗ At1 (F := F) c (.inr (true, 1, 4)) -∗ At1 (F := F) c (.inr (true, 1, 5)) -∗ At1 (F := F) c (.inr (true, 2, 0)) -∗ At1 (F := F) c (.inr (true, 2, 1)) -∗ At1 (F := F) c (.inr (true, 2, 2)) -∗ At1 (F := F) c (.inr (true, 2, 3)) -∗ At1 (F := F) c (.inr (true, 2, 4)) -∗ At1 (F := F) c (.inr (true, 2, 5)) -∗ At1 (F := F) c (.inr (false, 0, 0)) -∗ At1 (F := F) c (.inr (false, 0, 1)) -∗ At1 (F := F) c (.inr (false, 0, 2)) -∗ At1 (F := F) c (.inr (false, 0, 3)) -∗ At1 (F := F) c (.inr (false, 0, 4)) -∗ At1 (F := F) c (.inr (false, 0, 5)) -∗ At1 (F := F) c (.inr (false, 1, 0)) -∗ At1 (F := F) c (.inr (false, 1, 1)) -∗ At1 (F := F) c (.inr (false, 1, 2)) -∗ At1 (F := F) c (.inr (false, 1, 3)) -∗ At1 (F := F) c (.inr (false, 1, 4)) -∗ At1 (F := F) c (.inr (false, 1, 5)) -∗ At1 (F := F) c (.inr (false, 2, 0)) -∗ At1 (F := F) c (.inr (false, 2, 1)) -∗ At1 (F := F) c (.inr (false, 2, 2)) -∗ At1 (F := F) c (.inr (false, 2, 3)) -∗ At1 (F := F) c (.inr (false, 2, 4)) -∗ PT X 0 c (rl 0 0 c) fullShare.right -∗ PT X 0 c (rl 0 1 c) fullShare.right -∗ PT X 0 c (rl 0 2 c) fullShare.right -∗ PT X 0 c (rl 0 3 c) fullShare -∗ PT X 0 c (rl 0 4 c) fullShare -∗ PT X 0 c (rl 0 5 c) fullShare -∗ PT X 1 c (rl 1 0 c) fullShare.right -∗ PT X 1 c (rl 1 1 c) fullShare.right -∗ PT X 1 c (rl 1 2 c) fullShare.right -∗ PT X 1 c (rl 1 3 c) fullShare -∗ PT X 1 c (rl 1 4 c) fullShare -∗ PT X 1 c (rl 1 5 c) fullShare -∗ PT X 2 c (rl 2 0 c) fullShare.right -∗ PT X 2 c (rl 2 1 c) fullShare.right -∗ PT X 2 c (rl 2 2 c) fullShare.right -∗ PT X 2 c (rl 2 3 c) fullShare -∗ PT X 2 c (rl 2 4 c) fullShare -∗ PT X 2 c (rl 2 5 c) fullShare -∗ PT X 0 c {tt 0 c} fullShare.right.right -∗ PT X 1 c {tt 1 c} fullShare.right.right -∗ PT X 2 c {tt 2 c} fullShare.right.right -∗ Sent (F := F) c 2 5 -∗ Src X c 0 0 -∗ Src X c 0 1 -∗ Src X c 0 2 -∗ Src X c 0 3 -∗ Src X c 0 4 -∗ Src X c 0 5 -∗ Src X c 1 0 -∗ Src X c 1 1 -∗ Src X c 1 2 -∗ Src X c 1 3 -∗ Src X c 1 4 -∗ Src X c 1 5 -∗ Src X c 2 0 -∗ Src X c 2 1 -∗ Src X c 2 2 -∗ Src X c 2 3 -∗ Src X c 2 4 -∗ WB W c -∗ XB X c -∗ Owe (F := F) c 21 -∗ Q ⟨c, r0⟩)
      -∗ wpT c (k0_part33 (F := F) xM h0 wM h1 oM h2 sM0 h3 sM1 h4 sM2 h5 cc0_scratch3 cc0_scratch4 cc0_scoped0) Q) := by
  rw [k0_part33_eq_skeleton]
  unfold k0_part33_skel
  iintro #HR Hxb Hwb Hout Hsig0 Hsig1 Hsig2 Hlend0 Hlend1 Hlend2 Hbarw Htoks Hany0 Hany1 Hany2 Hrcv00 Hrcv01 Hrcv02 Hrcv03 Hrcv04 Hrcv05 Hrcv10 Hrcv11 Hrcv12 Hrcv13 Hrcv14 Hrcv15 Hrcv20 Hrcv21 Hrcv22 Hrcv23 Hrcv24 Hrcv25 HO Hk
  iapply (wpT_bind c)
  iapply (part1_run X K h0 h1 h2 h3 h4 h5 c ) $$ HR Hsig0 Hlend0 Hsig1 Hlend1 Hsig2 Hlend2 HO
  iintro %a1_0 %a1_1 %a1_2 %a1_3  HO
  iapply (wpT_bind c)
  iapply (part2_run X K h0 h1 h2 h3 h4 h5 c _ _ _ _) $$ HR Hbarw Htoks Hxb Hany0 Hany1 Hany2 HO
  iintro %a2_0 HatB Hrdy01 Hrdy03 Hrdy10 Hrdy11 Hrdy13 Hrdy20 Hrdy21 Hrdy23 Hrdy02 Hrdy04 Hrdy12 Hrdy14 Hrdy22 Hrdy24 Hrdy05 Hrdy15 Hrdy25 Hxb Hsrc01 Hsrc03 Hown0 Hsrc10 Hsrc11 Hsrc13 Hown1 Hsrc20 Hsrc21 Hsrc23 Hown2 Hsent00 HO
  iapply (wpT_bind c)
  iapply (part3_run X K h0 h1 h2 h3 h4 h5 c _ _) $$ HR Hrdy01 Hsrc01 Hrdy03 Hsrc03 Hrdy10 Hsrc10 HO
  iintro %a3_0 Hsent01 Hsent03 Hsent10 HO
  iapply (wpT_bind c)
  iapply (part4_run X K h0 h1 h2 h3 h4 h5 c _ _) $$ HR Hrdy11 Hsrc11 Hrdy13 Hsrc13 Hrdy20 Hsrc20 HO
  iintro %a4_0 Hsent11 Hsent13 Hsent20 HO
  iapply (wpT_bind c)
  iapply (part5_run X K h0 h1 h2 h3 h4 h5 c _ _ _) $$ HR Hrdy21 Hsrc21 Hrdy23 Hsrc23 Hrcv00 HO
  iintro %a5_0 Hsent21 Hsent23 Hgot00 Hatr00 Hsrc02 Hsrc04 HO
  iapply (wpT_bind c)
  iapply (part6_run X K h0 h1 h2 h3 h4 h5 c _ _ _ _) $$ HR Hrdy02 Hsrc02 Hrdy04 Hsrc04 HO
  iintro  Hsent02 Hsent04 HO
  iapply (wpT_bind c)
  iapply (part7_run X K h0 h1 h2 h3 h4 h5 c _ _ _) $$ HR Hrcv10 Hrdy12 Hrdy14 HO
  iintro  Hgot10 Hatr10 Hsent12 Hsent14 HO
  iapply (wpT_bind c)
  iapply (part8_run X K h0 h1 h2 h3 h4 h5 c _ _ _) $$ HR Hrcv20 Hrdy22 Hrdy24 HO
  iintro  Hgot20 Hatr20 Hsent22 Hsent24 HO
  iapply (wpT_bind c)
  iapply (part9_run X K h0 h1 h2 h3 h4 h5 c _ _ _) $$ HR Hrcv01 Hrcv02 Hrdy05 HO
  iintro  Hgot01 Hatr01 Hgot02 Hatr02 Hsent05 HO
  iapply (wpT_bind c)
  iapply (part10_run X K h0 h1 h2 h3 h4 h5 c _ _) $$ HR Hrcv11 Hrcv12 HO
  iintro  Hgot11 Hatr11 Hgot12 Hatr12 Hsrc15 HO
  iapply (wpT_bind c)
  iapply (part11_run X K h0 h1 h2 h3 h4 h5 c _ _) $$ HR Hrdy15 Hsrc15 Hrcv21 Hrcv22 HO
  iintro  Hsent15 Hgot21 Hatr21 Hgot22 Hatr22 Hsrc25 HO
  iapply (wpT_bind c)
  iapply (part12_run X W K h0 h1 h2 h3 h4 h5 c _ _) $$ HR Hrdy25 Hsrc25 Hwb Hown0 Hout HO
  iintro %a12_0 %a12_1 %a12_2 %a12_3 %a12_4 %a12_5 %a12_6 Hsent25 Hwb Hown0 Hout HO
  iapply (wpT_bind c)
  iapply (part13_run X W K h0 h1 h2 h3 h4 h5 c _ _ _ _ _ _ _ _) $$ HR Hgot00 Hout Hgot01 HO
  iintro %a13_0 %a13_1 Hgot00 Hout Hgot01 HO
  iapply (wpT_bind c)
  iapply (part14_run X W K h0 h1 h2 h3 h4 h5 c _ _ _ _ _) $$ HR Hgot02 Hout HO
  iintro %a14_0 %a14_1 %a14_2 %a14_3 Hgot02 Hout HO
  iapply (wpT_bind c)
  iapply (part15_run X W K h0 h1 h2 h3 h4 h5 c _ _ _ _) $$ HR Hown1 Hout Hgot10 HO
  iintro %a15_0 %a15_1 Hown1 Hout Hgot10 HO
  iapply (wpT_bind c)
  iapply (part16_run X W K h0 h1 h2 h3 h4 h5 c _ _ _ _ _ _) $$ HR Hgot11 Hout Hgot12 HO
  iintro %a16_0 %a16_1 %a16_2 %a16_3 Hgot11 Hout Hgot12 HO
  iapply (wpT_bind c)
  iapply (part17_run X W K h0 h1 h2 h3 h4 h5 c _ _ _ _) $$ HR Hown2 Hout Hgot20 HO
  iintro %a17_0 Hown2 Hout Hgot20 HO
  iapply (wpT_bind c)
  iapply (part18_run X W K h0 h1 h2 h3 h4 h5 c _ _ _ _) $$ HR Hout Hgot21 HO
  iintro %a18_0 %a18_1 Hout Hgot21 HO
  iapply (wpT_bind c)
  iapply (part19_run X W K h0 h1 h2 h3 h4 h5 c _ _ _ _ _ _) $$ HR Hgot22 Hout Hrcv03 HO
  iintro %a19_0 Hgot22 Hout Hgot03 Hatr03 HO
  iapply (wpT_bind c)
  iapply (part20_run X W K h0 h1 h2 h3 h4 h5 c _ _ _ _) $$ HR Hout Hrcv04 HO
  iintro %a20_0 Hout Hgot04 Hatr04 HO
  iapply (wpT_bind c)
  iapply (part21_run X W K h0 h1 h2 h3 h4 h5 c _ _ _ _) $$ HR Hout Hrcv05 HO
  iintro %a21_0 %a21_1 Hout Hgot05 Hatr05 HO
  iapply (wpT_bind c)
  iapply (part22_run X W K h0 h1 h2 h3 h4 h5 c _ _ _ _ _) $$ HR Hgot05 Hout Hrcv13 HO
  iintro %a22_0 %a22_1 %a22_2 Hgot05 Hout Hgot13 Hatr13 HO
  iapply (wpT_bind c)
  iapply (part23_run X W K h0 h1 h2 h3 h4 h5 c _ _ _ _ _ _) $$ HR Hgot13 Hout Hrcv14 HO
  iintro %a23_0 %a23_1 %a23_2 %a23_3 %a23_4 Hgot13 Hout Hgot14 Hatr14 HO
  iapply (wpT_bind c)
  iapply (part24_run X W K h0 h1 h2 h3 h4 h5 c _ _ _ _ _ _ _ _) $$ HR Hgot14 Hout Hrcv15 HO
  iintro %a24_0 %a24_1 %a24_2 Hgot14 Hout Hgot15 Hatr15 HO
  iapply (wpT_bind c)
  iapply (part25_run X W K h0 h1 h2 h3 h4 h5 c _ _ _ _ _) $$ HR Hgot15 Hout HO
  iintro  Hgot15 Hout HO
  iapply (wpT_bind c)
  iapply (part26_run X W K h0 h1 h2 h3 h4 h5 c _ _ _) $$ HR Hrcv23 Hout HO
  iintro %a26_0 %a26_1 Hgot23 Hatr23 Hout HO
  iapply (wpT_bind c)
  iapply (part27_run X W K h0 h1 h2 h3 h4 h5 c _ _ _ _ _) $$ HR Hrcv24 Hout HO
  iintro %a27_0 Hgot24 Hatr24 Hout HO
  iapply (wpT_bind c)
  iapply (part28_run X W K h0 h1 h2 h3 h4 h5 c _ _) $$ HR Hrcv25 Hout HO
  iintro %a28_0 %a28_1 Hgot25 Hatr25 Hout HO
  iapply (wpT_bind c)
  iapply (part29_run X W K h0 h1 h2 h3 h4 h5 c _ _ _) $$ HR Hgot25 Hout Hsent00 Hsent01 Hsent03 HO
  iintro  Hgot25 Hout Hsrc00 Hats00 Hsrc01 Hats01 Hsrc03 Hats03 HO
  iapply (wpT_bind c)
  iapply (part30_run X K h0 h1 h2 h3 h4 h5 c ) $$ HR Hsent10 Hsent11 Hsent13 Hsent20 HO
  iintro  Hsrc10 Hats10 Hsrc11 Hats11 Hsrc13 Hats13 Hsrc20 Hats20 HO
  iapply (wpT_bind c)
  iapply (part31_run X K h0 h1 h2 h3 h4 h5 c ) $$ HR Hsent21 Hsent23 Hsent02 Hsent04 HO
  iintro  Hsrc21 Hats21 Hsrc23 Hats23 Hsrc02 Hats02 Hsrc04 Hats04 HO
  iapply (wpT_bind c)
  iapply (part32_run X K h0 h1 h2 h3 h4 h5 c ) $$ HR Hsent12 Hsent14 Hsent22 Hsent24 HO
  iintro  Hsrc12 Hats12 Hsrc14 Hats14 Hsrc22 Hats22 Hsrc24 Hats24 HO
  rw [all_bands c]
  simp only [Prog.lift, Prog.bind_op, Prog.bind_ret, Prog.pure_eq_ret]
  iapply (step_swait X K c 0 5 21 _ sem_s05 cred_05 (by decide)) $$ HR Hsent05 HO
  iintro Hsrc05 Hats05 HO
  iapply (step_swait X K c 1 5 21 _ sem_s15 cred_15 (by decide)) $$ HR Hsent15 HO
  iintro Hsrc15 Hats15 HO
  iapply (wpT_ret c)
  iapply Hk $$ %_ Hout HatB Hatr00 Hatr01 Hatr02 Hatr03 Hatr04 Hatr05 Hatr10 Hatr11 Hatr12 Hatr13 Hatr14 Hatr15 Hatr20 Hatr21 Hatr22 Hatr23 Hatr24 Hatr25 Hats00 Hats01 Hats02 Hats03 Hats04 Hats05 Hats10 Hats11 Hats12 Hats13 Hats14 Hats15 Hats20 Hats21 Hats22 Hats23 Hats24 Hgot00 Hgot01 Hgot02 Hgot03 Hgot04 Hgot05 Hgot10 Hgot11 Hgot12 Hgot13 Hgot14 Hgot15 Hgot20 Hgot21 Hgot22 Hgot23 Hgot24 Hgot25 Hown0 Hown1 Hown2 Hsent25 Hsrc00 Hsrc01 Hsrc02 Hsrc03 Hsrc04 Hsrc05 Hsrc10 Hsrc11 Hsrc12 Hsrc13 Hsrc14 Hsrc15 Hsrc20 Hsrc21 Hsrc22 Hsrc23 Hsrc24 Hwb Hxb HO

/-- Every wait of a device is over. -/
def Done (c : Dev nD) : sProp 𝕄 := bigSep Finset.univ (fun k : CK => At1 (F := F) c k)

omit [FloatOps F] in
theorem done_list (c : Dev nD) : (iprop(At1 (F := F) c (Sum.inl false) ∗ At1 (F := F) c (Sum.inl true) ∗ At1 (F := F) c (Sum.inr (false, 0, 0)) ∗ At1 (F := F) c (Sum.inr (false, 0, 1)) ∗ At1 (F := F) c (Sum.inr (false, 0, 2)) ∗ At1 (F := F) c (Sum.inr (false, 0, 3)) ∗ At1 (F := F) c (Sum.inr (false, 0, 4)) ∗ At1 (F := F) c (Sum.inr (false, 0, 5)) ∗ At1 (F := F) c (Sum.inr (false, 1, 0)) ∗ At1 (F := F) c (Sum.inr (false, 1, 1)) ∗ At1 (F := F) c (Sum.inr (false, 1, 2)) ∗ At1 (F := F) c (Sum.inr (false, 1, 3)) ∗ At1 (F := F) c (Sum.inr (false, 1, 4)) ∗ At1 (F := F) c (Sum.inr (false, 1, 5)) ∗ At1 (F := F) c (Sum.inr (false, 2, 0)) ∗ At1 (F := F) c (Sum.inr (false, 2, 1)) ∗ At1 (F := F) c (Sum.inr (false, 2, 2)) ∗ At1 (F := F) c (Sum.inr (false, 2, 3)) ∗ At1 (F := F) c (Sum.inr (false, 2, 4)) ∗ At1 (F := F) c (Sum.inr (false, 2, 5)) ∗ At1 (F := F) c (Sum.inr (true, 0, 0)) ∗ At1 (F := F) c (Sum.inr (true, 0, 1)) ∗ At1 (F := F) c (Sum.inr (true, 0, 2)) ∗ At1 (F := F) c (Sum.inr (true, 0, 3)) ∗ At1 (F := F) c (Sum.inr (true, 0, 4)) ∗ At1 (F := F) c (Sum.inr (true, 0, 5)) ∗ At1 (F := F) c (Sum.inr (true, 1, 0)) ∗ At1 (F := F) c (Sum.inr (true, 1, 1)) ∗ At1 (F := F) c (Sum.inr (true, 1, 2)) ∗ At1 (F := F) c (Sum.inr (true, 1, 3)) ∗ At1 (F := F) c (Sum.inr (true, 1, 4)) ∗ At1 (F := F) c (Sum.inr (true, 1, 5)) ∗ At1 (F := F) c (Sum.inr (true, 2, 0)) ∗ At1 (F := F) c (Sum.inr (true, 2, 1)) ∗ At1 (F := F) c (Sum.inr (true, 2, 2)) ∗ At1 (F := F) c (Sum.inr (true, 2, 3)) ∗ At1 (F := F) c (Sum.inr (true, 2, 4)) ∗ At1 (F := F) c (Sum.inr (true, 2, 5))) : sProp 𝕄) ⊢ Done c :=
  Entails.of_eq (bigSep_univ_eq_bigSepL ([Sum.inl false, Sum.inl true, Sum.inr (false, 0, 0), Sum.inr (false, 0, 1), Sum.inr (false, 0, 2), Sum.inr (false, 0, 3), Sum.inr (false, 0, 4), Sum.inr (false, 0, 5), Sum.inr (false, 1, 0), Sum.inr (false, 1, 1), Sum.inr (false, 1, 2), Sum.inr (false, 1, 3), Sum.inr (false, 1, 4), Sum.inr (false, 1, 5), Sum.inr (false, 2, 0), Sum.inr (false, 2, 1), Sum.inr (false, 2, 2), Sum.inr (false, 2, 3), Sum.inr (false, 2, 4), Sum.inr (false, 2, 5), Sum.inr (true, 0, 0), Sum.inr (true, 0, 1), Sum.inr (true, 0, 2), Sum.inr (true, 0, 3), Sum.inr (true, 0, 4), Sum.inr (true, 0, 5), Sum.inr (true, 1, 0), Sum.inr (true, 1, 1), Sum.inr (true, 1, 2), Sum.inr (true, 1, 3), Sum.inr (true, 1, 4), Sum.inr (true, 1, 5), Sum.inr (true, 2, 0), Sum.inr (true, 2, 1), Sum.inr (true, 2, 2), Sum.inr (true, 2, 3), Sum.inr (true, 2, 4), Sum.inr (true, 2, 5)] : List CK) (by decide +kernel) (by decide +kernel) _).symm

theorem body_run (h0 : xM.IsWhole) (h1 : wM.IsWhole) (h2 : oM.IsWhole) (h3 : sM0.IsWhole) (h4 : sM1.IsWhole) (h5 : sM2.IsWhole) (c : Dev nD) {Q : PUnit → sProp 𝕄} :
    Recs X K ⊢ iprop(XB X c -∗ WB W c -∗ OutB X (k0_pay5 (W c)) c ∅ -∗ SigTok (F := F) c 0 -∗ SigTok (F := F) c 1 -∗ SigTok (F := F) c 2 -∗ (bigSep (Finset.univ.filter fun x : Fin 3 × Fin 6 => ax x.1 x.2 = 0) (Lend (F := F) c)) -∗ (bigSep (Finset.univ.filter fun x : Fin 3 × Fin 6 => ax x.1 x.2 = 1) (Lend (F := F) c)) -∗ (bigSep (Finset.univ.filter fun x : Fin 3 × Fin 6 => ax x.1 x.2 = 2) (Lend (F := F) c)) -∗ BarW (F := F) c -∗ bigSep Finset.univ (Tok (F := F) c) -∗ Any (F := F) 0 c {tt 0 c} -∗ Any (F := F) 1 c {tt 1 c} -∗ Any (F := F) 2 c {tt 2 c} -∗ Rcv (F := F) c 0 0 -∗ Rcv (F := F) c 0 1 -∗ Rcv (F := F) c 0 2 -∗ Rcv (F := F) c 0 3 -∗ Rcv (F := F) c 0 4 -∗ Rcv (F := F) c 0 5 -∗ Rcv (F := F) c 1 0 -∗ Rcv (F := F) c 1 1 -∗ Rcv (F := F) c 1 2 -∗ Rcv (F := F) c 1 3 -∗ Rcv (F := F) c 1 4 -∗ Rcv (F := F) c 1 5 -∗ Rcv (F := F) c 2 0 -∗ Rcv (F := F) c 2 1 -∗ Rcv (F := F) c 2 2 -∗ Rcv (F := F) c 2 3 -∗ Rcv (F := F) c 2 4 -∗ Rcv (F := F) c 2 5 -∗ FinTok (F := F) c 0 -∗ FinTok (F := F) c 1 -∗ FinTok (F := F) c 2 -∗ FinW (F := F) c -∗ Owe (F := F) c 0
      -∗ (XB X c -∗ WB W c -∗ OutB X (k0_pay5 (W c)) c Finset.univ -∗ Parts X 0 c -∗ Parts X 1 c -∗ Parts X 2 c -∗ Done (F := F) c -∗ Owe (F := F) c 24 -∗ Q ⟨⟩)
      -∗ wpT c (cc0_body (F := F) xM h0 wM h1 oM h2 sM0 h3 sM1 h4 sM2 h5 cc0_scratch3 cc0_scratch4 cc0_scoped0) Q) := by
  rw [cc0_body_eq_skeleton]
  unfold cc0_body_skel
  iintro #HR Hxb Hwb Hout Hsig0 Hsig1 Hsig2 Hlend0 Hlend1 Hlend2 Hbarw Htoks Hany0 Hany1 Hany2 Hrcv00 Hrcv01 Hrcv02 Hrcv03 Hrcv04 Hrcv05 Hrcv10 Hrcv11 Hrcv12 Hrcv13 Hrcv14 Hrcv15 Hrcv20 Hrcv21 Hrcv22 Hrcv23 Hrcv24 Hrcv25 Hfin0 Hfin1 Hfin2 Hfinw HO Hk
  iapply (wpT_bind c)
  iapply (part33_run X W K h0 h1 h2 h3 h4 h5 c) $$ HR Hxb Hwb Hout Hsig0 Hsig1 Hsig2 Hlend0 Hlend1 Hlend2 Hbarw Htoks Hany0 Hany1 Hany2 Hrcv00 Hrcv01 Hrcv02 Hrcv03 Hrcv04 Hrcv05 Hrcv10 Hrcv11 Hrcv12 Hrcv13 Hrcv14 Hrcv15 Hrcv20 Hrcv21 Hrcv22 Hrcv23 Hrcv24 Hrcv25 HO
  iintro %r Hout HatB Hatr00 Hatr01 Hatr02 Hatr03 Hatr04 Hatr05 Hatr10 Hatr11 Hatr12 Hatr13 Hatr14 Hatr15 Hatr20 Hatr21 Hatr22 Hatr23 Hatr24 Hatr25 Hats00 Hats01 Hats02 Hats03 Hats04 Hats05 Hats10 Hats11 Hats12 Hats13 Hats14 Hats15 Hats20 Hats21 Hats22 Hats23 Hats24 Hgot00 Hgot01 Hgot02 Hgot03 Hgot04 Hgot05 Hgot10 Hgot11 Hgot12 Hgot13 Hgot14 Hgot15 Hgot20 Hgot21 Hgot22 Hgot23 Hgot24 Hgot25 Hown0 Hown1 Hown2 Hsent25 Hsrc00 Hsrc01 Hsrc02 Hsrc03 Hsrc04 Hsrc05 Hsrc10 Hsrc11 Hsrc12 Hsrc13 Hsrc14 Hsrc15 Hsrc20 Hsrc21 Hsrc22 Hsrc23 Hsrc24 Hwb Hxb HO
  simp only [semSignalWord, semWaitWord, Prog.lift, Prog.bind_op, Prog.bind_ret, Prog.pure_eq_ret]
  iapply (step_swait X K c 2 5 21 _ sem_s25 cred_25 (by decide)) $$ HR Hsent25 HO
  iintro Hsrc25 Hats25 HO
  iapply (step_fin X K c 0 21 _ (dev22_eq c) _ rfl _ rfl rfl) $$ HR Hfin0 HO
  iintro HO
  iapply (step_fin X K c 1 22 _ (dev23_eq c) _ rfl _ rfl rfl) $$ HR Hfin1 HO
  iintro HO
  iapply (step_fin X K c 2 23 _ (dev24_eq c) _ rfl _ rfl rfl) $$ HR Hfin2 HO
  iintro HO
  iapply (step_finwait X K c 24 _ rfl _ rfl (by decide)) $$ HR Hfinw HO
  iintro HatF HO
  iapply (wpT_ret c)
  iapply Hk $$ Hxb Hwb Hout [Hsrc00 Hsrc01 Hsrc03 Hown0 Hsrc02 Hsrc04 Hgot00 Hsrc05 Hgot01 Hgot02 Hgot03 Hgot04 Hgot05] [Hsrc10 Hsrc11 Hsrc13 Hown1 Hsrc12 Hsrc14 Hgot10 Hsrc15 Hgot11 Hgot12 Hgot13 Hgot14 Hgot15] [Hsrc20 Hsrc21 Hsrc23 Hown2 Hsrc22 Hsrc24 Hgot20 Hsrc25 Hgot21 Hgot22 Hgot23 Hgot24 Hgot25] [HatB HatF Hats00 Hats01 Hats02 Hats03 Hats04 Hats05 Hats10 Hats11 Hats12 Hats13 Hats14 Hats15 Hats20 Hats21 Hats22 Hats23 Hats24 Hats25 Hatr00 Hatr01 Hatr02 Hatr03 Hatr04 Hatr05 Hatr10 Hatr11 Hatr12 Hatr13 Hatr14 Hatr15 Hatr20 Hatr21 Hatr22 Hatr23 Hatr24 Hatr25] HO
  · unfold Parts
    isplitl [Hsrc00 Hsrc01 Hsrc03 Hown0]
    · isplitl [Hsrc00]; · iexact Hsrc00
      isplitl [Hsrc01]; · iexact Hsrc01
      isplitl [Hsrc03]; · iexact Hsrc03
      iexact Hown0
    isplitl [Hsrc02 Hsrc04 Hgot00]
    · isplitl [Hsrc02]; · iexact Hsrc02
      isplitl [Hsrc04]; · iexact Hsrc04
      iexact Hgot00
    isplitl [Hsrc05 Hgot01 Hgot02]
    · isplitl [Hsrc05]; · iexact Hsrc05
      isplitl [Hgot01]; · iexact Hgot01
      iexact Hgot02
    isplitl [Hgot03]; · iexact Hgot03
    isplitl [Hgot04]; · iexact Hgot04
    iexact Hgot05
  · unfold Parts
    isplitl [Hsrc10 Hsrc11 Hsrc13 Hown1]
    · isplitl [Hsrc10]; · iexact Hsrc10
      isplitl [Hsrc11]; · iexact Hsrc11
      isplitl [Hsrc13]; · iexact Hsrc13
      iexact Hown1
    isplitl [Hsrc12 Hsrc14 Hgot10]
    · isplitl [Hsrc12]; · iexact Hsrc12
      isplitl [Hsrc14]; · iexact Hsrc14
      iexact Hgot10
    isplitl [Hsrc15 Hgot11 Hgot12]
    · isplitl [Hsrc15]; · iexact Hsrc15
      isplitl [Hgot11]; · iexact Hgot11
      iexact Hgot12
    isplitl [Hgot13]; · iexact Hgot13
    isplitl [Hgot14]; · iexact Hgot14
    iexact Hgot15
  · unfold Parts
    isplitl [Hsrc20 Hsrc21 Hsrc23 Hown2]
    · isplitl [Hsrc20]; · iexact Hsrc20
      isplitl [Hsrc21]; · iexact Hsrc21
      isplitl [Hsrc23]; · iexact Hsrc23
      iexact Hown2
    isplitl [Hsrc22 Hsrc24 Hgot20]
    · isplitl [Hsrc22]; · iexact Hsrc22
      isplitl [Hsrc24]; · iexact Hsrc24
      iexact Hgot20
    isplitl [Hsrc25 Hgot21 Hgot22]
    · isplitl [Hsrc25]; · iexact Hsrc25
      isplitl [Hgot21]; · iexact Hgot21
      iexact Hgot22
    isplitl [Hgot23]; · iexact Hgot23
    isplitl [Hgot24]; · iexact Hgot24
    iexact Hgot25
  · iapply (done_list c)
    isplitl [HatB]; · iexact HatB
    isplitl [HatF]; · iexact HatF
    isplitl [Hats00]; · iexact Hats00
    isplitl [Hats01]; · iexact Hats01
    isplitl [Hats02]; · iexact Hats02
    isplitl [Hats03]; · iexact Hats03
    isplitl [Hats04]; · iexact Hats04
    isplitl [Hats05]; · iexact Hats05
    isplitl [Hats10]; · iexact Hats10
    isplitl [Hats11]; · iexact Hats11
    isplitl [Hats12]; · iexact Hats12
    isplitl [Hats13]; · iexact Hats13
    isplitl [Hats14]; · iexact Hats14
    isplitl [Hats15]; · iexact Hats15
    isplitl [Hats20]; · iexact Hats20
    isplitl [Hats21]; · iexact Hats21
    isplitl [Hats22]; · iexact Hats22
    isplitl [Hats23]; · iexact Hats23
    isplitl [Hats24]; · iexact Hats24
    isplitl [Hats25]; · iexact Hats25
    isplitl [Hatr00]; · iexact Hatr00
    isplitl [Hatr01]; · iexact Hatr01
    isplitl [Hatr02]; · iexact Hatr02
    isplitl [Hatr03]; · iexact Hatr03
    isplitl [Hatr04]; · iexact Hatr04
    isplitl [Hatr05]; · iexact Hatr05
    isplitl [Hatr10]; · iexact Hatr10
    isplitl [Hatr11]; · iexact Hatr11
    isplitl [Hatr12]; · iexact Hatr12
    isplitl [Hatr13]; · iexact Hatr13
    isplitl [Hatr14]; · iexact Hatr14
    isplitl [Hatr15]; · iexact Hatr15
    isplitl [Hatr20]; · iexact Hatr20
    isplitl [Hatr21]; · iexact Hatr21
    isplitl [Hatr22]; · iexact Hatr22
    isplitl [Hatr23]; · iexact Hatr23
    isplitl [Hatr24]; · iexact Hatr24
    iexact Hatr25

end Cert.Cube

end
-- ==== Proof.Start.lean ====
/-
The whole run: what the kernel is given on each device, that its body meets what the pipeline asks, and the launch.
-/
module

public import proofs.«01_k».proof.Proof.Ghost
public import proofs.«01_k».proof.Proof.Body
public import proofs.«01_k».proof.Proof.Gen.KernelIdeal.Frame
public import Idealize.ShloMosaic.Lib.Pipeline.CollectiveSegs

@[expose] public section

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-! ## The output, named -/

/-- The band of a row of a block of 256. -/
def bandOf (k : ℕ) : Fin 3 := if k < 96 then 0 else if k < 176 then 1 else 2
theorem bandOf_lt (k : ℕ) (h : k < 256) : br (bandOf k) ≤ k ∧ k - br (bandOf k) < bn (bandOf k) := by
  unfold bandOf
  split
  · exact ⟨Nat.zero_le _, by simp only [br, bn]; omega⟩
  · split
    · exact ⟨by simp only [br]; omega, by simp only [br, bn]; omega⟩
    · exact ⟨by simp only [br]; omega, by simp only [br, bn]; omega⟩

/-- The output of a device: row `r` is row `r % 256` of the block of device `r / 256`, worked out in its band. -/
def outAt (X : Dev nD → Vec F S256x2048 .bf16) (w : FVec F S2048x256 .bf16) : (cc0_stg2_0 : Ref sig .tc).ty.Contents (Elt F) :=
  fun i =>
    let r : Fin 2048 := i 0
    let v : Dev nD := (⟨r.val / 256, by have := r.isLt; omega⟩ : Fin 8)
    sval X w (bandOf (r.val % 256)) (tt (bandOf (r.val % 256)) v)
      (ix2 ⟨r.val % 256 - br (bandOf (r.val % 256)), (bandOf_lt _ (Nat.mod_lt _ (by decide))).2⟩ (show Fin 256 from i 1))

theorem good_out (X : Dev nD → Vec F S256x2048 .bf16) (w : FVec F S2048x256 .bf16) (f) (h : Good X w Finset.univ f) : f = outAt X w := by
  funext i
  have hb := bandOf_lt ((show Fin 2048 from i 0).val % 256) (Nat.mod_lt _ (by decide))
  have e := h (bandOf ((show Fin 2048 from i 0).val % 256))
    (tt (bandOf ((show Fin 2048 from i 0).val % 256)) (⟨(show Fin 2048 from i 0).val / 256, by have := (show Fin 2048 from i 0).isLt; omega⟩ : Fin 8))
    (Finset.mem_univ _) ⟨_, hb.2⟩ (show Fin 256 from i 1)
  refine Eq.trans (congrArg f ?_) e
  funext a
  refine Fin.cases ?_ (fun a => Fin.cases ?_ (fun a => a.elim0) a) a
  · refine Fin.ext ?_
    show (show Fin 2048 from i 0).val = 256 * (inv _ (tt _ _)).val + _ + _
    rw [inv_tt]
    show (show Fin 2048 from i 0).val = 256 * ((show Fin 2048 from i 0).val / 256) + br _ + (_ - br _)
    have := hb.1
    omega
  · rfl

/-! ## What the pipeline is told -/

variable (m : (ℓ : Loc nD τ sig) → Buf (Elt F) ℓ) (ρ : Dev nD → PrngReg)

/-- The rows of `x` on device `c`, and its columns of the weights. -/
def Xs (c : Dev nD) : Vec F S256x2048 .bf16 := iblk m c 0 t0_0
def Ws (c : Dev nD) : FVec F S2048x256 .bf16 := iblk m c 1 t0_0
/-- The output on device `c`. -/
def Out (c : Dev nD) : (cc0_stg2_0 : Ref sig .tc).ty.Contents (Elt F) := outAt (Xs m) (k0_pay5 (Ws m c))

def start (c : Dev nD) : sProp 𝕄 := iprop((∃ K, Rec' (Xs m) K ∗ Own c) ∗ Creds c ∗ levAts L lv)
def scr (c : Dev nD) : sProp 𝕄 := iprop(Any (F := F) 0 c Finset.univ ∗ Any (F := F) 1 c Finset.univ ∗ Any (F := F) 2 c Finset.univ)
def Φ₀ (c : Dev nD) : sProp 𝕄 := iprop(start m c ∗ scr c)
def Φ₁ (c : Dev nD) : sProp 𝕄 := iprop(scr (F := F) c ∗ bigSep Finset.univ fun k : CK => semVal (kcell c k) 0)

def dats (_ : Fin 1) (c : Dev nD) : Dat τ (Elt F) Unit ℕ UU ℕ cfg0 c where
  A w := V m c (Pipeline.arrRef spec0 w)
  after w _ := match w with
    | ⟨0, _⟩ => Xs m c
    | ⟨1, _⟩ => Ws m c
    | ⟨2, _⟩ => Out m c
  Φ t := match t with
    | ⟨0, _⟩ => Φ₀ m c
    | ⟨_ + 1, _⟩ => Φ₁ c
  q _ := fullShare
  owed t := match t with
    | ⟨0, _⟩ => oweSum c obls
    | ⟨_ + 1, _⟩ => 0

theorem fetch0 (t : Fin cfg0.N) : (cfg0.win (0 : Fin 3)).fetch t = true := by rw [fin_N0 t]; rfl
theorem fetch1 (t : Fin cfg0.N) : (cfg0.win (1 : Fin 3)).fetch t = true := by rw [fin_N0 t]; rfl

theorem before0 (c : Dev nD) (d) : (dats m 0 c).before (0 : Fin 3) t0_0 d = Xs m c := by
  unfold Dat.before; rw [if_pos (fetch0 t0_0)]; rfl
theorem before1 (c : Dev nD) (d) : (dats m 0 c).before (1 : Fin 3) t0_0 d = Ws m c := by
  unfold Dat.before; rw [if_pos (fetch1 t0_0)]; rfl

/-- A staging buffer of device `c` holding `Y`. -/
def stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

omit [FloatOps F] in
theorem owns_stg (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns stg; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ c ∗ (dats m 0 c).owesAt () t0_0.succ
    ∗ stg c cc0_stg0_0 (Xs m c) ∗ stg c cc0_stg1_0 (Ws m c) ∗ stg c cc0_stg2_0 (Out m c))

/-! ## The body -/

omit [FloatOps F] in
/-- All cells of a device closed: their counters are zero. -/
theorem close_all (X : Dev nD → Vec F S256x2048 .bf16) (K : Dev nD × CK → ℕ) (c : Dev nD) :
    iprop(Recs X K ∗ Done (F := F) c) ⊢ (|={Set.univ}=> bigSep Finset.univ fun k : CK => semVal (kcell c k) 0 : sProp 𝕄) := by
  unfold Done
  refine (share_all (R := Recs X K) (Φ := fun k : CK => At1 (F := F) c k) (Ψ := fun k : CK => iprop(|={Set.univ}=> semVal (kcell c k) 0)) fun k => ?_).trans (bigSep_fupd _ _)
  iintro ⟨#HR, H⟩
  ihave #HI := (Recs_inv X K c k) $$ HR
  unfold At1
  iapply (Rounds.cell_close ER (Rd X) (Set.mem_univ (K (c, k))) (fun h => h) (R := 1) (duties_later X (kcell c k)))
  isplitr; · iexact HI
  iexact H

omit [FloatOps F] in
/-- The places lent, sorted by the axis they are lent across. -/
theorem lends_sorted (c : Dev nD) : (iprop(Lend c (0, 0) ∗ Lend c (0, 1) ∗ Lend c (0, 2) ∗ Lend c (0, 3) ∗ Lend c (0, 4) ∗ Lend c (0, 5) ∗ Lend c (1, 0) ∗ Lend c (1, 1) ∗ Lend c (1, 2) ∗ Lend c (1, 3) ∗ Lend c (1, 4) ∗ Lend c (1, 5) ∗ Lend c (2, 0) ∗ Lend c (2, 1) ∗ Lend c (2, 2) ∗ Lend c (2, 3) ∗ Lend c (2, 4) ∗ Lend c (2, 5)) : sProp 𝕄)
    ⊢ iprop((bigSep (Finset.univ.filter fun x : Fin 3 × Fin 6 => ax x.1 x.2 = 0) (Lend (F := F) c))
      ∗ (bigSep (Finset.univ.filter fun x : Fin 3 × Fin 6 => ax x.1 x.2 = 1) (Lend (F := F) c))
      ∗ (bigSep (Finset.univ.filter fun x : Fin 3 × Fin 6 => ax x.1 x.2 = 2) (Lend (F := F) c))) := by
  rw [bigSep_eq_bigSepL_of_eq (S := Finset.univ.filter fun x : Fin 3 × Fin 6 => ax x.1 x.2 = 0) ([(0, 3), (0, 4), (0, 5), (1, 1), (1, 2), (2, 0)] : List (Fin 3 × Fin 6)) (by decide +kernel) (by decide +kernel)]
  rw [bigSep_eq_bigSepL_of_eq (S := Finset.univ.filter fun x : Fin 3 × Fin 6 => ax x.1 x.2 = 1) ([(0, 1), (0, 2), (1, 0), (2, 3), (2, 4), (2, 5)] : List (Fin 3 × Fin 6)) (by decide +kernel) (by decide +kernel)]
  rw [bigSep_eq_bigSepL_of_eq (S := Finset.univ.filter fun x : Fin 3 × Fin 6 => ax x.1 x.2 = 2) ([(0, 0), (1, 3), (1, 4), (1, 5), (2, 1), (2, 2)] : List (Fin 3 × Fin 6)) (by decide +kernel) (by decide +kernel)]
  show _ ⊢ iprop((Lend c (0, 3) ∗ Lend c (0, 4) ∗ Lend c (0, 5) ∗ Lend c (1, 1) ∗ Lend c (1, 2) ∗ Lend c (2, 0)) ∗ (Lend c (0, 1) ∗ Lend c (0, 2) ∗ Lend c (1, 0) ∗ Lend c (2, 3) ∗ Lend c (2, 4) ∗ Lend c (2, 5)) ∗ (Lend c (0, 0) ∗ Lend c (1, 3) ∗ Lend c (1, 4) ∗ Lend c (1, 5) ∗ Lend c (2, 1) ∗ Lend c (2, 2)))
  iintro ⟨H00, H01, H02, H03, H04, H05, H10, H11, H12, H13, H14, H15, H20, H21, H22, H23, H24, H25⟩
  isplitl [H03 H04 H05 H11 H12 H20]
  · isplitl [H03]; · iexact H03
    isplitl [H04]; · iexact H04
    isplitl [H05]; · iexact H05
    isplitl [H11]; · iexact H11
    isplitl [H12]; · iexact H12
    iexact H20
  isplitl [H01 H02 H10 H23 H24 H25]
  · isplitl [H01]; · iexact H01
    isplitl [H02]; · iexact H02
    isplitl [H10]; · iexact H10
    isplitl [H23]; · iexact H23
    isplitl [H24]; · iexact H24
    iexact H25
  isplitl [H00]; · iexact H00
  isplitl [H13]; · iexact H13
  isplitl [H14]; · iexact H14
  isplitl [H15]; · iexact H15
  isplitl [H21]; · iexact H21
  iexact H22

set_option maxRecDepth 16000 in
theorem body_ok (c : Dev nD) : bodyPre m c ⊢ wpT c (cc0_body (F := F) xM (Memref.isWhole_whole _) wM (Memref.isWhole_whole _) oM (Memref.isWhole_whole _)
    sM0 (Memref.isWhole_whole _) sM1 (Memref.isWhole_whole _) sM2 (Memref.isWhole_whole _) cc0_scratch3 cc0_scratch4 cc0_scoped0) (fun _ => bodyPost m c) := by
  unfold bodyPre Φ₀ start scr
  simp only [before0, before1]
  iintro ⟨⟨⟨⟨%K, #HR', Hown⟩, Hcr, #HL⟩, HA0, HA1, HA2⟩, Ho, Hx, Hw, Hout⟩
  ihave #HR : Recs (Xs m) K $$ []
  · unfold Recs
    unfold Rec'
    icases HR' with ⟨#Ha, #Hb⟩
    isplitl; · iexact Ha
    isplitl; · iexact Hb
    iexact HL
  ihave Hd := (own_dealt (F := F) c) $$ Hown
  unfold Dealt
  icases Hd with ⟨⟨HS0, HS1, HS2⟩, ⟨HF0, HF1, HF2⟩, HT, Hbar, Hfin, Hat⟩
  unfold Creds
  icases Hcr with ⟨Hcb, Hcf, Hcr⟩
  ihave Hrc := (show iprop((bigSep Finset.univ (CredR (F := F) c)) ∗ bigSep Finset.univ fun x : Fin 3 × Fin 6 => At0 (F := F) c (.inr (true, x)))
      ⊢ bigSep Finset.univ fun x : Fin 3 × Fin 6 => Rcv (F := F) c x.1 x.2 from Entails.of_eq (by rw [← bigSep_sep']; rfl)) $$ [Hcr Hat]
  · isplitl [Hcr]; · iexact Hcr
    iexact Hat
  ihave Hrc := (Entails.of_eq (bigSep_trs fun x : Fin 3 × Fin 6 => Rcv (F := F) c x.1 x.2)) $$ Hrc
  icases Hrc with ⟨R00, R01, R02, R03, R04, R05, R10, R11, R12, R13, R14, R15, R20, R21, R22, R23, R24, R25⟩
  ihave HP0 := (split_any 0 c) $$ HA0
  icases HP0 with ⟨HO0, L00, L01, L02, L03, L04, L05⟩
  ihave HP1 := (split_any 1 c) $$ HA1
  icases HP1 with ⟨HO1, L10, L11, L12, L13, L14, L15⟩
  ihave HP2 := (split_any 2 c) $$ HA2
  icases HP2 with ⟨HO2, L20, L21, L22, L23, L24, L25⟩
  ihave HLd := (lends_sorted (F := F) c) $$ [L00 L01 L02 L03 L04 L05 L10 L11 L12 L13 L14 L15 L20 L21 L22 L23 L24 L25]
  · isplitl [L00]; · iexact L00
    isplitl [L01]; · iexact L01
    isplitl [L02]; · iexact L02
    isplitl [L03]; · iexact L03
    isplitl [L04]; · iexact L04
    isplitl [L05]; · iexact L05
    isplitl [L10]; · iexact L10
    isplitl [L11]; · iexact L11
    isplitl [L12]; · iexact L12
    isplitl [L13]; · iexact L13
    isplitl [L14]; · iexact L14
    isplitl [L15]; · iexact L15
    isplitl [L20]; · iexact L20
    isplitl [L21]; · iexact L21
    isplitl [L22]; · iexact L22
    isplitl [L23]; · iexact L23
    isplitl [L24]; · iexact L24
    iexact L25
  icases HLd with ⟨HL0, HL1, HL2⟩
  unfold stg
  icases Hx with ⟨%dx, %fx, %hx, Hx⟩
  icases Hw with ⟨%dw, %fw, %hw, Hw⟩
  icases Hout with ⟨%dd, %fo, %ho, Hout⟩
  subst hx; subst hw; clear ho
  unfold Dat.owesAt Pipeline.owesWithin
  icases Ho with ⟨%W0, %hW0, Ho⟩
  iapply (wp_fupd frame (wpE (defs₀ (F := F)) 𝒱₀ (c : Thread nD τ) none) _ _)
  iapply (body_run (Xs m) (Ws m) K (Memref.isWhole_whole _) (Memref.isWhole_whole _) (Memref.isWhole_whole _) (Memref.isWhole_whole _) (Memref.isWhole_whole _) (Memref.isWhole_whole _) c) $$ HR [Hx] [Hw] [Hout] HS0 HS1 HS2 HL0 HL1 HL2 [Hcb Hbar] HT HO0 HO1 HO2 R00 R01 R02 R03 R04 R05 R10 R11 R12 R13 R14 R15 R20 R21 R22 R23 R24 R25 HF0 HF1 HF2 [Hcf Hfin] [Ho]
  · unfold XB; iexact Hx
  · unfold WB; iexact Hw
  · unfold OutB; iexists fo
    isplitr; · ipureintro; exact fun P s h => absurd h (Finset.notMem_empty _)
    iexact Hout
  · unfold BarW; isplitl [Hcb] <;> iassumption
  · unfold FinW; isplitl [Hcf] <;> iassumption
  · unfold Owe; iexists W0; iexact Ho
  iintro Hx Hw Ho P0 P1 P2 HD HO
  imod (close_all (Xs m) K c) $$ [HD] with Hz
  · isplitr; · iexact HR
    iexact HD
  imodintro
  unfold bodyPost Φ₁ scr stg
  isplitl [P0 P1 P2 Hz]
  · isplitl [P0 P1 P2]
    · isplitl [P0]; · iapply (join_parts (Xs m) 0 c); iexact P0
      isplitl [P1]; · iapply (join_parts (Xs m) 1 c); iexact P1
      iapply (join_parts (Xs m) 2 c); iexact P2
    · iexact Hz
  isplitl [HO]
  · unfold Owe Dat.owesAt Pipeline.owesWithin
    icases HO with ⟨%W1, HO⟩
    iexists W1
    isplitr; · ipureintro; exact fun _ _ => Or.inl trivial
    iexact HO
  isplitl [Hx]
  · unfold XB; iexists _
    isplitr; swap; · iexact Hx
    ipureintro; rfl
  isplitl [Hw]
  · unfold WB; iexists _
    isplitr; swap; · iexact Hw
    ipureintro; rfl
  unfold OutB
  icases Ho with ⟨%f, %hf, Ho⟩
  iexists f
  isplitr; · ipureintro; exact good_out _ _ f hf
  iexact Ho

set_option maxRecDepth 16000 in
theorem body_obligation (c : Dev nD) : BodyObligation (dats (F := F) m 0 c) (defs₀ (F := F)) 𝒱₀ () Set.univ := fun t => by
  rw [fin_N0 t, bigSep_W0, bigSep_W0]
  simp only [owns_stg]
  exact body_ok m c

/-! ## The launch -/

theorem ownSemFacts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => oweSum d obls) c ∗ prngReg c (ρ c) ∗ G' (Xs m) c)
      ⊢ |={Set.univ}=> iprop(start m c ∗ emp) := by
  iintro ⟨-, Hl, Hc, -, HG⟩
  ihave Hc := (creds (F := F) c) $$ Hc
  imodintro
  unfold start G'
  isplitl
  · isplitl [HG]; · iexact HG
    isplitl [Hc]; · iexact Hc
    iexact Hl
  · iempintro

omit [FloatOps F] in
/-- The three scratches, whole. -/
theorem scr_of_rest (c : Dev nD) : (Pipeline.scopedRest (Ix := Unit) (Name := ℕ) (U := UU) (Lvl := ℕ) (Val := Elt F) cfg0.spec c : sProp 𝕄) = scr c := by
  rw [scopedRest0_eq]
  unfold scr Any PTn
  simp only [slotIdx_univ, Memref.view_whole, View.setOn_univ, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_of_rest]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scr_of_rest]
  unfold Φ₁
  iintro ⟨Hr, Hz⟩
  ihave Hz := (cells_sems (F := F) c) $$ Hz
  icases Hz with ⟨Hu, Ho⟩
  isplitl [Hu]; · iexact Hu
  isplitl [Ho]; · iexact Ho
  iexact Hr

omit [FloatOps F] in
theorem lv_pos (o : Ob) : 0 < lvU (useCK (obCK o)) := by
  rcases o with d | ⟨P, i⟩ | d
  · exact Nat.one_pos
  · revert P i; decide
  · exact Nat.succ_pos _

omit [FloatOps F] in
/-- The pipeline's own waits sit below everything owed. -/
theorem mayWait_stage (c : Dev nD) (sm : SemLoc sig) (hq : lvU (useOf sm) = 0) (O : CellTallies nD τ sig Unit) (hO : O = oweSum c obls ∨ O = 0) :
    (levAts L lv : sProp 𝕄) ⊢ MayWait (c : Thread nD τ) sm () O := by
  rcases hO with rfl | rfl
  · exact mayWait c sm obls fun o _ => by rw [hq]; exact lv_pos o
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- An array of device `c` after the run. -/
def final (c : Dev nD) (w : Fin cfg0.W) : Buf (Elt F) ((cfg0.win w).arr.view.loc (c : Thread nD τ)) := (dats m 0 c).arrAt w cfg0.N

set_option maxRecDepth 16000 in
set_option maxHeartbeats 2000000 in
/-- From any memory, every counter at zero, every weakly fair execution on the eight devices terminates; then each array
    is as named, and every counter is zero again. -/
theorem run_main : θ_run defs (onTc (τ := τ) (main (F := F))) (s₀ m ρ) (fun r =>
    (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => oweSum d obls) (howed₀ := fun _ => rfl) (howedN := fun _ => rfl)
    (L := L) (lv := lv) (hL := L_of_ne) (hwaits := waits m)
    (G := G (Xs m)) (G' := G' (Xs m)) (u₀ := u₀)
    (hu₀ := by
      unfold u₀
      iintro Hu
      ihave H := (ownU_pair _ _) $$ Hu
      icases H with ⟨HP, HX⟩
      imod (fund_cells (Xs m)) $$ HX with HG
      imodintro
      isplitl [HP] <;> iassumption)
    (hglob := glob (Xs m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : final m c (0 : Fin 3) = m ((c : Thread nD τ).loc main_arg0) := (dats (F := F) m 0 c).arrAt_in (0 : Fin 3) rfl _
theorem final_w (c : Dev nD) : final m c (1 : Fin 3) = m ((c : Thread nD τ).loc main_arg1) := (dats (F := F) m 0 c).arrAt_in (1 : Fin 3) rfl _

end Cert.Cube

end
-- ==== Proof.Ends.lean ====
/-
What the three arrays of a device hold when the run is over: the two arguments as they were launched, and the whole
result as the body left it in its staging buffer.
-/
module

public import proofs.«01_k».proof.Proof.Start
public import proofs.«01_k».proof.Proof.Gen.KernelIdeal.Points
public import Idealize.ShloMosaic.Lib.Pipeline.Value

@[expose] public section

noncomputable section

namespace Cert.Cube

open Cert.KernelIdeal Cert.KernelIdeal.Gen
open Idealize.ShloMosaic
open Idealize.ShloMosaic.TcCoe
open Idealize.SL Idealize.SL.Sem
open Idealize.ShloMosaic.ValueIdx (ix2 ix3)

variable {F : FTy → Type} [FloatOps F]
variable (m : (ℓ : Loc nD τ sig) → Buf (Elt F) ℓ) (ρ : Dev nD → PrngReg)

/-- Each window's one block starts at the origin. -/
theorem index_zero : ∀ t : Fin grid0.N, (∀ a, win0_0.index t a = 0) ∧ (∀ a, win0_1.index t a = 0) ∧ (∀ a, win0_2.index t a = 0) := by
  intro t
  rw [show t = t0_0 from fin_N0 t]
  decide +kernel

/-- So an element of the block is the element of the array with the same coordinates. -/
theorem emb0 (x : S256x2048.Idx) : ((cfg0.win (0 : Fin 3)).blk t0_0).view.emb x = x :=
  funext fun a => Fin.ext (win0_0.rect_emb_val_of_index_zero t0_0 a ((index_zero t0_0).1 a) x)
theorem emb1 (x : S2048x256.Idx) : ((cfg0.win (1 : Fin 3)).blk t0_0).view.emb x = x :=
  funext fun a => Fin.ext (win0_1.rect_emb_val_of_index_zero t0_0 a ((index_zero t0_0).2.1 a) x)
theorem emb2 (x : S2048x256.Idx) : ((cfg0.win (2 : Fin 3)).blk t0_0).view.emb x = x :=
  funext fun a => Fin.ext (win0_2.rect_emb_val_of_index_zero t0_0 a ((index_zero t0_0).2.2 a) x)

/-- The rows and the weights a device works on are its arguments. -/
theorem Xs_eq (c : Dev nD) : Xs m c = m ((c : Thread nD τ).loc main_arg0) :=
  funext fun x => congrArg (m ((c : Thread nD τ).loc main_arg0)) (emb0 x)
theorem Ws_eq (c : Dev nD) : Ws m c = m ((c : Thread nD τ).loc main_arg1) :=
  funext fun x => congrArg (m ((c : Thread nD τ).loc main_arg1)) (emb1 x)

/-- The result array ends as the body left its staging buffer. -/
theorem final_out (c : Dev nD) : final m c (2 : Fin 3) = Out m c := by
  refine (dats (F := F) m 0 c).arrAt_eq_of_cover (2 : Fin 3) (Out m c) (fun t _ => ?_) (fun i => ⟨t0_0, flush0_2 _, ?_⟩)
  · rw [show t = t0_0 from fin_N0 t]
    exact funext fun x => (congrArg (Out m c) (emb2 x)).symm
  · have h := ((cfg0.win (2 : Fin 3)).blk t0_0).view.emb_mem_set i
    rw [emb2] at h
    exact h

/-- The run of the kernel, with the value of its result. -/
theorem run_value : θ_run defs (onTc (τ := τ) (main (F := F))) (s₀ m ρ) (fun r =>
    (∀ c : Dev nD, r.2.mem ((c : Thread nD τ).loc main_v1) = Out m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m c),
    (h.1 c (0 : Fin 3)).trans (final_x m c), (h.1 c (1 : Fin 3)).trans (final_w m c)⟩, h.2⟩) (run_main m ρ)

end Cert.Cube

end
-- ==== Proof.Silu.lean ====
/-
The mathematics on the extended reals: the gate `y · logistic y` is the quotient `y / (1 + exp (-y))`, and a product of
two vectors of bounded square sums lies between the limits the reference clips at (Cauchy and Schwarz).
-/
module

public import Idealize.ShloMosaic.PureOps.Ideal.Laws
public import Idealize.ShloMosaic.Lib.IdealHost
public import Mathlib.Algebra.Order.BigOperators.Ring.Finset

@[expose] public section

noncomputable section

namespace Cert.Cube

open Idealize.ShloMosaic
open scoped BigOperators

/-- The gated value: `y / (1 + exp (-y))`. -/
def silu (y : EReal) : EReal := Ideal.div y (1 + Ideal.exp (-y))

theorem exp_nonneg (x : EReal) : 0 ≤ Ideal.exp x := by
  induction x with
  | bot => exact le_refl _
  | top => exact le_top
  | coe r => exact EReal.coe_nonneg.mpr (Real.exp_pos r).le

theorem one_add_exp_ne (x : EReal) : 1 + Ideal.exp x ≠ 0 := by
  have h : (1 : EReal) ≤ 1 + Ideal.exp x := le_add_of_nonneg_right (exp_nonneg x)
  intro e
  rw [e] at h
  exact absurd h (by simp)

/-- The kernel's gate is the reference's quotient, at every extended real. -/
theorem gate (y : EReal) : y * Ideal.logistic y = silu y :=
  Ideal.mul_one_div (one_add_exp_ne (-y))

/-! ## The bound -/

theorem sq_nonneg' (x : EReal) : 0 ≤ x * x := by
  induction x with
  | bot => simp
  | top => simp
  | coe r => rw [← EReal.coe_mul]; exact EReal.coe_nonneg.mpr (mul_self_nonneg r)

/-- A vector whose square sum is at most a real number has real entries. -/
theorem real_of_sq {n : ℕ} (x : Fin n → EReal) (B : ℝ) (h : ∑ k, x k * x k ≤ (B : EReal)) : ∃ r : Fin n → ℝ, ∀ k, x k = (r k : EReal) := by
  have hk : ∀ k, ∃ r : ℝ, x k = (r : EReal) := by
    intro k
    have h1 : x k * x k ≤ (B : EReal) :=
      (Finset.single_le_sum (f := fun k => x k * x k) (fun i _ => sq_nonneg' (x i)) (Finset.mem_univ k)).trans h
    generalize x k = e at h1
    induction e with
    | bot => simp at h1
    | top => simp at h1
    | coe r => exact ⟨r, rfl⟩
  exact ⟨fun k => (hk k).choose, fun k => (hk k).choose_spec⟩

theorem sum_coe {n : ℕ} (f : Fin n → ℝ) : ∑ k, ((f k : ℝ) : EReal) = ((∑ k, f k : ℝ) : EReal) := by
  have : ∀ s : Finset (Fin n), ∑ k ∈ s, ((f k : ℝ) : EReal) = ((∑ k ∈ s, f k : ℝ) : EReal) := by
    intro s
    induction s using Finset.induction_on with
    | empty => simp
    | insert a s ha ih => rw [Finset.sum_insert ha, Finset.sum_insert ha, ih, EReal.coe_add]
  exact this Finset.univ

/-- Cauchy and Schwarz: square sums at most `A` and `B` with `A · B ≤ C²` keep the product between `-C` and `C`. -/
theorem dot_bound {n : ℕ} (x w : Fin n → EReal) (A B C : ℝ) (hC : 0 ≤ C) (hABC : A * B ≤ C ^ 2)
    (hx : ∑ k, x k * x k ≤ (A : EReal)) (hw : ∑ k, w k * w k ≤ (B : EReal)) :
    ((-C : ℝ) : EReal) ≤ ∑ k, x k * w k ∧ ∑ k, x k * w k ≤ ((C : ℝ) : EReal) := by
  obtain ⟨r, hr⟩ := real_of_sq x A hx
  obtain ⟨s, hs⟩ := real_of_sq w B hw
  simp only [hr, hs, ← EReal.coe_mul] at hx hw ⊢
  rw [sum_coe] at hx hw ⊢
  rw [EReal.coe_le_coe_iff] at hx hw
  rw [EReal.coe_le_coe_iff, EReal.coe_le_coe_iff]
  have hx0 : 0 ≤ ∑ k, r k * r k := Finset.sum_nonneg fun k _ => mul_self_nonneg (r k)
  have hw0 : 0 ≤ ∑ k, s k * s k := Finset.sum_nonneg fun k _ => mul_self_nonneg (s k)
  have hcs : (∑ k, r k * s k) ^ 2 ≤ (∑ k, r k * r k) * ∑ k, s k * s k := by
    have := Finset.sum_mul_sq_le_sq_mul_sq Finset.univ r s
    simpa only [pow_two] using this
  have hAB : (∑ k, r k * r k) * ∑ k, s k * s k ≤ A * B := mul_le_mul hx hw hw0 (hx0.trans hx)
  exact abs_le.mp (abs_le_of_sq_le_sq (hcs.trans (hAB.trans hABC)) hC)

/-- Between the limits the clip does nothing. -/
theorem clip_id (y lo hi : EReal) (h : lo ≤ y ∧ y ≤ hi) : min hi (max lo y) = y := by
  rw [max_eq_right h.1, min_eq_right h.2]

end Cert.Cube

end
-- ==== Proof.Value.lean ====
/-
The kernel's result in exact arithmetic, entry by entry: the gated product of a row of `x` and a column of the weights.
-/
module

public import proofs.«01_k».proof.Proof.Ends
public import proofs.«01_k».proof.Proof.Silu
public import Idealize.ShloMosaic.Lib.MatmulPlain

@[expose] public section

noncomputable section

namespace Cert.Cube

open Cert.KernelIdeal Cert.KernelIdeal.Gen
open Idealize.ShloMosaic
open Idealize.ShloMosaic.TcCoe
open Idealize.SL Idealize.SL.Sem
open Idealize.ShloMosaic.ValueIdx (ix2 ix3)
open scoped BigOperators

/-- Row `a` of a one-slot block against column `j` of the weights. -/
def dotAt {n : ℕ} (v : (⟨3, ![1, n, 2048]⟩ : Shape).Idx → EReal) (w : S2048x256.Idx → EReal) (a : Fin n) (j : Fin 256) : EReal :=
  ∑ k : Fin 2048, v (ix3 (0 : Fin 1) a k) * w (ix2 k j)

/-- A slot cast to a matrix reads the slot. -/
theorem slot_cast {n : ℕ} (v : (⟨3, ![1, n, 2048]⟩ : Shape).Idx → EReal) (h : (⟨3, ![1, n, 2048]⟩ : Shape).ShapeCasts ⟨2, ![n, 2048]⟩) (a : Fin n) (k : Fin 2048) :
    shapeCast ⟨2, ![n, 2048]⟩ v h (ix2 a k) = v (ix3 (0 : Fin 1) a k) := by
  refine (shapeCast_dropUnit_apply ![n, 2048] v h (ix2 a k)).trans (congrArg v ?_)
  funext b
  match b with
  | ⟨0, _⟩ => rfl
  | ⟨1, _⟩ => rfl
  | ⟨2, _⟩ => rfl

/-- The two payloads at an entry: the product, gated. -/
theorem pay96 (w : S2048x256.Idx → EReal) (v : S1x96x2048.Idx → EReal) (a : Fin 96) (j : Fin 256) :
    k0_pay7 (F := Ideal) w v (ix2 a j) = silu (dotAt v w a j) := by
  have e : matmul (F := Ideal) (φ₁ := .bf16) (φ₂ := .bf16) dot_S96x2048_S2048x256_S96x256_1_0_0_1_n_n none (shapeCast (α := EReal) S96x2048 v shapeCasts_S1x96x2048_S96x2048) w (constant S96x256 .f32 0x00000000#32) (ix2 a j)
      = dotAt v w a j := by
    refine (Ideal.matmul_plain_apply none _ _ _ a j).trans ?_
    show Ideal.ofBits .f32 0x00000000#32 + _ = _
    rw [Ideal.ofBits_zero_f32, zero_add]
    exact Finset.sum_congr rfl fun k _ => congrArg (· * w (ix2 k j)) (slot_cast v _ a k)
  refine Eq.trans ?_ (gate _)
  rw [← e]
  rfl

theorem pay80 (w : S2048x256.Idx → EReal) (v : S1x80x2048.Idx → EReal) (a : Fin 80) (j : Fin 256) :
    k0_pay10 (F := Ideal) w v (ix2 a j) = silu (dotAt v w a j) := by
  have e : matmul (F := Ideal) (φ₁ := .bf16) (φ₂ := .bf16) dot_S80x2048_S2048x256_S80x256_1_0_0_1_n_n none (shapeCast (α := EReal) S80x2048 v shapeCasts_S1x80x2048_S80x2048) w (constant S80x256 .f32 0x00000000#32) (ix2 a j)
      = dotAt v w a j := by
    refine (Ideal.matmul_plain_apply none _ _ _ a j).trans ?_
    show Ideal.ofBits .f32 0x00000000#32 + _ = _
    rw [Ideal.ofBits_zero_f32, zero_add]
    exact Finset.sum_congr rfl fun k _ => congrArg (· * w (ix2 k j)) (slot_cast v _ a k)
  refine Eq.trans ?_ (gate _)
  rw [← e]
  rfl

/-- A row of the block of a device against a column of the weights. -/
def prodAt (X : Dev nD → S256x2048.Idx → EReal) (w : S2048x256.Idx → EReal) (v : Dev nD) (b : Fin 256) (j : Fin 256) : EReal :=
  ∑ k : Fin 2048, X v (ix2 b k) * w (ix2 k j)

theorem band_row (P : Fin 3) (a : Fin (bn P)) : br P + a.val < 256 := by
  have := br_le P; have := a.isLt; omega

/-- A computed slot: row `a` of the band of the device that slot belongs to. -/
theorem sval_apply (X : Dev nD → S256x2048.Idx → EReal) (w : S2048x256.Idx → EReal) (P : Fin 3) (s : Fin 8) (a : Fin (bn P)) (j : Fin 256) :
    sval (F := Ideal) X w P s (ix2 a j) = silu (prodAt X w (inv P s) ⟨br P + a.val, band_row P a⟩ j) := by
  match P, a with
  | 0, a => exact pay96 w _ a j
  | 1, a => exact pay80 w _ a j
  | 2, a => exact pay80 w _ a j

variable (m : (ℓ : Loc nD τ sig) → Buf (Elt Ideal) ℓ)

/-- The rows of `x` and the columns of the weights that a device was launched with, as extended reals. -/
def argX (c : Dev nD) : S256x2048.Idx → EReal := m ((c : Thread nD τ).loc main_arg0)
def argW (c : Dev nD) : S2048x256.Idx → EReal := m ((c : Thread nD τ).loc main_arg1)

/-- The device whose block holds row `r`, and the row's place in that block. -/
def devOf (r : Fin 2048) : Dev nD := (⟨r.val / 256, by have := r.isLt; omega⟩ : Fin 8)
def rowOf (r : Fin 2048) : Fin 256 := ⟨r.val % 256, Nat.mod_lt _ (by decide)⟩

/-- The result of device `c` at row `r` and column `j`: row `r` of `x`, held by one of the devices, against column `j` of
    device `c`'s weights, gated. -/
theorem Out_apply (c : Dev nD) (r : Fin 2048) (j : Fin 256) :
    Out m c (ix2 r j) = silu (prodAt (argX m) (argW m c) (devOf r) (rowOf r) j) := by
  have hb := bandOf_lt (r.val % 256) (Nat.mod_lt _ (by decide))
  have e5 : k0_pay5 (F := Ideal) (Ws m c) = argW m c := by
    rw [Ws_eq]; exact shapeCast_self _ _
  have eX : Xs m = argX m := funext fun v => Xs_eq m v
  unfold Out
  rw [e5, eX]
  refine (sval_apply (argX m) (argW m c) (bandOf (r.val % 256)) (tt (bandOf (r.val % 256)) (devOf r)) ⟨r.val % 256 - br (bandOf (r.val % 256)), hb.2⟩ j).trans ?_
  rw [inv_tt]
  refine congrArg (fun b => silu (prodAt (argX m) (argW m c) (devOf r) b j)) (Fin.ext ?_)
  show br (bandOf (r.val % 256)) + (r.val % 256 - br (bandOf (r.val % 256))) = r.val % 256
  have := hb.1
  omega

end Cert.Cube

end
-- ==== Proof.Ref.lean ====
/-
The two references in exact arithmetic, entry by entry: the gated product of a row of `x` and a column of the weights,
the clipped one with its product held between the limits before the exponential.
-/
module

public import proofs.«01_k».proof.Proof.Silu
public import proofs.«01_k».proof.Proof.Gen.SiluIdeal.Run
public import proofs.«01_k».proof.Proof.Gen.ReferenceIdeal.Run
public import Idealize.ShloMosaic.Lib.StackMember

@[expose] public section

noncomputable section

namespace Cert.Cube

open Idealize.ShloMosaic
open Idealize.ShloMosaic.ValueIdx (ix2)
open scoped BigOperators

/-- The square arrays the references work on. -/
abbrev Sq : Shape := ⟨2, ![2048, 2048]⟩

/-- Row `r` against column `q`. -/
def refDot (X W : Sq.Idx → EReal) (r q : Fin 2048) : EReal := ∑ k : Fin 2048, X (ix2 r k) * W (ix2 k q)

/-- The product of the whole arrays, as the unclipped reference prints it. -/
abbrev sDot (X W : FVec Ideal Sq .bf16) : FVec Ideal Sq .f32 :=
  Host.dotGeneral Cert.SiluIdeal.dot_S2048x2048_S2048x2048_S2048x2048_1_0_0_1_n_n none
    (extf .f32 X Cert.SiluIdeal.Gen.bitsLt_bf16_f32) (extf .f32 W Cert.SiluIdeal.Gen.bitsLt_bf16_f32)
/-- … and as the clipped one does. -/
abbrev rDot (X W : FVec Ideal Sq .bf16) : FVec Ideal Sq .f32 :=
  Host.dotGeneral Cert.ReferenceIdeal.dot_S2048x2048_S2048x2048_S2048x2048_1_0_0_1_n_n none
    (extf .f32 X Cert.ReferenceIdeal.Gen.bitsLt_bf16_f32) (extf .f32 W Cert.ReferenceIdeal.Gen.bitsLt_bf16_f32)

theorem sDot_apply (X W : FVec Ideal Sq .bf16) (r q : Fin 2048) : sDot X W (ix2 r q) = refDot X W r q :=
  StackMember.dotGeneral_plain_apply (φ₁ := .f32) (φ₂ := .f32) none X W r q
theorem rDot_apply (X W : FVec Ideal Sq .bf16) (r q : Fin 2048) : rDot X W (ix2 r q) = refDot X W r q :=
  StackMember.dotGeneral_plain_apply (φ₁ := .f32) (φ₂ := .f32) none X W r q

/-- What the unclipped reference leaves. -/
abbrev sOut (X W : FVec Ideal Sq .bf16) : FVec Ideal Sq .f32 :=
  Host.divf (sDot X W) (addf (broadcastInDim Sq ![] Cert.SiluIdeal.Gen.bcast_S_S2048x2048 (constant Cert.SiluIdeal.S_ .f32 0x3F800000#32)) (Host.exp (Host.negf (sDot X W))))
/-- What the clipped reference leaves. -/
abbrev rOut (X W : FVec Ideal Sq .bf16) : FVec Ideal Sq .f32 :=
  Host.divf (rDot X W) (addf (broadcastInDim Sq ![] Cert.ReferenceIdeal.Gen.bcast_S_S2048x2048 (constant Cert.ReferenceIdeal.S_ .f32 0x3F800000#32))
    (Host.exp (Host.negf (minimumf (broadcastInDim Sq ![] Cert.ReferenceIdeal.Gen.bcast_S_S2048x2048 (id (constant Cert.ReferenceIdeal.S_ .f32 0x42700000#32)))
      (maximumf (broadcastInDim Sq ![] Cert.ReferenceIdeal.Gen.bcast_S_S2048x2048 (id (constant Cert.ReferenceIdeal.S_ .f32 0xC2700000#32))) (rDot X W))))))

theorem sOut_apply (X W : FVec Ideal Sq .bf16) (r q : Fin 2048) : sOut X W (ix2 r q) = silu (refDot X W r q) := by
  show Ideal.div (sDot X W (ix2 r q)) (Ideal.ofBits .f32 0x3F800000#32 + Ideal.exp (-(sDot X W (ix2 r q)))) = _
  rw [sDot_apply, Ideal.ofBits_one_f32]
  rfl

/-- The two limits. -/
theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul, -EReal.coe_neg]; norm_num

theorem rOut_apply (X W : FVec Ideal Sq .bf16) (r q : Fin 2048)
    (h : ((-60 : ℝ) : EReal) ≤ refDot X W r q ∧ refDot X W r q ≤ ((60 : ℝ) : EReal)) : rOut X W (ix2 r q) = silu (refDot X W r q) := by
  show Ideal.div (rDot X W (ix2 r q)) (Ideal.ofBits .f32 0x3F800000#32
    + Ideal.exp (-(min (Ideal.ofBits .f32 0x42700000#32) (max (Ideal.ofBits .f32 0xC2700000#32) (rDot X W (ix2 r q)))))) = _
  rw [rDot_apply, Ideal.ofBits_one_f32, ofBits_sixty, ofBits_neg_sixty, clip_id _ _ _ h]
  rfl

end Cert.Cube

end
-- ==== Proof.Norms.lean ====
/-
The precondition `bounded_norms`, read on one device's blocks: every row of its `x` has a square sum of at most 2816, and
every column of its weights one of at most 1.25; so a row against a column lies between -60 and 60.
-/
module

public import proofs.«01_k».proof.Proof.Silu
public import proofs.«01_k».proof.Pre_bounded_norms_KernelIdeal
public import proofs.«01_k».proof.Pre_bounded_norms_ReferenceIdeal
public import Idealize.ShloMosaic.Lib.ValueIdx
public import Idealize.ShloMosaic.Lib.Pipeline.Value

@[expose] public section

noncomputable section

namespace Cert.Cube

open Idealize.ShloMosaic
open Idealize.ShloMosaic.ValueIdx (ix1 ix2)
open scoped BigOperators

/-! ## The side conditions the two printed predicates state -/

theorem preFacts : Cert.Pre_bounded_norms_KernelIdeal.Facts where
  bitsLt_bf16_f32 := by decide
  reducesTo_S256x2048_S256_d1 := by decide
  h_S_ := by decide
  bcast_S_S256 := by decide
  reducesTo_S2048x256_S256_d0 := by decide
  bcast_S256_S256x1_0 := by decide
  bcast_S256_S1x256_1 := by decide
  bcast_S256x1_S256x256_0_1 := by decide
  bcast_S1x256_S256x256_0_1 := by decide

theorem preFactsRef : Cert.Pre_bounded_norms_ReferenceIdeal.Facts := by
  constructor <;> decide

/-! ## What the predicate says -/

open Cert.Pre_bounded_norms_KernelIdeal (S256x2048 S2048x256 S256 S256x1 S1x256 S256x256)

theorem ofBits_2816 : Ideal.ofBits .f32 0x45300000#32 = ((2816 : ℝ) : EReal) := by
  simp [Ideal.ofBits, Ideal.ieee, -EReal.coe_mul]; norm_num
theorem ofBits_five_quarters : Ideal.ofBits .f32 0x3FA00000#32 = ((5 / 4 : ℝ) : EReal) := by
  simp [Ideal.ofBits, Ideal.ieee, -EReal.coe_mul]; norm_num

/-- A row's square sum, and a column's. -/
theorem row_sum (x : S256x2048.Idx → EReal) (h : S256x2048.ReducesTo [1] S256) (a : Fin 256) :
    Ideal.hostReduceAdd h (fun i => x i * x i) 0 (ix1 a) = ∑ k : Fin 2048, x (ix2 a k) * x (ix2 a k) := by
  rw [Ideal.hostReduceAdd_single h (by decide : S256x2048.Reduces [1] S256), zero_add]
  refine Finset.sum_congr rfl fun k _ => ?_
  have e : (by decide : S256x2048.Reduces [1] S256).lift (ix1 a) k = ix2 (n0 := 256) (n1 := 2048) a k := by
    funext b
    match b with
    | ⟨0, _⟩ => exact Fin.ext rfl
    | ⟨1, _⟩ => exact Fin.ext rfl
  rw [e]
theorem col_sum (w : S2048x256.Idx → EReal) (h : S2048x256.ReducesTo [0] S256) (b : Fin 256) :
    Ideal.hostReduceAdd h (fun i => w i * w i) 0 (ix1 b) = ∑ k : Fin 2048, w (ix2 k b) * w (ix2 k b) := by
  rw [Ideal.hostReduceAdd_single h (by decide : S2048x256.Reduces [0] S256), zero_add]
  refine Finset.sum_congr rfl fun k _ => ?_
  have e : (by decide : S2048x256.Reduces [0] S256).lift (ix1 b) k = ix2 (n0 := 2048) (n1 := 256) k b := by
    funext a
    match a with
    | ⟨0, _⟩ => exact Fin.ext rfl
    | ⟨1, _⟩ => exact Fin.ext rfl
  rw [e]

theorem ole_of_one (x y : EReal) (h : Ideal.cmp .ole x y = 1#1) : x ≤ y := by
  unfold Ideal.cmp at h
  by_contra hn
  simp [hn] at h

theorem both_one (a b : BitVec 1) (h : a &&& b = 1#1) : a = 1#1 ∧ b = 1#1 := by
  revert a b; decide

/-- A vector of 256 spread along the rows of a square, and along its columns. -/
theorem spread_rows {α : Type} (v : S256.Idx → α) (h₁ : S256.BroadcastsInDim S256x1 ![0]) (h₂ : S256x1.BroadcastsInDim S256x256 ![0, 1]) (a b : Fin 256) :
    broadcastInDim S256x256 ![0, 1] h₂ (broadcastInDim S256x1 ![0] h₁ v) (ix2 a b) = v (ix1 a) := by
  rw [broadcastInDim_apply ![0, 1] h₂ _ (ix2 a b) (ix2 (n0 := 256) (n1 := 1) a 0) (by intro c; match c with | ⟨0, _⟩ => rfl | ⟨1, _⟩ => rfl),
    broadcastInDim_apply ![0] h₁ v (ix2 (n0 := 256) (n1 := 1) a 0) (ix1 a) (by intro c; match c with | ⟨0, _⟩ => rfl)]
theorem spread_cols {α : Type} (v : S256.Idx → α) (h₁ : S256.BroadcastsInDim S1x256 ![1]) (h₂ : S1x256.BroadcastsInDim S256x256 ![0, 1]) (a b : Fin 256) :
    broadcastInDim S256x256 ![0, 1] h₂ (broadcastInDim S1x256 ![1] h₁ v) (ix2 a b) = v (ix1 b) := by
  rw [broadcastInDim_apply ![0, 1] h₂ _ (ix2 a b) (ix2 (n0 := 1) (n1 := 256) 0 b) (by intro c; match c with | ⟨0, _⟩ => rfl | ⟨1, _⟩ => rfl),
    broadcastInDim_apply ![1] h₁ v (ix2 (n0 := 1) (n1 := 256) 0 b) (ix1 b) (by intro c; match c with | ⟨0, _⟩ => rfl)]

/-- The predicate, read: rows and columns are bounded. -/
theorem norms (hp : Cert.Pre_bounded_norms_KernelIdeal.Facts) (x : S256x2048.Idx → EReal) (w : S2048x256.Idx → EReal)
    (h : Cert.Pre_bounded_norms_KernelIdeal.fn (F := Ideal) x w = fun _ => 1#1) (a b : Fin 256) :
    ∑ k : Fin 2048, x (ix2 a k) * x (ix2 a k) ≤ ((2816 : ℝ) : EReal) ∧ ∑ k : Fin 2048, w (ix2 k b) * w (ix2 k b) ≤ ((5 / 4 : ℝ) : EReal) := by
  have e := congrFun h (ix2 a b)
  obtain ⟨e1, e2⟩ := both_one _ _ e
  have f1 := ole_of_one _ _ ((spread_rows _ _ _ a b).symm.trans e1)
  have f2 := ole_of_one _ _ ((spread_cols _ _ _ a b).symm.trans e2)
  constructor
  · rw [← row_sum x hp.reducesTo_S256x2048_S256_d1 a, ← ofBits_2816, ← Ideal.ofBits_zero_f32]
    exact f1
  · rw [← col_sum w hp.reducesTo_S2048x256_S256_d0 b, ← ofBits_five_quarters, ← Ideal.ofBits_zero_f32]
    exact f2

end Cert.Cube

end
-- ==== Proof.Bridge.lean ====
/-
The two sides meet: device `c`'s block of columns of a reference's result is what the kernel leaves on device `c`.
-/
module

public import proofs.«01_k».proof.Proof.Value
public import proofs.«01_k».proof.Proof.Ref
public import proofs.«01_k».proof.Proof.Norms
public import Idealize.ShloMosaic.Lib.Layout

@[expose] public section

noncomputable section

namespace Cert.Cube

open Cert.KernelIdeal Cert.KernelIdeal.Gen
open Idealize.ShloMosaic
open Idealize.ShloMosaic.TcCoe
open Idealize.ShloMosaic.ValueIdx (ix2 eq_ix2)
open scoped BigOperators

variable (m : (ℓ : Loc nD τ sig) → Buf (Elt Ideal) ℓ)

/-- The launch memories agree: each device holds its rows of `X` and its columns of `W`. -/
def Agree (X W : Sq.Idx → EReal) : Prop :=
  ∀ c : Dev nD, argX m c = Layout.block ⟨2, ![256, 2048]⟩ ⟨2, ![2048, 2048]⟩ 0 8 c X
    ∧ argW m c = Layout.block ⟨2, ![2048, 256]⟩ ⟨2, ![2048, 2048]⟩ 1 8 c W

/-- The column of the whole array that is column `j` of device `c`'s block. -/
def colOf (c : Dev nD) (j : Fin 256) : Fin 2048 := ⟨c.val * 256 + j.val, by have : c.val < 8 := c.isLt; have := j.isLt; omega⟩

variable {m} {X W : Sq.Idx → EReal}

theorem argX_at (h : Agree m X W) (r k : Fin 2048) : argX m (devOf r) (ix2 (rowOf r) k) = X (ix2 r k) := by
  rw [(h (devOf r)).1, Layout.block_apply]
  refine congrArg X (funext fun a => Fin.ext ?_)
  match a with
  | ⟨0, _⟩ =>
    show r.val / 256 * 256 + r.val % 256 = r.val
    omega
  | ⟨1, _⟩ => rfl

theorem argW_at (h : Agree m X W) (c : Dev nD) (k : Fin 2048) (j : Fin 256) : argW m c (ix2 k j) = W (ix2 k (colOf c j)) := by
  rw [(h c).2, Layout.block_apply]
  refine congrArg W (funext fun a => Fin.ext ?_)
  match a with
  | ⟨0, _⟩ => rfl
  | ⟨1, _⟩ => rfl

/-- So the kernel's product is the reference's. -/
theorem prod_eq (h : Agree m X W) (c : Dev nD) (r : Fin 2048) (j : Fin 256) :
    prodAt (argX m) (argW m c) (devOf r) (rowOf r) j = refDot X W r (colOf c j) :=
  Finset.sum_congr rfl fun k _ => by rw [argX_at h, argW_at h]

/-- A block of columns of a whole result, at an entry. -/
theorem block_at (R : Sq.Idx → EReal) (c : Dev nD) (r : Fin 2048) (j : Fin 256) :
    Layout.block ⟨2, ![2048, 256]⟩ ⟨2, ![2048, 2048]⟩ 1 8 c R (by decide) (ix2 r j) = R (ix2 r (colOf c j)) := by
  rw [Layout.block_apply]
  refine congrArg R (funext fun a => Fin.ext ?_)
  match a with
  | ⟨0, _⟩ => rfl
  | ⟨1, _⟩ => rfl

/-- The kernel's result is its block of the unclipped reference's. -/
theorem out_silu (h : Agree m X W) (c : Dev nD) :
    Out m c = Layout.block ⟨2, ![2048, 256]⟩ ⟨2, ![2048, 2048]⟩ 1 8 c (sOut X W) := by
  funext i
  obtain ⟨r, j, rfl⟩ : ∃ (r : Fin 2048) (j : Fin 256), i = ix2 r j := ⟨i 0, i 1, eq_ix2 i⟩
  exact (Out_apply m c r j).trans ((congrArg silu (prod_eq h c r j)).trans ((sOut_apply X W r (colOf c j)).symm.trans (block_at _ c r j).symm))

/-- Under `bounded_norms` every product lies between the limits. -/
theorem prod_bound (hp : Cert.Pre_bounded_norms_KernelIdeal.Facts)
    (hn : ∀ c : Dev nD, Cert.Pre_bounded_norms_KernelIdeal.fn (F := Ideal) (argX m c) (argW m c) = fun _ => 1#1) (c : Dev nD) (r : Fin 2048) (j : Fin 256) :
    ((-60 : ℝ) : EReal) ≤ prodAt (argX m) (argW m c) (devOf r) (rowOf r) j ∧ prodAt (argX m) (argW m c) (devOf r) (rowOf r) j ≤ ((60 : ℝ) : EReal) :=
  dot_bound _ _ 2816 (5 / 4) 60 (by norm_num) (by norm_num)
    (norms hp (argX m (devOf r)) (argW m (devOf r)) (hn (devOf r)) (rowOf r) j).1 (norms hp (argX m c) (argW m c) (hn c) (rowOf r) j).2

/-- Then the kernel's result is its block of the clipped reference's. -/
theorem out_ref (h : Agree m X W) (hp : Cert.Pre_bounded_norms_KernelIdeal.Facts)
    (hn : ∀ c : Dev nD, Cert.Pre_bounded_norms_KernelIdeal.fn (F := Ideal) (argX m c) (argW m c) = fun _ => 1#1) (c : Dev nD) :
    Out m c = Layout.block ⟨2, ![2048, 256]⟩ ⟨2, ![2048, 2048]⟩ 1 8 c (rOut X W) := by
  funext i
  obtain ⟨r, j, rfl⟩ : ∃ (r : Fin 2048) (j : Fin 256), i = ix2 r j := ⟨i 0, i 1, eq_ix2 i⟩
  have hb := prod_bound hp hn c r j
  rw [prod_eq h] at hb
  exact (Out_apply m c r j).trans ((congrArg silu (prod_eq h c r j)).trans ((rOut_apply X W r (colOf c j) hb).symm.trans (block_at _ c r j).symm))

end Cert.Cube

end
-- ==== Proof.Same.lean ====
/-
The kernel as printed for words and as printed for exact arithmetic are one text: the same definitions, one after another.
-/
module

public import proofs.«01_k».proof.Proof.Gen.Kernel
public import proofs.«01_k».proof.Proof.Gen.KernelIdeal

@[expose] public section

noncomputable section

namespace Cert.Cube

open Idealize.ShloMosaic Idealize.ShloMosaic.TcCoe

variable {F : FTy → Type} [FloatOps F]

theorem body_same : Cert.Kernel.cc0_body (F := F) = Cert.KernelIdeal.cc0_body (F := F) := rfl

theorem rows_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) =>
    show Cert.Kernel.cc0_body (F := F) _ _ _ _ _ _ _ _ _ _ _ _ _ _ _ = _
    rw [body_same]

theorem defs_same : Cert.Kernel.defs (F := F) = Cert.KernelIdeal.defs (F := F) :=
  congrArg (Pipeline.defs (Cert.KernelIdeal.pcfgs (F := F))) rows_same

end Cert.Cube

end
-- ==== Proof.lean ====
/-
The claims, put together: the frames from the kernel's one run (`run_value`) and from the references' generated runs, and
the two value claims from `out_silu` and `out_ref`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Bridge
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.Cube

/-! ## Frames -/

/-- The kernel has the same text read at words and at extended reals: one run gives both frames. -/
theorem frame_words (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_value (F := Bits) m g)
theorem frame_kernel : Cert.quiescent_Kernel := fun m g _ => by
  have h := frame_words m g
  rw [← defs_same] at h
  exact h
theorem frame_kernelIdeal : Cert.quiescent_KernelIdeal := fun m g _ =>
  (θ_run Cert.KernelIdeal.defs _ _).mono (fun _ h => ⟨fun c => (h.1 c).2, h.2⟩) (run_value (F := Ideal) m g)
/-- The references declare no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_silu : Cert.quiescent_SiluIdeal := fun m g _ =>
  (θ_run Cert.SiluIdeal.defs _ _).mono (fun r h => ⟨fun c => (h c).2, sem_eq_zero_of_no_sems (by decide) r.2⟩)
    (Cert.SiluIdeal.Value.run (F := Ideal) m g)

/-! ## Values -/

/-- The kernel computes the unclipped gate of the product, whatever it is launched on. -/
theorem value_silu : Cert.algebraic_KernelIdeal_SiluIdeal := fun m g m' g' _ hag =>
  ⟨sOut (m' (((0 : Dev Cert.SiluIdeal.nD).tc : Thread Cert.SiluIdeal.nD Cert.SiluIdeal.τ).loc Cert.SiluIdeal.main_arg0))
      (m' (((0 : Dev Cert.SiluIdeal.nD).tc : Thread Cert.SiluIdeal.nD Cert.SiluIdeal.τ).loc Cert.SiluIdeal.main_arg1)),
    (θ_run Cert.KernelIdeal.defs _ _).mono (fun _ h c => ⟨(h.1 c).1.trans (out_silu (m := m) hag c), (h.1 c).2⟩) (run_value (F := Ideal) m g),
    (θ_run Cert.SiluIdeal.defs _ _).mono (fun _ h => h 0) (Cert.SiluIdeal.Value.run (F := Ideal) m' g')⟩

/-- Where the norms are bounded it computes the reference's clipped one. -/
theorem value_ref : Cert.algebraic_KernelIdeal_ReferenceIdeal_pre_bounded_norms_KernelIdeal (hPre_bounded_norms_KernelIdeal := preFacts) := fun m g m' g' hn hag =>
  ⟨rOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (out_ref (m := m) hag preFacts hn c), (h.1 c).2⟩) (run_value (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.SiluIdeal.Gen.facts, preFacts, preFactsRef,
    frame_kernel, frame_kernelIdeal, fun m g _ => frame_kernelIdeal m g trivial, frame_ref, fun m g _ => frame_ref m g trivial, frame_silu,
    trivial, value_silu, value_ref⟩

end Cert.Proof

end
